-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S8x2x4096 Cert.KernelIdeal.S8x1x4096
  ∧ IdealRules.bf16_pair.PackStatement Cert.KernelIdeal.S8x4096
  ∧ IdealRules.bf16_pair.Statement Cert.KernelIdeal.S8x2x4096 Cert.KernelIdeal.S8x1x4096
  ∧ IdealRules.named_const.Statement Cert.KernelIdeal.κ "mask" .f32 0xF149F2CA#32 ⊥
  ∧ IdealRules.bf16_pair.Statement Cert.KernelIdeal.S1x2x256 Cert.KernelIdeal.S1x1x256
  ∧ IdealRules.bf16_pair.Statement Cert.KernelIdeal.S2x256 Cert.KernelIdeal.S1x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x2048 : Shape := ⟨3, ![8, 1, 2048]⟩
abbrev S8x1x8x64 : Shape := ⟨4, ![8, 1, 8, 64]⟩
abbrev S8x32768x8x64 : Shape := ⟨4, ![8, 32768, 8, 64]⟩
abbrev S8x32768x8 : Shape := ⟨3, ![8, 32768, 8]⟩
abbrev S8x2x4x4x1x64 : Shape := ⟨6, ![8, 2, 4, 4, 1, 64]⟩
abbrev S4x4 : Shape := ⟨2, ![4, 4]⟩
abbrev S_ : Shape := ⟨0, ![]⟩
abbrev S1x1x4x1x4x1 : Shape := ⟨6, ![1, 1, 4, 1, 4, 1]⟩
abbrev S8x2x4x4x4x64 : Shape := ⟨6, ![8, 2, 4, 4, 4, 64]⟩
abbrev S8x2x16x256 : Shape := ⟨4, ![8, 2, 16, 256]⟩
abbrev S8x8x64x32768 : Shape := ⟨4, ![8, 8, 64, 32768]⟩
abbrev S8x512x32768 : Shape := ⟨3, ![8, 512, 32768]⟩
abbrev S8x8x32768 : Shape := ⟨3, ![8, 8, 32768]⟩
abbrev S8x512 : Shape := ⟨2, ![8, 512]⟩
abbrev S8x32x64 : Shape := ⟨3, ![8, 32, 64]⟩
abbrev S8x8 : Shape := ⟨2, ![8, 8]⟩
abbrev S1x2x16x256 : Shape := ⟨4, ![1, 2, 16, 256]⟩
abbrev S1x512x4096 : Shape := ⟨3, ![1, 512, 4096]⟩
abbrev S1x8x4096 : Shape := ⟨3, ![1, 8, 4096]⟩
abbrev S1x32x64 : Shape := ⟨3, ![1, 32, 64]⟩
abbrev S8x4096 : Shape := ⟨2, ![8, 4096]⟩
abbrev S32x4096 : Shape := ⟨2, ![32, 4096]⟩
abbrev S512x32 : Shape := ⟨2, ![512, 32]⟩
abbrev S32x128 : Shape := ⟨2, ![32, 128]⟩
abbrev S8x32 : Shape := ⟨2, ![8, 32]⟩
abbrev S8 : Shape := ⟨1, ![8]⟩
abbrev S8x1 : Shape := ⟨2, ![8, 1]⟩
abbrev S1x512 : Shape := ⟨2, ![1, 512]⟩
abbrev S1x1x16x256 : Shape := ⟨4, ![1, 1, 16, 256]⟩
abbrev S16x256 : Shape := ⟨2, ![16, 256]⟩
abbrev S1x256 : Shape := ⟨2, ![1, 256]⟩
abbrev S16 : Shape := ⟨1, ![16]⟩
abbrev S16x1 : Shape := ⟨2, ![16, 1]⟩
abbrev S16x128 : Shape := ⟨2, ![16, 128]⟩
abbrev S2x256 : Shape := ⟨2, ![2, 256]⟩
abbrev S1x64x256 : Shape := ⟨3, ![1, 64, 256]⟩
abbrev S64x256 : Shape := ⟨2, ![64, 256]⟩
abbrev S4x16x256 : Shape := ⟨3, ![4, 16, 256]⟩
abbrev S1x16x256 : Shape := ⟨3, ![1, 16, 256]⟩
abbrev S256x256 : Shape := ⟨2, ![256, 256]⟩
abbrev S512x256 : Shape := ⟨2, ![512, 256]⟩
abbrev S32x256 : Shape := ⟨2, ![32, 256]⟩
abbrev S32 : Shape := ⟨1, ![32]⟩
abbrev S32x1 : Shape := ⟨2, ![32, 1]⟩
abbrev S1x32 : Shape := ⟨2, ![1, 32]⟩
abbrev S32x512 : Shape := ⟨2, ![32, 512]⟩
abbrev S32x64 : Shape := ⟨2, ![32, 64]⟩
abbrev S128x32 : Shape := ⟨2, ![128, 32]⟩

abbrev nBuf : Space → Nat
  | .hbm => 33
  | .vmem => 31
  | .smem => 0
  | _ => 0

abbrev bufTy : (tb : Table) → Fin (tcTables nBuf tb) → BufTy
  | .hbm, ⟨0, _⟩ => ⟨S8x1x2048, .bf16⟩
  | .hbm, ⟨1, _⟩ => ⟨S8x1x8x64, .bf16⟩
  | .hbm, ⟨2, _⟩ => ⟨S8x1x8x64, .bf16⟩
  | .hbm, ⟨3, _⟩ => ⟨S8x32768x8x64, .i8⟩
  | .hbm, ⟨4, _⟩ => ⟨S8x32768x8, .f32⟩
  | .hbm, ⟨5, _⟩ => ⟨S8x32768x8x64, .i8⟩
  | .hbm, ⟨6, _⟩ => ⟨S8x32768x8, .f32⟩
  | .hbm, ⟨7, _⟩ => ⟨S8x2x4x4x1x64, .bf16⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .bf16⟩
  | .hbm, ⟨15, _⟩ => ⟨S1x1x4x1x4x1, .bf16⟩
  | .hbm, ⟨16, _⟩ => ⟨S8x2x4x4x4x64, .bf16⟩
  | .hbm, ⟨17, _⟩ => ⟨S8x2x4x4x4x64, .bf16⟩
  | .hbm, ⟨18, _⟩ => ⟨S8x2x4x4x4x64, .bf16⟩
  | .hbm, ⟨19, _⟩ => ⟨S8x2x16x256, .bf16⟩
  | .hbm, ⟨20, _⟩ => ⟨S8x8x64x32768, .i8⟩
  | .hbm, ⟨21, _⟩ => ⟨S8x512x32768, .i8⟩
  | .hbm, ⟨22, _⟩ => ⟨S8x8x64x32768, .i8⟩
  | .hbm, ⟨23, _⟩ => ⟨S8x512x32768, .i8⟩
  | .hbm, ⟨24, _⟩ => ⟨S8x8x32768, .f32⟩
  | .hbm, ⟨25, _⟩ => ⟨S8x8x32768, .f32⟩
  | .hbm, ⟨26, _⟩ => ⟨S8x512, .bf16⟩
  | .hbm, ⟨27, _⟩ => ⟨S8x512, .bf16⟩
  | .hbm, ⟨28, _⟩ => ⟨S8x32x64, .bf16⟩
  | .hbm, ⟨29, _⟩ => ⟨S8x512, .i8⟩
  | .hbm, ⟨30, _⟩ => ⟨S8x8, .f32⟩
  | .hbm, ⟨31, _⟩ => ⟨S8x512, .i8⟩
  | .hbm, ⟨32, _⟩ => ⟨S8x8, .f32⟩
  | .local _ .vmem, ⟨0, _⟩ => ⟨S1x2x16x256, .bf16⟩
  | .local _ .vmem, ⟨1, _⟩ => ⟨S1x2x16x256, .bf16⟩
  | .local _ .vmem, ⟨2, _⟩ => ⟨S8x512, .bf16⟩
  | .local _ .vmem, ⟨3, _⟩ => ⟨S8x512, .bf16⟩
  | .local _ .vmem, ⟨4, _⟩ => ⟨S1x512x4096, .i8⟩
  | .local _ .vmem, ⟨5, _⟩ => ⟨S1x512x4096, .i8⟩
  | .local _ .vmem, ⟨6, _⟩ => ⟨S1x8x4096, .f32⟩
  | .local _ .vmem, ⟨7, _⟩ => ⟨S1x8x4096, .f32⟩
  | .local _ .vmem, ⟨8, _⟩ => ⟨S1x512x4096, .i8⟩
  | .local _ .vmem, ⟨9, _⟩ => ⟨S1x512x4096, .i8⟩
  | .local _ .vmem, ⟨10, _⟩ => ⟨S1x8x4096, .f32⟩
  | .local _ .vmem, ⟨11, _⟩ => ⟨S1x8x4096, .f32⟩
  | .local _ .vmem, ⟨12, _⟩ => ⟨S1x32x64, .bf16⟩
  | .local _ .vmem, ⟨13, _⟩ => ⟨S1x32x64, .bf16⟩
  | .local _ .vmem, ⟨14, _⟩ => ⟨S8x512, .i8⟩
  | .local _ .vmem, ⟨15, _⟩ => ⟨S8x8, .f32⟩
  | .local _ .vmem, ⟨16, _⟩ => ⟨S8x512, .i8⟩
  | .local _ .vmem, ⟨17, _⟩ => ⟨S8x8, .f32⟩
  | .local _ .vmem, ⟨18, _⟩ => ⟨S8x4096, .i32⟩
  | .local _ .vmem, ⟨19, _⟩ => ⟨S8x4096, .i32⟩
  | .local _ .vmem, ⟨20, _⟩ => ⟨S32x4096, .f32⟩
  | .local _ .vmem, ⟨21, _⟩ => ⟨S32x4096, .bf16⟩
  | .local _ .vmem, ⟨22, _⟩ => ⟨S512x32, .f32⟩
  | .local _ .vmem, ⟨23, _⟩ => ⟨S32x128, .f32⟩
  | .local _ .vmem, ⟨24, _⟩ => ⟨S32x128, .f32⟩
  | .local _ .vmem, ⟨25, _⟩ => ⟨S8x32, .f32⟩
  | .local _ .vmem, ⟨26, _⟩ => ⟨S32x128, .f32⟩
  | .local _ .vmem, ⟨27, _⟩ => ⟨S32x128, .f32⟩
  | .local _ .vmem, ⟨28, _⟩ => ⟨S32x128, .f32⟩
  | .local _ .vmem, ⟨29, _⟩ => ⟨S8x512, .f32⟩
  | .local _ .vmem, ⟨30, _⟩ => ⟨S8x512, .f32⟩
  | _, _ => ⟨S8x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev main_v20_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [BitOps F]

abbrev grid0 : Pipeline.Grid := ⟨1, ![65], ![false]⟩

def k0_cond2 (i : grid0.Coords) : BitVec 1 :=
  let arg0 : BitVec 32 := BitVec.ofNat 32 (i 0).val
  let c8_i32 : BitVec 32 := 8#32
  let v0 : BitVec 32 := Scalar.remsi arg0 c8_i32
  let c0_i32 : BitVec 32 := 0#32
  let v1 : BitVec 1 := Scalar.cmpi .eq v0 c0_i32
  let v8 : BitVec 32 := Scalar.extui v1
  let c0_i32_3 : BitVec 32 := 0#32
  let v9 : BitVec 1 := Scalar.cmpi .ne v8 c0_i32_3
  v9

def k0_off1 (i : grid0.Coords) : Fin 2 → Nat :=
  let arg0 : BitVec 32 := BitVec.ofNat 32 (i 0).val
  let c0_i32_1663 : BitVec 32 := 0#32
  let v4094 : BitVec 1 := Scalar.cmpi .sgt arg0 c0_i32_1663
  let v4095 : BitVec 32 := Scalar.extui v4094
  let c0_i32_1664 : BitVec 32 := 0#32
  let v4096 : BitVec 1 := Scalar.cmpi .slt arg0 c0_i32_1664
  let v4097 : BitVec 32 := Scalar.extui v4096
  let v4098 : BitVec 32 := Scalar.subi v4095 v4097
  let c8_i32_1662 : BitVec 32 := 8#32
  let c0_i32_1665 : BitVec 32 := 0#32
  let v4099 : BitVec 1 := Scalar.cmpi .sgt c8_i32_1662 c0_i32_1665
  let v4100 : BitVec 32 := Scalar.extui v4099
  let c0_i32_1666 : BitVec 32 := 0#32
  let v4101 : BitVec 1 := Scalar.cmpi .slt c8_i32_1662 c0_i32_1666
  let v4102 : BitVec 32 := Scalar.extui v4101
  let v4103 : BitVec 32 := Scalar.subi v4100 v4102
  let v4104 : BitVec 1 := Scalar.cmpi .ne v4098 v4103
  let v4105 : BitVec 32 := Scalar.remsi arg0 c8_i32_1662
  let c0_i32_1667 : BitVec 32 := 0#32
  let v4106 : BitVec 1 := Scalar.cmpi .ne v4105 c0_i32_1667
  let v4107 : BitVec 1 := Scalar.andi v4104 v4106
  let v4093 : BitVec 32 := Scalar.divsi arg0 c8_i32_1662
  let c1_i32 : BitVec 32 := 1#32
  let v4108 : BitVec 32 := Scalar.subi v4093 c1_i32
  let v4109 : BitVec 32 := Scalar.select v4107 v4108 v4093
  let c7_i32_1668 : BitVec 32 := 7#32
  let v4110 : BitVec 32 := Scalar.minsi v4109 c7_i32_1668
  let v4111 : Index := Scalar.indexCast v4110
  let c0_1669 : Index := 0#32
  ![v4111.toNat, 0]
def k0_cond3 (i : grid0.Coords) : BitVec 1 :=
  let arg0 : BitVec 32 := BitVec.ofNat 32 (i 0).val
  let c8_i32 : BitVec 32 := 8#32
  let v0 : BitVec 32 := Scalar.remsi arg0 c8_i32
  let c0_i32 : BitVec 32 := 0#32
  let v1 : BitVec 1 := Scalar.cmpi .eq v0 c0_i32
  let c0_i32_0 : BitVec 32 := 0#32
  let v3 : BitVec 1 := Scalar.cmpi .sgt arg0 c0_i32_0
  let v4 : BitVec 1 := Scalar.andi v1 v3
  let v4068 : BitVec 32 := Scalar.extui v4
  let c0_i32_1650 : BitVec 32 := 0#32
  let v4069 : BitVec 1 := Scalar.cmpi .ne v4068 c0_i32_1650
  v4069

def k0_off2 (i : grid0.Coords) : Fin 2 → Nat :=
  let arg0 : BitVec 32 := BitVec.ofNat 32 (i 0).val
  let c0_i32_1663 : BitVec 32 := 0#32
  let v4094 : BitVec 1 := Scalar.cmpi .sgt arg0 c0_i32_1663
  let v4095 : BitVec 32 := Scalar.extui v4094
  let c0_i32_1664 : BitVec 32 := 0#32
  let v4096 : BitVec 1 := Scalar.cmpi .slt arg0 c0_i32_1664
  let v4097 : BitVec 32 := Scalar.extui v4096
  let v4098 : BitVec 32 := Scalar.subi v4095 v4097
  let c8_i32_1662 : BitVec 32 := 8#32
  let c0_i32_1665 : BitVec 32 := 0#32
  let v4099 : BitVec 1 := Scalar.cmpi .sgt c8_i32_1662 c0_i32_1665
  let v4100 : BitVec 32 := Scalar.extui v4099
  let c0_i32_1666 : BitVec 32 := 0#32
  let v4101 : BitVec 1 := Scalar.cmpi .slt c8_i32_1662 c0_i32_1666
  let v4102 : BitVec 32 := Scalar.extui v4101
  let v4103 : BitVec 32 := Scalar.subi v4100 v4102
  let v4104 : BitVec 1 := Scalar.cmpi .ne v4098 v4103
  let v4105 : BitVec 32 := Scalar.remsi arg0 c8_i32_1662
  let c0_i32_1667 : BitVec 32 := 0#32
  let v4106 : BitVec 1 := Scalar.cmpi .ne v4105 c0_i32_1667
  let v4107 : BitVec 1 := Scalar.andi v4104 v4106
  let v4093 : BitVec 32 := Scalar.divsi arg0 c8_i32_1662
  let c1_i32 : BitVec 32 := 1#32
  let v4108 : BitVec 32 := Scalar.subi v4093 c1_i32
  let v4109 : BitVec 32 := Scalar.select v4107 v4108 v4093
  let c1_i32_1668 : BitVec 32 := 1#32
  let v4110 : BitVec 32 := Scalar.subi v4109 c1_i32_1668
  let v4113 : Index := Scalar.indexCast v4110
  let c0_1671 : Index := 0#32
  ![v4113.toNat, 0]
def k0_cond1 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def cc0_transform_0 (i : grid0.Coords) : Fin 4 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.remsi v0 c8_i32_4
  let c0_i32_5 : BitVec 32 := 0#32
  let c0_i32_6 : BitVec 32 := 0#32
  let c0_i32_7 : BitVec 32 := 0#32
  let c0_i32_8 : BitVec 32 := 0#32
  ![v17.toNat, c0_i32_5.toNat, c0_i32_6.toNat, c0_i32_7.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.remsi v0 c8_i32_4
  let c0_i32_5 : BitVec 32 := 0#32
  let c0_i32_6 : BitVec 32 := 0#32
  ![v17.toNat, c0_i32_5.toNat, v18.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.remsi v0 c8_i32_4
  let c0_i32_5 : BitVec 32 := 0#32
  let c0_i32_6 : BitVec 32 := 0#32
  ![v17.toNat, c0_i32_5.toNat, v18.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 32 := Scalar.remsi v1 c8_i32_6
  let c0_i32_7 : BitVec 32 := 0#32
  let c0_i32_8 : BitVec 32 := 0#32
  ![v18.toNat, c0_i32_7.toNat, v19.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 32 := Scalar.remsi v1 c8_i32_6
  let c0_i32_7 : BitVec 32 := 0#32
  let c0_i32_8 : BitVec 32 := 0#32
  ![v18.toNat, c0_i32_7.toNat, v19.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c8_i32_6 : BitVec 32 := 8#32
  let v19 : BitVec 32 := Scalar.remsi v1 c8_i32_6
  let c0_i32_7 : BitVec 32 := 0#32
  let c0_i32_8 : BitVec 32 := 0#32
  let c0_i32_9 : BitVec 32 := 0#32
  ![v18.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x4096 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x512 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
abbrev S8x2x4096 : Shape := ⟨3, ![8, 2, 4096]⟩
abbrev S8x1x4096 : Shape := ⟨3, ![8, 1, 4096]⟩
abbrev S1x2x256 : Shape := ⟨3, ![1, 2, 256]⟩
abbrev S1x1x256 : Shape := ⟨3, ![1, 1, 256]⟩
  | .local _ .vmem, ⟨18, _⟩ => ⟨S8x2x4096, .bf16⟩
  | .local _ .vmem, ⟨19, _⟩ => ⟨S8x2x4096, .bf16⟩
variable {F : FTy → Type} [FloatOps F] [Named F]
def κ : String → Option EReal := fun
  | "mask" => some ⊥
  | _ => none
-- ==== ReferenceIdeal.lean ====
abbrev S8x1x2048 : Shape := ⟨3, ![8, 1, 2048]⟩
abbrev S8x1x8x64 : Shape := ⟨4, ![8, 1, 8, 64]⟩
abbrev S8x32768x8x64 : Shape := ⟨4, ![8, 32768, 8, 64]⟩
abbrev S8x32768x8 : Shape := ⟨3, ![8, 32768, 8]⟩
abbrev S8x8x4x64 : Shape := ⟨4, ![8, 8, 4, 64]⟩
abbrev S8x8x64 : Shape := ⟨3, ![8, 8, 64]⟩
abbrev S8x32x64 : Shape := ⟨3, ![8, 32, 64]⟩
abbrev S8x512 : Shape := ⟨2, ![8, 512]⟩
abbrev S8x8 : Shape := ⟨2, ![8, 8]⟩
abbrev S8x8x1 : Shape := ⟨3, ![8, 8, 1]⟩
abbrev S8x32768x8x1 : Shape := ⟨4, ![8, 32768, 8, 1]⟩
abbrev S8x1x8x4x64 : Shape := ⟨5, ![8, 1, 8, 4, 64]⟩
abbrev S8x32768x8x1x64 : Shape := ⟨5, ![8, 32768, 8, 1, 64]⟩
abbrev S8x32768x8x4x64 : Shape := ⟨5, ![8, 32768, 8, 4, 64]⟩
abbrev S8x32768x8x4 : Shape := ⟨4, ![8, 32768, 8, 4]⟩
abbrev S8x8x1x64 : Shape := ⟨4, ![8, 8, 1, 64]⟩
abbrev S8x8x4 : Shape := ⟨3, ![8, 8, 4]⟩
abbrev S8x1x8x4 : Shape := ⟨4, ![8, 1, 8, 4]⟩
abbrev S8x32768x8x4x1 : Shape := ⟨5, ![8, 32768, 8, 4, 1]⟩
abbrev S8x8x4x1 : Shape := ⟨4, ![8, 8, 4, 1]⟩

abbrev nBuf : Space → Nat
  | .hbm => 15
  | .vmem => 12
  | .smem => 0
  | _ => 0

abbrev bufTy : (tb : Table) → Fin (tcTables nBuf tb) → BufTy
  | .hbm, ⟨0, _⟩ => ⟨S8x1x2048, .bf16⟩
  | .hbm, ⟨1, _⟩ => ⟨S8x1x8x64, .bf16⟩
  | .hbm, ⟨2, _⟩ => ⟨S8x1x8x64, .bf16⟩
  | .hbm, ⟨3, _⟩ => ⟨S8x32768x8x64, .i8⟩
  | .hbm, ⟨4, _⟩ => ⟨S8x32768x8, .f32⟩
  | .hbm, ⟨5, _⟩ => ⟨S8x32768x8x64, .i8⟩
  | .hbm, ⟨6, _⟩ => ⟨S8x32768x8, .f32⟩
  | .hbm, ⟨7, _⟩ => ⟨S8x8x4x64, .bf16⟩
  | .hbm, ⟨8, _⟩ => ⟨S8x8x64, .bf16⟩
  | .hbm, ⟨9, _⟩ => ⟨S8x8x64, .bf16⟩
  | .hbm, ⟨10, _⟩ => ⟨S8x32x64, .bf16⟩
  | .hbm, ⟨11, _⟩ => ⟨S8x512, .i8⟩
  | .hbm, ⟨12, _⟩ => ⟨S8x8, .f32⟩
  | .hbm, ⟨13, _⟩ => ⟨S8x512, .i8⟩
  | .hbm, ⟨14, _⟩ => ⟨S8x8, .f32⟩
  | .local _ .vmem, ⟨0, _⟩ => ⟨S8x8x4x64, .bf16⟩
  | .local _ .vmem, ⟨1, _⟩ => ⟨S8x8x64, .bf16⟩
  | .local _ .vmem, ⟨2, _⟩ => ⟨S8x8x64, .bf16⟩
  | .local _ .vmem, ⟨3, _⟩ => ⟨S8x32768x8x64, .i8⟩
  | .local _ .vmem, ⟨4, _⟩ => ⟨S8x32768x8, .f32⟩
  | .local _ .vmem, ⟨5, _⟩ => ⟨S8x32768x8x64, .i8⟩
  | .local _ .vmem, ⟨6, _⟩ => ⟨S8x32768x8, .f32⟩
  | .local _ .vmem, ⟨7, _⟩ => ⟨S8x32x64, .bf16⟩
  | .local _ .vmem, ⟨8, _⟩ => ⟨S8x512, .i8⟩
  | .local _ .vmem, ⟨9, _⟩ => ⟨S8x8, .f32⟩
  | .local _ .vmem, ⟨10, _⟩ => ⟨S8x512, .i8⟩
  | .local _ .vmem, ⟨11, _⟩ => ⟨S8x8, .f32⟩
  | _, _ => ⟨S8x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x8x4x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32768x8x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x32768x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32768x8x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x32768x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x512 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x512 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KernelRun.lean ====
/-
  The kernel's body, run once by symbolic execution at each of its three kinds of grid point: the first point of all,
  the first point of a later batch, and a point inside a batch. For the frame nothing is said of what the buffers hold
  afterwards.
-/
module

public import proofs.«01_k».proof.Proof.Gen.Kernel
public import proofs.«01_k».proof.Proof.Gen.Kernel.Skeleton
public import proofs.«01_k».proof.Proof.Gen.Kernel.Frame
public import Idealize.ShloMosaic.Lib.Tactic

@[expose] public section

noncomputable section

namespace Cert.Proof.KernelRun

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The grid's point number `n`. -/
def point (n : Fin 65) : grid0.Coords := fun | ⟨0, _⟩ => n

theorem eq_point (i : grid0.Coords) : i = point (i 0) := funext fun | ⟨0, _⟩ => rfl

/-- The row of the dequantised new token's key the new scores read: the batch of the point, at most the last. -/
theorem off1_eq (i : grid0.Coords) : k0_off1 i = ![min ((i 0).val / 8) 7, 0] := by
  have h : ∀ n : Fin 65, k0_off1 (point n) = ![min (n.val / 8) 7, 0] := by decide
  rw [eq_point i]; exact h (i 0)

instance (i : grid0.Coords) : ClosedOff (k0_off1 i) := ⟨![min ((i 0).val / 8) 7, 0], off1_eq i⟩

theorem cond1_iff (i : grid0.Coords) : k0_cond1 i = 1#1 ↔ (i 0).val = 0 := by
  have h : ∀ n : Fin 65, k0_cond1 (point n) = 1#1 ↔ n.val = 0 := by decide
  rw [eq_point i]; exact h (i 0)

theorem cond2_iff (i : grid0.Coords) : k0_cond2 i = 1#1 ↔ (i 0).val % 8 = 0 := by
  have h : ∀ n : Fin 65, k0_cond2 (point n) = 1#1 ↔ n.val % 8 = 0 := by decide
  rw [eq_point i]; exact h (i 0)

theorem cond3_iff (i : grid0.Coords) : k0_cond3 i = 1#1 ↔ (i 0).val % 8 = 0 ∧ 0 < (i 0).val := by
  have h : ∀ n : Fin 65, k0_cond3 (point n) = 1#1 ↔ n.val % 8 = 0 ∧ 0 < n.val := by decide
  rw [eq_point i]; exact h (i 0)

/-- The first point: the initialisation and the new token's scores. -/
theorem run_first (c : Dev nD) (i : grid0.Coords) (hc1 : k0_cond1 i = 1#1) (hc2 : k0_cond2 i = 1#1) (hc3 : ¬ k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x4096 .i32) (h13 : a13.IsWhole) (a14 : Memref sig .tc .vmem S8x4096 .i32) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (f19 : Bf (F := F) c a19) (f20 : Bf (F := F) c a20) (f21 : Bf (F := F) c a21) (f22 : Bf (F := F) c a22) (f23 : Bf (F := F) c a23) (f24 : Bf (F := F) c a24) (f25 : Bf (F := F) c a25) (E : Set ℕ) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
        ∗ (iprop(pt c a1 f1 ∗ pt c a2 f2 ∗ pt c a3 f3 ∗ pt c a4 f4 ∗ pt c a5 f5 ∗ pt c a6 f6 ∗ pt c a7 f7 ∗ (∃ f, pt c a8 f) ∗ (∃ f, pt c a9 f) ∗ (∃ f, pt c a10 f) ∗ (∃ f, pt c a11 f) ∗ (∃ f, pt c a12 f) ∗ (∃ f, pt c a13 f) ∗ (∃ f, pt c a14 f) ∗ (∃ f, pt c a15 f) ∗ (∃ f, pt c a16 f) ∗ (∃ f, pt c a17 f) ∗ (∃ f, pt c a18 f) ∗ (∃ f, pt c a19 f) ∗ (∃ f, pt c a20 f) ∗ (∃ f, pt c a21 f) ∗ (∃ f, pt c a22 f) ∗ (∃ f, pt c a23 f) ∗ (∃ f, pt c a24 f) ∗ (∃ f, pt c a25 f)) -∗ Q ⟨⟩))
      ⊢ wp frame (wpE (defs₀ (F := F)) Variants.none c none) E
          (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q := by
  iintro ⟨H1, H2, H3, H4, H5, H6, H7, H8, H9, H10, H11, H12, H13, H14, H15, H16, H17, H18, H19, H20, H21, H22, H23, H24, H25, Hk⟩
  sl_exec_parts (disch := sl_exact hc1)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iexists _; iexact H25

/-- The first point of a later batch. -/
theorem run_start (c : Dev nD) (i : grid0.Coords) (hc1 : ¬ k0_cond1 i = 1#1) (hc2 : k0_cond2 i = 1#1) (hc3 : k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x4096 .i32) (h13 : a13.IsWhole) (a14 : Memref sig .tc .vmem S8x4096 .i32) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (f19 : Bf (F := F) c a19) (f20 : Bf (F := F) c a20) (f21 : Bf (F := F) c a21) (f22 : Bf (F := F) c a22) (f23 : Bf (F := F) c a23) (f24 : Bf (F := F) c a24) (f25 : Bf (F := F) c a25) (E : Set ℕ) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
        ∗ (iprop(pt c a1 f1 ∗ pt c a2 f2 ∗ pt c a3 f3 ∗ pt c a4 f4 ∗ pt c a5 f5 ∗ pt c a6 f6 ∗ pt c a7 f7 ∗ (∃ f, pt c a8 f) ∗ (∃ f, pt c a9 f) ∗ (∃ f, pt c a10 f) ∗ (∃ f, pt c a11 f) ∗ (∃ f, pt c a12 f) ∗ (∃ f, pt c a13 f) ∗ (∃ f, pt c a14 f) ∗ (∃ f, pt c a15 f) ∗ (∃ f, pt c a16 f) ∗ (∃ f, pt c a17 f) ∗ (∃ f, pt c a18 f) ∗ (∃ f, pt c a19 f) ∗ (∃ f, pt c a20 f) ∗ (∃ f, pt c a21 f) ∗ (∃ f, pt c a22 f) ∗ (∃ f, pt c a23 f) ∗ (∃ f, pt c a24 f) ∗ (∃ f, pt c a25 f)) -∗ Q ⟨⟩))
      ⊢ wp frame (wpE (defs₀ (F := F)) Variants.none c none) E
          (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q := by
  iintro ⟨H1, H2, H3, H4, H5, H6, H7, H8, H9, H10, H11, H12, H13, H14, H15, H16, H17, H18, H19, H20, H21, H22, H23, H24, H25, Hk⟩
  sl_exec_parts (disch := sl_exact hc1)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iexists _; iexact H25

/-- A point inside a batch: only the straight line runs. -/
theorem run_mid (c : Dev nD) (i : grid0.Coords) (hc1 : ¬ k0_cond1 i = 1#1) (hc2 : ¬ k0_cond2 i = 1#1) (hc3 : ¬ k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x4096 .i32) (h13 : a13.IsWhole) (a14 : Memref sig .tc .vmem S8x4096 .i32) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (f19 : Bf (F := F) c a19) (f20 : Bf (F := F) c a20) (f21 : Bf (F := F) c a21) (f22 : Bf (F := F) c a22) (f23 : Bf (F := F) c a23) (f24 : Bf (F := F) c a24) (f25 : Bf (F := F) c a25) (E : Set ℕ) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
        ∗ (iprop(pt c a1 f1 ∗ pt c a2 f2 ∗ pt c a3 f3 ∗ pt c a4 f4 ∗ pt c a5 f5 ∗ pt c a6 f6 ∗ pt c a7 f7 ∗ (∃ f, pt c a8 f) ∗ (∃ f, pt c a9 f) ∗ (∃ f, pt c a10 f) ∗ (∃ f, pt c a11 f) ∗ (∃ f, pt c a12 f) ∗ (∃ f, pt c a13 f) ∗ (∃ f, pt c a14 f) ∗ (∃ f, pt c a15 f) ∗ (∃ f, pt c a16 f) ∗ (∃ f, pt c a17 f) ∗ (∃ f, pt c a18 f) ∗ (∃ f, pt c a19 f) ∗ (∃ f, pt c a20 f) ∗ (∃ f, pt c a21 f) ∗ (∃ f, pt c a22 f) ∗ (∃ f, pt c a23 f) ∗ (∃ f, pt c a24 f) ∗ (∃ f, pt c a25 f)) -∗ Q ⟨⟩))
      ⊢ wp frame (wpE (defs₀ (F := F)) Variants.none c none) E
          (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q := by
  iintro ⟨H1, H2, H3, H4, H5, H6, H7, H8, H9, H10, H11, H12, H13, H14, H15, H16, H17, H18, H19, H20, H21, H22, H23, H24, H25, Hk⟩
  sl_exec_parts (disch := sl_exact hc1)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iexists _; iexact H25

/-- At any point: the twenty-five buffers held whole, the inputs come back as they were and the rest at something. -/
theorem run_any (c : Dev nD) (i : grid0.Coords)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x4096 .i32) (h13 : a13.IsWhole) (a14 : Memref sig .tc .vmem S8x4096 .i32) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f18 : Bf (F := F) c a18) (f19 : Bf (F := F) c a19) (f20 : Bf (F := F) c a20) (f21 : Bf (F := F) c a21) (f22 : Bf (F := F) c a22) (f23 : Bf (F := F) c a23) (f24 : Bf (F := F) c a24) (f25 : Bf (F := F) c a25) (E : Set ℕ) (Q : PUnit → sProp 𝕄) :
    iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
        ∗ (iprop(pt c a1 f1 ∗ pt c a2 f2 ∗ pt c a3 f3 ∗ pt c a4 f4 ∗ pt c a5 f5 ∗ pt c a6 f6 ∗ pt c a7 f7 ∗ (∃ f, pt c a8 f) ∗ (∃ f, pt c a9 f) ∗ (∃ f, pt c a10 f) ∗ (∃ f, pt c a11 f) ∗ (∃ f, pt c a12 f) ∗ (∃ f, pt c a13 f) ∗ (∃ f, pt c a14 f) ∗ (∃ f, pt c a15 f) ∗ (∃ f, pt c a16 f) ∗ (∃ f, pt c a17 f) ∗ (∃ f, pt c a18 f) ∗ (∃ f, pt c a19 f) ∗ (∃ f, pt c a20 f) ∗ (∃ f, pt c a21 f) ∗ (∃ f, pt c a22 f) ∗ (∃ f, pt c a23 f) ∗ (∃ f, pt c a24 f) ∗ (∃ f, pt c a25 f)) -∗ Q ⟨⟩))
      ⊢ wp frame (wpE (defs₀ (F := F)) Variants.none c none) E
          (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q := by
  have e1 := cond1_iff i; have e2 := cond2_iff i; have e3 := cond3_iff i
  by_cases hc1 : k0_cond1 i = 1#1
  · exact run_first c i hc1 (e2.mpr (by have := e1.mp hc1; omega)) (fun h => by have := e1.mp hc1; have := e3.mp h; omega)
      a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 E Q
  · by_cases hc2 : k0_cond2 i = 1#1
    · exact run_start c i hc1 hc2 (e3.mpr ⟨e2.mp hc2, Nat.pos_of_ne_zero fun h => hc1 (e1.mpr h)⟩)
        a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 E Q
    · exact run_mid c i hc1 hc2 (fun h => hc2 (e2.mpr (e3.mp h).1))
        a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 E Q

end Cert.Proof.KernelRun

end
-- ==== Proof.KernelFrame.lean ====
/-
  The frame of the kernel: it terminates, nothing faults, its seven arguments end as they began and every semaphore
  counter ends at zero. The proof data say nothing of what the body leaves in any buffer.
-/
module

public import proofs.«01_k».proof.Proof.KernelRun
public import proofs.«01_k».proof.Proof.Gen.Kernel.Launch
public import proofs.«01_k».proof.Proof.Gen.Kernel.Points
public import Idealize.ShloMosaic.Lib.Claim

@[expose] public section

noncomputable section

namespace Cert.Proof.KernelFrame

open Cert.Kernel Cert.Kernel.Gen
open Cert.Proof.KernelRun (pt Bf run_any)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The proof data: the arrays as the region finds them, nothing said of what the body leaves. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem A_eq (c : Dev nD) (w : Fin cfg0.W) : (rdats m c).A w = V m c (Pipeline.arrRef spec0 w) := by
  dsimp only [rdats]

/-- A whole memref is owned at `x` exactly when its buffer is held at the contents that read `x`. -/
theorem owns_eq (c : Dev nD) {sp : Space} {S : Shape} {e : EltTy} (M : Memref sig .tc sp S e) (h : M.IsWhole) (x : Vec F S e) :
    (owns (c : Thread nD τ) M fullShare x : sProp 𝕄) = pt c M (h.unread x) := by
  have h₁ : (owns (c : Thread nD τ) M fullShare x : sProp 𝕄) ⊢ pt c M (h.unread x) := by
    unfold owns pt
    rw [h.set_eq_univ]
    iintro ⟨%f, %hf, H⟩
    obtain rfl := h.eq_unread hf
    iexact H
  have h₂ : pt c M (h.unread x) ⊢ (owns (c : Thread nD τ) M fullShare x : sProp 𝕄) := by
    unfold owns pt
    rw [h.set_eq_univ]
    iintro H
    iexists h.unread x; isplitr; · ipureintro; exact h.read_unread x
    iexact H
  exact BI.equiv_iff.mp ⟨h₁, h₂⟩

/-- A whole memref owned at something is its buffer held at something. -/
theorem exists_owns_eq (c : Dev nD) {sp : Space} {S : Shape} {e : EltTy} (M : Memref sig .tc sp S e) (h : M.IsWhole) :
    (iprop(∃ d, owns (c : Thread nD τ) M fullShare d) : sProp 𝕄) = iprop(∃ f, pt c M f) :=
  h.exists_owns_eq fullShare

set_option maxHeartbeats 4000000 in
/-- The body on whole memrefs, the pipelined ones by what they read, the scratch ones by their contents. -/
theorem sound_kernel (c : Dev nD) (i : grid0.Coords) (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x4096 .i32) (h13 : a13.IsWhole) (a14 : Memref sig .tc .vmem S8x4096 .i32) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (x1 : Vec F S1x2x16x256 .bf16) (x2 : Vec F S8x512 .bf16) (x3 : Vec F S8x512 .bf16) (x4 : Vec F S1x512x4096 .i8) (x5 : Vec F S1x8x4096 .f32) (x6 : Vec F S1x512x4096 .i8) (x7 : Vec F S1x8x4096 .f32) (x8 : Vec F S1x32x64 .bf16) (x9 : Vec F S8x512 .i8) (x10 : Vec F S8x8 .f32) (x11 : Vec F S8x512 .i8) (x12 : Vec F S8x8 .f32)
    (f13 : Bf (F := F) c a13) (f14 : Bf (F := F) c a14) (f15 : Bf (F := F) c a15) (f16 : Bf (F := F) c a16) (f17 : Bf (F := F) c a17) (f18 : Bf (F := F) c a18) (f19 : Bf (F := F) c a19) (f20 : Bf (F := F) c a20) (f21 : Bf (F := F) c a21) (f22 : Bf (F := F) c a22) (f23 : Bf (F := F) c a23) (f24 : Bf (F := F) c a24) (f25 : Bf (F := F) c a25) (E : Set ℕ) (Q : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ f, pt c a13 f) ∗ (∃ f, pt c a14 f) ∗ (∃ f, pt c a15 f) ∗ (∃ f, pt c a16 f) ∗ (∃ f, pt c a17 f) ∗ (∃ f, pt c a18 f) ∗ (∃ f, pt c a19 f) ∗ (∃ f, pt c a20 f) ∗ (∃ f, pt c a21 f) ∗ (∃ f, pt c a22 f) ∗ (∃ f, pt c a23 f) ∗ (∃ f, pt c a24 f) ∗ (∃ f, pt c a25 f)) -∗ Q ⟨⟩))
      ⊢ wp frame (wpE (defs₀ (F := F)) Variants.none c none) E (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q := by
  simp only [exists_owns_eq c a8 h8, exists_owns_eq c a9 h9, exists_owns_eq c a10 h10, exists_owns_eq c a11 h11, exists_owns_eq c a12 h12]
  simp only [owns_eq c a1 h1, owns_eq c a2 h2, owns_eq c a3 h3, owns_eq c a4 h4, owns_eq c a5 h5, owns_eq c a6 h6, owns_eq c a7 h7, owns_eq c a8 h8, owns_eq c a9 h9, owns_eq c a10 h10, owns_eq c a11 h11, owns_eq c a12 h12]
  iintro ⟨H1, H2, H3, H4, H5, H6, H7, H8, H9, H10, H11, H12, H13, H14, H15, H16, H17, H18, H19, H20, H21, H22, H23, H24, H25, Hk⟩
  iapply (run_any c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 (h1.unread x1) (h2.unread x2) (h3.unread x3) (h4.unread x4) (h5.unread x5) (h6.unread x6) (h7.unread x7) (h8.unread x8) (h9.unread x9) (h10.unread x10) (h11.unread x11) (h12.unread x12) f13 f14 f15 f16 f17 f18 f19 f20 f21 f22 f23 f24 f25 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H1, H2, H3, H4, H5, H6, H7, H8, H9, H10, H11, H12, H13, H14, H15, H16, H17, H18, H19, H20, H21, H22, H23, H24, H25⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- What the body is called with at point `t`, the windows one by one, -/
def bodyPre (c : Dev nD) (t : Fin cfg0.N) (Y : ∀ w, (cfg0.win w).block.Idx → Elt F (cfg0.win w).elt) : sProp 𝕄 :=
  iprop(Pipeline.ΦA spec0 c ∗ (rdats m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11))

/-- and what it returns. -/
def bodyPost (c : Dev nD) (t : Fin cfg0.N) : sProp 𝕄 :=
  iprop(Pipeline.ΦA spec0 c ∗ (rdats m c).owesAt () t.succ
    ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X) ∗ (∃ X, ⌜True⌝ ∗ owns (c : Thread nD τ) (st0_11 t) fullShare X))

set_option maxHeartbeats 4000000 in
theorem sound_body (c : Dev nD) (t : Fin cfg0.N) (Y : ∀ w, (cfg0.win w).block.Idx → Elt F (cfg0.win w).elt) :
    bodyPre m c t Y ⊢ wp frame (wpE (defs₀ (F := F)) Variants.none c none) Set.univ (bodyAt0 t) (fun _ => bodyPost m c t) := by
  unfold bodyPre bodyPost bodyAt0 Pipeline.ΦA
  rw [scopedRest0_eq, show (rdats m c).owesAt () t.succ = (rdats m c).owesAt () t.castSucc from rfl]
  iintro ⟨⟨⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩, Hr⟩, Ho, H1, H2, H3, H4, H5, H6, H7, H8, H9, H10, H11, H12⟩
  iapply (sound_kernel c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)
    (Y 0) (Y 1) (Y 2) (Y 3) (Y 4) (Y 5) (Y 6) (Y 7) (Y 8) (Y 9) (Y 10) (Y 11) f13 f14 f15 f16 f17 f18 f19 f20 f21 f22 f23 f24 f25 Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H1, H2, H3, H4, H5, H6, H7, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%g25, H25⟩⟩
  isplitl [Hr H13 H14 H15 H16 H17 H18 H19 H20 H21 H22 H23 H24 H25]
  · isplitr [Hr]
    swap; · iexact Hr
    isplitl [H13]; · iexists g13; iexact H13
    isplitl [H14]; · iexists g14; iexact H14
    isplitl [H15]; · iexists g15; iexact H15
    isplitl [H16]; · iexists g16; iexact H16
    isplitl [H17]; · iexists g17; iexact H17
    isplitl [H18]; · iexists g18; iexact H18
    isplitl [H19]; · iexists g19; iexact H19
    isplitl [H20]; · iexists g20; iexact H20
    isplitl [H21]; · iexists g21; iexact H21
    isplitl [H22]; · iexists g22; iexact H22
    isplitl [H23]; · iexists g23; iexact H23
    isplitl [H24]; · iexists g24; iexact H24
    iexists g25; iexact H25
  isplitl [Ho]; · iexact Ho
  isplitl [H1]
  · iexists (Y 0); isplitr; · ipureintro; trivial
    iexact H1
  isplitl [H2]
  · iexists (Y 1); isplitr; · ipureintro; trivial
    iexact H2
  isplitl [H3]
  · iexists (Y 2); isplitr; · ipureintro; trivial
    iexact H3
  isplitl [H4]
  · iexists (Y 3); isplitr; · ipureintro; trivial
    iexact H4
  isplitl [H5]
  · iexists (Y 4); isplitr; · ipureintro; trivial
    iexact H5
  isplitl [H6]
  · iexists (Y 5); isplitr; · ipureintro; trivial
    iexact H6
  isplitl [H7]
  · iexists (Y 6); isplitr; · ipureintro; trivial
    iexact H7
  isplitl [H8]
  · iexists g8; isplitr; · ipureintro; trivial
    iexact H8
  isplitl [H9]
  · iexists g9; isplitr; · ipureintro; trivial
    iexact H9
  isplitl [H10]
  · iexists g10; isplitr; · ipureintro; trivial
    iexact H10
  isplitl [H11]
  · iexists g11; isplitr; · ipureintro; trivial
    iexact H11
  iexists g12; isplitr; · ipureintro; trivial
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
theorem run_main_quiescent : θ_run defs (onTc (τ := τ) (main (F := F))) (s₀ m ρ)
    (fun r => RDat.FramePost cfg0 (rdats m) (V m) r ∧ r.2.sem = fun _ => 0) :=
  RDat.θ_run_frame (Q' := _) cfgs (0 : Fin 1) launch0 defs₀ Variants.none (rdats m) m ρ main
    (hbody := body_obligation m) (hshare := fun c => (rdats m c).share_full fun _ => rfl)
    (howed := fun _ _ => rfl) (V := V m) (hmain := hmain m Variants.none) (hA := A_eq m) (hΦ := fun _ _ => rfl)

/-- The frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main_quiescent m ρ)

end Cert.Proof.KernelFrame

end
-- ==== Proof.IdealRunDefs.lean ====
/-
  What the runs of the idealized kernel's body share: a buffer held whole, the grid's points by number, and the three
  conditions of the body in terms of that number.
-/
module

public import proofs.«01_k».proof.Proof.Gen.KernelIdeal
public import proofs.«01_k».proof.Proof.Gen.KernelIdeal.Skeleton
public import proofs.«01_k».proof.Proof.Gen.KernelIdeal.Frame
public import Idealize.ShloMosaic.Lib.Tactic

@[expose] public section

noncomputable section

namespace Cert.Proof.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The grid's point number `n`. -/
def point (n : Fin 65) : grid0.Coords := fun | ⟨0, _⟩ => n

theorem eq_point (i : grid0.Coords) : i = point (i 0) := funext fun | ⟨0, _⟩ => rfl

/-- The row of the dequantised new token's key the new scores read: the batch of the point, at most the last. -/
theorem off1_eq (i : grid0.Coords) : k0_off1 i = ![min ((i 0).val / 8) 7, 0] := by
  have h : ∀ n : Fin 65, k0_off1 (point n) = ![min (n.val / 8) 7, 0] := by decide
  rw [eq_point i]; exact h (i 0)

instance (i : grid0.Coords) : ClosedOff (k0_off1 i) := ⟨![min ((i 0).val / 8) 7, 0], off1_eq i⟩

theorem cond1_iff (i : grid0.Coords) : k0_cond1 i = 1#1 ↔ (i 0).val = 0 := by
  have h : ∀ n : Fin 65, k0_cond1 (point n) = 1#1 ↔ n.val = 0 := by decide
  rw [eq_point i]; exact h (i 0)

theorem cond2_iff (i : grid0.Coords) : k0_cond2 i = 1#1 ↔ (i 0).val % 8 = 0 := by
  have h : ∀ n : Fin 65, k0_cond2 (point n) = 1#1 ↔ n.val % 8 = 0 := by decide
  rw [eq_point i]; exact h (i 0)

theorem cond3_iff (i : grid0.Coords) : k0_cond3 i = 1#1 ↔ (i 0).val % 8 = 0 ∧ 0 < (i 0).val := by
  have h : ∀ n : Fin 65, k0_cond3 (point n) = 1#1 ↔ n.val % 8 = 0 ∧ 0 < n.val := by decide
  rw [eq_point i]; exact h (i 0)

end Cert.Proof.KernelIdealRun

end
-- ==== Proof.Step.lean ====
/-
  What one step of the idealized kernel computes from the blocks and the scratch buffers it reads, in closed form: the
  scores of the step's tokens, the running maximum and sum, the weights, and the value sum of the step before.
-/
module

public import proofs.«01_k».proof.Proof.IdealRunDefs

@[expose] public section

noncomputable section

namespace Cert.Proof.Step

open Cert.KernelIdeal Cert.KernelIdeal.Gen
open Idealize.ShloMosaic Idealize.ShloMosaic.TcCoe

variable {F : FTy → Type} [FloatOps F] [Named F]

/-- What a step reads: the batch's query twice, the cached keys' and values' codes and scales by head and chunk of
    256 tokens, and the scratch buffers as the step finds them. -/
structure Loads (F : FTy → Type) [FloatOps F] [Named F] where
  q : Fin 2 → Vec F S1x1x16x256 .bf16
  kc : Fin 8 → Fin 16 → Vec F S1x64x256 .i8
  ks : Fin 8 → Fin 16 → Vec F S1x2x256 .bf16
  vc : Fin 8 → Fin 16 → Vec F S1x64x256 .i8
  vs : Fin 8 → Fin 16 → Vec F S1x2x256 .bf16
  p : Fin 16 → Vec F S32x256 .bf16
  acc : Vec F S512x32 .f32
  al : Vec F S8x32 .f32
  m : Vec F S32x128 .f32
  l : Vec F S32x128 .f32
  sn : Vec F S32x128 .f32

/-- Head `4 t + i`. -/
def hd (t : Fin 2) (i : Fin 4) : Fin 8 := ⟨4 * t.val + i.val, by omega⟩

variable (L : Loads F)

/-- The keys of four heads in a chunk of tokens, dequantised and stacked. -/
def kTile (t : Fin 2) (c : Fin 16) : FVec F S256x256 .bf16 :=
  concatenate S256x256 0 [⟨S64x256, k0_pay83 (L.ks (hd t 0) c) (L.kc (hd t 0) c)⟩,
    ⟨S64x256, k0_pay83 (L.ks (hd t 1) c) (L.kc (hd t 1) c)⟩,
    ⟨S64x256, k0_pay83 (L.ks (hd t 2) c) (L.kc (hd t 2) c)⟩,
    ⟨S64x256, k0_pay83 (L.ks (hd t 3) c) (L.kc (hd t 3) c)⟩] concatenates_S64x256_S64x256_S64x256_S64x256_S256x256_d0

/-- The scores of sixteen query rows against a chunk of tokens. -/
def sTile (t : Fin 2) (c : Fin 16) : FVec F S16x256 .f32 :=
  mulf (matmul dot_S16x256_S256x256_S16x256_1_0_0_1_n_n none (shapeCast S16x256 (L.q t) shapeCasts_S1x1x16x256_S16x256)
    (kTile L t c) (constant S16x256 .f32 0x00000000#32)) (broadcast S16x256 (Scalar.ofBits .f32 0x3E000000#32))

/-- The running maximum over the first `n` chunks, 128 lanes of sixteen rows. -/
def mxAt (t : Fin 2) : (n : ℕ) → n ≤ 16 → FVec F S16x128 .f32
  | 0, _ => broadcast S16x128 (Named.named κ "mask" 0xF149F2CA#32)
  | n + 1, h => maximumf (maximumf (mxAt t n (by omega))
      (extractStridedSlice S16x128 ![0, 0] (sTile L t ⟨n, h⟩) slices_S16x256_o0_0_S16x128))
      (extractStridedSlice S16x128 ![0, 128] (sTile L t ⟨n, h⟩) slices_S16x256_o0_128_S16x128)

/-- Where the score tile number `k` lies: rows of half `k % 2`, tokens of chunk `k / 2`. -/
def sOff (k : Fin 32) : Fin 2 → ℕ := ![16 * (k.val % 2), 256 * (k.val / 2)]

theorem sOff_inb (k : Fin 32) : ∀ a, sOff k a + S16x256.size a ≤ S32x4096.size a :=
  Fin.forall_fin_two.mpr ⟨by show 16 * (k.val % 2) + 16 ≤ 32; omega, by show 256 * (k.val / 2) + 256 ≤ 4096; omega⟩

/-- The first `n` score tiles as stored, the last one first. -/
def sPieces : (n : ℕ) → n ≤ 32 → List (View.Piece (Elt F) S32x4096 .f32)
  | 0, _ => []
  | n + 1, h => ⟨Rect.unit (sOff ⟨n, h⟩) S16x256.size (sOff_inb ⟨n, h⟩),
      shapeCast S16x256 (sTile L ⟨n % 2, Nat.mod_lt _ (by decide)⟩ ⟨n / 2, by omega⟩) shapeCasts_S16x256_S16x256⟩ ::
        sPieces n (by omega)

/-- The maximum of the step's scores by query row, on 128 equal lanes. -/
def rowMax : FVec F S32x128 .f32 :=
  broadcastTo S32x128 (shapeCast S32x1 (multiReduction .maximumf [1] S32
    (concatenate S32x128 0 [⟨S16x128, mxAt L 0 16 (le_refl _)⟩, ⟨S16x128, mxAt L 1 16 (le_refl _)⟩]
      concatenates_S16x128_S16x128_S32x128_d0) 0xFF800000#32 reduces_S32x128_S32 (.inl rfl) rfl) shapeCasts_S32_S32x1)
    broadcasts_S32x1_S32x128

variable (kf kl : BitVec 1)

def mOld : FVec F S32x128 .f32 := k0_pay385 kf L.m
def lOld : FVec F S32x128 .f32 := k0_pay386 kf L.l
def snNew : FVec F S32x128 .f32 := k0_pay387 kl L.sn
def mNew : FVec F S32x128 .f32 := maximumf (maximumf (mOld L kf) (rowMax L)) (snNew L kl)
def alpha : FVec F S32x128 .f32 := exp (subf (mOld L kf) (mNew L kf kl))
def pNew : FVec F S32x128 .f32 := exp (subf (snNew L kl) (mNew L kf kl))

/-- The weights of a chunk of tokens whose stored scores are `s`. -/
def pTile (s : Vec F S32x256 .f32) : FVec F S32x256 .f32 :=
  exp (subf s (broadcastTo S32x256 (extractStridedSlice S32x1 ![0, 0] (mNew L kf kl) slices_S32x128_o0_0_S32x1)
    broadcasts_S32x1_S32x256))

variable (s : Fin 16 → Vec F S32x256 .f32)

/-- The weights summed over the first `n` chunks, 128 lanes. -/
def psumAt : (n : ℕ) → n ≤ 16 → FVec F S32x128 .f32
  | 0, _ => broadcast S32x128 (Scalar.ofBits .f32 0x00000000#32)
  | n + 1, h => addf (addf (psumAt n (by omega))
      (extractStridedSlice S32x128 ![0, 0] (pTile L kf kl (s ⟨n, h⟩)) slices_S32x256_o0_0_S32x128))
      (extractStridedSlice S32x128 ![0, 128] (pTile L kf kl (s ⟨n, h⟩)) slices_S32x256_o0_128_S32x128)

def lNew : FVec F S32x128 .f32 :=
  addf (addf (mulf (alpha L kf kl) (lOld L kf)) (broadcastTo S32x128 (shapeCast S32x1 (multiReduction .add [1] S32
    (psumAt L kf kl s 16 (le_refl _)) 0x00000000#32 reduces_S32x128_S32 (.inl rfl) rfl) shapeCasts_S32_S32x1)
    broadcasts_S32x1_S32x128)) (pNew L kf kl)

/-- Where chunk `n` of the weights lies. -/
def pOff (n : Fin 16) : Fin 2 → ℕ := ![0, 256 * n.val]

theorem pOff_inb (n : Fin 16) : ∀ a, pOff n a + S32x256.size a ≤ S32x4096.size a :=
  Fin.forall_fin_two.mpr ⟨by show 0 + 32 ≤ 32; omega, by show 256 * n.val + 256 ≤ 4096; omega⟩

/-- The first `n` chunks of weights as stored, the last one first, over the pieces `B`. -/
def pPieces (B : List (View.Piece (Elt F) S32x4096 .bf16)) : (n : ℕ) → n ≤ 16 → List (View.Piece (Elt F) S32x4096 .bf16)
  | 0, _ => B
  | n + 1, h => ⟨Rect.unit (pOff ⟨n, h⟩) S32x256.size (pOff_inb ⟨n, h⟩),
      shapeCast S32x256 (truncf .bf16 (pTile L kf kl (s ⟨n, h⟩)) bitsLt_bf16_f32) shapeCasts_S32x256_S32x256⟩ ::
        pPieces B n (by omega)

/-- The values of the eight heads in a chunk of tokens, dequantised and stacked. -/
def vTile (c : Fin 16) : FVec F S512x256 .bf16 :=
  concatenate S512x256 0 [⟨S64x256, k0_pay83 (L.vs 0 c) (L.vc 0 c)⟩, ⟨S64x256, k0_pay83 (L.vs 1 c) (L.vc 1 c)⟩,
    ⟨S64x256, k0_pay83 (L.vs 2 c) (L.vc 2 c)⟩, ⟨S64x256, k0_pay83 (L.vs 3 c) (L.vc 3 c)⟩,
    ⟨S64x256, k0_pay83 (L.vs 4 c) (L.vc 4 c)⟩, ⟨S64x256, k0_pay83 (L.vs 5 c) (L.vc 5 c)⟩,
    ⟨S64x256, k0_pay83 (L.vs 6 c) (L.vc 6 c)⟩, ⟨S64x256, k0_pay83 (L.vs 7 c) (L.vc 7 c)⟩]
    concatenates_S64x256_S64x256_S64x256_S64x256_S64x256_S64x256_S64x256_S64x256_S512x256_d0

def pvTile (c : Fin 16) : FVec F S512x32 .f32 :=
  matmul dot_S512x256_S32x256_S512x32_1_1_0_0_n_n none (vTile L c) (L.p c) (constant S512x32 .f32 0x00000000#32)

/-- The value sum over the first `n + 1` chunks. -/
def pvAt : (n : ℕ) → n < 16 → FVec F S512x32 .f32
  | 0, _ => pvTile L 0
  | n + 1, h => addf (pvAt n (by omega)) (pvTile L ⟨n + 1, h⟩)

def accNew : FVec F S512x32 .f32 :=
  addf (mulf L.acc (broadcastTo S512x32 (extractStridedSlice S1x32 ![0, 0] L.al slices_S8x32_o0_0_S1x32)
    broadcasts_S1x32_S512x32)) (pvAt L 15 (by decide))

def mStored : FVec F S32x128 .f32 := shapeCast S32x128 (mNew L kf kl) shapeCasts_S32x128_S32x128
def lStored : FVec F S32x128 .f32 := shapeCast S32x128 (lNew L kf kl s) shapeCasts_S32x128_S32x128
def pnStored : FVec F S32x128 .f32 := k0_pay524 (pNew L kf kl)
def lfinStored : FVec F S32x128 .f32 := k0_pay525 (lNew L kf kl s)
def accStored : FVec F S512x32 .f32 := shapeCast S512x32 (accNew L) shapeCasts_S512x32_S512x32
def alStored : FVec F S8x32 .f32 :=
  shapeCast S8x32 (extractStridedSlice S8x32 ![0, 0] (transpose S128x32 [1, 0] (alpha L kf kl)
    transposes_S32x128_p1_0_S128x32) slices_S128x32_o0_0_S8x32) shapeCasts_S8x32_S8x32

/-- The first and the last block of a batch, by the point. -/
def isFirst (i : grid0.Coords) : BitVec 1 := Scalar.cmpi .eq (Scalar.remsi (BitVec.ofNat 32 (i 0).val) 8#32) 0#32
def isLast (i : grid0.Coords) : BitVec 1 := Scalar.cmpi .eq (Scalar.remsi (BitVec.ofNat 32 (i 0).val) 8#32) 7#32

theorem qInb (t : Fin 2) : ∀ a, (![0, t.val, 0, 0] : Fin 4 → ℕ) a + S1x1x16x256.size a ≤ S1x2x16x256.size a
  | ⟨0, _⟩ => by show 0 + 1 ≤ 1; omega
  | ⟨1, _⟩ => by show t.val + 1 ≤ 2; omega
  | ⟨2, _⟩ => by show 0 + 16 ≤ 16; omega
  | ⟨3, _⟩ => by show 0 + 256 ≤ 256; omega

theorem cInb (h : Fin 8) (x : Fin 16) : ∀ a, (![0, 64 * h.val, 256 * x.val] : Fin 3 → ℕ) a + S1x64x256.size a ≤ S1x512x4096.size a
  | ⟨0, _⟩ => by show 0 + 1 ≤ 1; omega
  | ⟨1, _⟩ => by show 64 * h.val + 64 ≤ 512; omega
  | ⟨2, _⟩ => by show 256 * x.val + 256 ≤ 4096; omega

theorem wInb (h : Fin 8) (x : Fin 16) : ∀ a, (![h.val, 0, 256 * x.val] : Fin 3 → ℕ) a + S1x2x256.size a ≤ S8x2x4096.size a
  | ⟨0, _⟩ => by show h.val + 1 ≤ 8; omega
  | ⟨1, _⟩ => by show 0 + 2 ≤ 2; omega
  | ⟨2, _⟩ => by show 256 * x.val + 256 ≤ 4096; omega

open Cert.Proof.KernelIdealRun (Bf)

/-- The loads of a step from the windows' contents and the scale scratch, with what it finds in the other scratch buffers. -/
def blockLoads (c : Dev nD) (a1 : Memref sig .tc .vmem S1x2x16x256 .bf16) (f1 : Bf (F := F) c a1)
    (a4 : Memref sig .tc .vmem S1x512x4096 .i8) (f4 : Bf (F := F) c a4) (a5 : Memref sig .tc .vmem S1x8x4096 .f32) (f5 : Bf (F := F) c a5)
    (a6 : Memref sig .tc .vmem S1x512x4096 .i8) (f6 : Bf (F := F) c a6) (a7 : Memref sig .tc .vmem S1x8x4096 .f32) (f7 : Bf (F := F) c a7)
    (a13 a14 : Memref sig .tc .vmem S8x2x4096 .bf16)
    (p : Fin 16 → Vec F S32x256 .bf16) (acc : Vec F S512x32 .f32) (al : Vec F S8x32 .f32) (m l sn : Vec F S32x128 .f32) : Loads F where
  q t := View.readAt (Elt F) a1.view (Rect.unit (s := S1x2x16x256) ![0, t.val, 0, 0] S1x1x16x256.size (qInb t)).toLoadRect f1
  kc h x := View.readAt (Elt F) a4.view (Rect.unit (s := S1x512x4096) ![0, 64 * h.val, 256 * x.val] S1x64x256.size (cInb h x)).toLoadRect f4
  ks h x := a13.view.readCov [⟨Rect.unit (s := S8x2x4096) ![0, 0, 0] S8x2x4096.size inb_S8x2x4096_S8x2x4096_0_0_0,
      k0_pay79 (View.readAt (Elt F) a5.view (Rect.unit (s := S1x8x4096) ![0, 0, 0] S1x8x4096.size inb_S1x8x4096_S1x8x4096_0_0_0).toLoadRect f5)⟩]
    (Rect.unit (s := S8x2x4096) ![h.val, 0, 256 * x.val] S1x2x256.size (wInb h x)).toLoadRect
  vc h x := View.readAt (Elt F) a6.view (Rect.unit (s := S1x512x4096) ![0, 64 * h.val, 256 * x.val] S1x64x256.size (cInb h x)).toLoadRect f6
  vs h x := a14.view.readCov [⟨Rect.unit (s := S8x2x4096) ![0, 0, 0] S8x2x4096.size inb_S8x2x4096_S8x2x4096_0_0_0,
      k0_pay80 (View.readAt (Elt F) a7.view (Rect.unit (s := S1x8x4096) ![0, 0, 0] S1x8x4096.size inb_S1x8x4096_S1x8x4096_0_0_0).toLoadRect f7)⟩]
    (Rect.unit (s := S8x2x4096) ![h.val, 0, 256 * x.val] S1x2x256.size (wInb h x)).toLoadRect
  p := p
  acc := acc
  al := al
  m := m
  l := l
  sn := sn

/-- A chunk of the scores as loaded back. -/
def sLoad (L : Loads F) (a15 : Memref sig .tc .vmem S32x4096 .f32) (x : Fin 16) : Vec F S32x256 .f32 :=
  a15.view.readCov (sPieces L 32 (le_refl _)) (Rect.unit (s := S32x4096) (pOff x) S32x256.size (pOff_inb x)).toLoadRect

def rd32 (c : Dev nD) (a : Memref sig .tc .vmem S32x128 .f32) (f : Bf (F := F) c a) : Vec F S32x128 .f32 :=
  View.readAt (Elt F) a.view (Rect.unit (s := S32x128) ![0, 0] S32x128.size inb_S32x128_S32x128_0_0).toLoadRect f

end Cert.Proof.Step

end
-- ==== Proof.Online.lean ====
/-
  The softmax taken block by block, in the extended reals: the running maximum, the running sum and the running weighted
  sum, each rescaled when the maximum grows, against the same sums taken at once under the final maximum.
-/
module

public import Idealize.ShloMosaic.PureOps.Ideal.Laws

@[expose] public section

noncomputable section

namespace Cert.Proof.Online

open Idealize.ShloMosaic

theorem exp_bot : Ideal.exp ⊥ = 0 := rfl

/-- Rescaling a weight: from the maximum `b` to a greater one `c`. The infinite cases hold because a weight under an
    infinite maximum is zero. -/
theorem exp_rescale {a b c : EReal} (hab : a ≤ b) (hbc : b ≤ c) :
    Ideal.exp (a - b) * Ideal.exp (b - c) = Ideal.exp (a - c) := by
  induction c with
  | top => induction b with
    | top => simp [exp_bot, EReal.sub_top]
    | bot => simp [exp_bot, EReal.sub_top]
    | coe b => simp [exp_bot, EReal.sub_top]
  | bot =>
    obtain rfl : b = ⊥ := le_bot_iff.mp hbc
    obtain rfl : a = ⊥ := le_bot_iff.mp hab
    simp [exp_bot, EReal.bot_sub]
  | coe c => induction b with
    | top => exact absurd hbc (by simp)
    | bot =>
      obtain rfl : a = ⊥ := le_bot_iff.mp hab
      simp [exp_bot, EReal.bot_sub]
    | coe b => induction a with
      | top => exact absurd hab (by simp)
      | bot => simp [exp_bot, EReal.bot_sub]
      | coe a =>
        have e (x y : ℝ) : Ideal.exp ((x : EReal) - (y : EReal)) = ((Real.exp (x - y) : ℝ) : EReal) := by
          rw [← EReal.coe_sub]; rfl
        rw [e, e, e, ← EReal.coe_mul, ← Real.exp_add]; congr 2; ring

theorem exp_nonneg (x : EReal) : 0 ≤ Ideal.exp x := by
  induction x with
  | top => exact le_top
  | bot => exact le_refl _
  | coe x => exact EReal.coe_nonneg.mpr (Real.exp_pos x).le

theorem exp_sub_ne_top {b c : EReal} (h : b ≤ c) : Ideal.exp (b - c) ≠ ⊤ := by
  induction c with
  | top => simp [exp_bot, EReal.sub_top]
  | bot => obtain rfl : b = ⊥ := le_bot_iff.mp h; simp [exp_bot, EReal.bot_sub]
  | coe c => induction b with
    | top => exact absurd h (by simp)
    | bot => simp [exp_bot, EReal.bot_sub]
    | coe b => rw [← EReal.coe_sub]; exact EReal.coe_ne_top _

theorem exp_bot_sub (m : EReal) : Ideal.exp (⊥ - m) = 0 := by simp [exp_bot, EReal.bot_sub]

/-- A weight between zero and a finite number goes inside a sum. -/
theorem sum_mul {ι : Type*} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih =>
    rw [Finset.sum_insert hi, Finset.sum_insert hi, EReal.right_distrib_of_nonneg_of_ne_top h0 ht, ih]

section
variable {ι : Type} [Fintype ι] (S : ℕ → ι → EReal) (sn : EReal)

/-- The new token's score enters with the last of the eight blocks. -/
def fresh (n : ℕ) : EReal := if n = 7 then sn else ⊥

/-- The running maximum. -/
def msup : ℕ → EReal
  | 0 => ⊥
  | n + 1 => max (max (msup n) (Finset.univ.sup (S n))) (fresh sn n)

/-- The running sum of weights. -/
def lsum : ℕ → EReal
  | 0 => 0
  | n + 1 => Ideal.exp (msup S sn n - msup S sn (n + 1)) * lsum n
      + ∑ x, Ideal.exp (S n x - msup S sn (n + 1)) + Ideal.exp (fresh sn n - msup S sn (n + 1))

/-- The running weighted sum of `v`. -/
def asum (v : ℕ → ι → EReal) : ℕ → EReal
  | 0 => 0
  | n + 1 => asum v n * Ideal.exp (msup S sn n - msup S sn (n + 1))
      + ∑ x, v n x * Ideal.exp (S n x - msup S sn (n + 1))

theorem msup_le_succ (n : ℕ) : msup S sn n ≤ msup S sn (n + 1) := (le_max_left _ _).trans (le_max_left _ _)

theorem le_msup_succ (n : ℕ) (x : ι) : S n x ≤ msup S sn (n + 1) :=
  ((Finset.le_sup (f := S n) (Finset.mem_univ x)).trans (le_max_right _ _)).trans (le_max_left _ _)

theorem le_msup {k n : ℕ} (h : k < n) (x : ι) : S k x ≤ msup S sn n := by
  induction n with
  | zero => omega
  | succ n ih =>
    rcases Nat.lt_succ_iff_lt_or_eq.mp h with h | rfl
    · exact (ih h).trans (msup_le_succ S sn n)
    · exact le_msup_succ S sn k x

/-- The running weighted sum is the sum over the blocks so far, weighted under the maximum so far. -/
theorem asum_eq (v : ℕ → ι → EReal) (n : ℕ) :
    asum S sn v n = ∑ k ∈ Finset.range n, ∑ x, v k x * Ideal.exp (S k x - msup S sn n) := by
  induction n with
  | zero => rfl
  | succ n ih =>
    rw [Finset.sum_range_succ]
    show asum S sn v n * Ideal.exp (msup S sn n - msup S sn (n + 1)) + _ = _
    rw [ih, sum_mul _ _ (exp_nonneg _) (exp_sub_ne_top (msup_le_succ S sn n))]
    congr 1
    refine Finset.sum_congr rfl fun k hk => ?_
    rw [sum_mul _ _ (exp_nonneg _) (exp_sub_ne_top (msup_le_succ S sn n))]
    refine Finset.sum_congr rfl fun x _ => ?_
    rw [mul_assoc, exp_rescale (le_msup S sn (Finset.mem_range.mp hk) x) (msup_le_succ S sn n)]

/-- The running sum before the last block is the running weighted sum of ones. -/
theorem lsum_eq_asum (n : ℕ) (h : n ≤ 7) : lsum S sn n = asum S sn (fun _ _ => 1) n := by
  induction n with
  | zero => rfl
  | succ n ih =>
    show Ideal.exp _ * lsum S sn n + _ + Ideal.exp (fresh sn n - _) = asum S sn _ n * _ + _
    rw [ih (by omega), fresh, if_neg (by omega), exp_bot_sub, add_zero, mul_comm]
    simp only [one_mul]

/-- The running sum after the last block. -/
theorem lsum_eight : lsum S sn 8 = (∑ k ∈ Finset.range 8, ∑ x, Ideal.exp (S k x - msup S sn 8))
    + Ideal.exp (sn - msup S sn 8) := by
  have h := asum_eq S sn (fun _ _ => 1) 8
  show Ideal.exp _ * lsum S sn 7 + _ + Ideal.exp (fresh sn 7 - _) = _
  rw [lsum_eq_asum S sn 7 (le_refl _), fresh, if_pos rfl]
  congr 1
  simp only [one_mul] at h
  rw [← h]
  show _ = asum S sn _ 7 * _ + _
  rw [mul_comm]
  simp only [one_mul]

/-- The maximum after the last block: of all the scores and the new token's. -/
theorem msup_eq (n : ℕ) (h : n ≤ 7) : msup S sn n = (Finset.range n).sup fun k => Finset.univ.sup (S k) := by
  induction n with
  | zero => rfl
  | succ n ih =>
    rw [Finset.range_add_one, Finset.sup_insert, ← ih (by omega)]
    show max (max _ _) (fresh sn n) = _
    rw [fresh, if_neg (by omega), max_bot_right]
    exact max_comm _ _

theorem msup_eight : msup S sn 8 = max ((Finset.range 8).sup fun k => Finset.univ.sup (S k)) sn := by
  show max (max (msup S sn 7) _) (fresh sn 7) = _
  rw [fresh, if_pos rfl, msup_eq S sn 7 (le_refl _), Finset.range_add_one (n := 7), Finset.sup_insert]
  congr 1
  exact max_comm _ _

end

end Cert.Proof.Online

end
-- ==== Proof.StepIdeal.lean ====
/-
  What one step of the idealized kernel computes, entry by entry, in the extended reals.
-/
module

public import proofs.«01_k».proof.Proof.Step
public import proofs.«01_k».proof.Proof.Online
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Pointwise

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

/-- A number an int8 code stands for. -/
abbrev num (b : BitVec 8) : EReal := ((b.toInt : ℝ) : EReal)

/-- A dequantised entry: the code times its scale. -/
theorem deq_apply (raw : Vec Ideal S1x2x256 .bf16) (code : Vec Ideal S1x64x256 .i8) (r : Fin 64) (x : Fin 256) :
    k0_pay83 raw code (ix2 r x) = num (code (ix3 (0 : Fin 1) r x)) * raw (ix3 (0 : Fin 1) (0 : Fin 2) x) := by
  dsimp only [k0_pay83]
  rw [shapeCast_apply _ shapeCasts_S4x16x256_S64x256 (ix2 r x) (ix3 (⟨r.val / 16, by omega⟩ : Fin 4) (⟨r.val % 16, by omega⟩ : Fin 16) x)
    (by rw [Shape.rowMajor_val_three, Shape.rowMajor_val_two]; show (r.val / 16 * 16 + r.val % 16) * 256 + x.val = r.val * 256 + x.val; omega)]
  rw [mulf_apply]
  congr 1
  · rw [shapeCast_apply _ shapeCasts_S64x256_S4x16x256 _ (ix2 r x)
      (by rw [Shape.rowMajor_val_three, Shape.rowMajor_val_two]; show r.val * 256 + x.val = (r.val / 16 * 16 + r.val % 16) * 256 + x.val; omega)]
    show num (shapeCast S64x256 code shapeCasts_S1x64x256_S64x256 (ix2 r x)) = _
    rw [shapeCast_apply _ shapeCasts_S1x64x256_S64x256 _ (ix3 (0 : Fin 1) r x)
      (by rw [Shape.rowMajor_val_three, Shape.rowMajor_val_two]; show (0 * 64 + r.val) * 256 + x.val = r.val * 256 + x.val; omega)]
  · rw [broadcastTo_apply _ broadcasts_S1x16x256_S4x16x256 _ (ix3 (0 : Fin 1) (⟨r.val % 16, by omega⟩ : Fin 16) x)
      (fun a => by match a with | ⟨0, _⟩ => rfl | ⟨1, _⟩ => rfl | ⟨2, _⟩ => rfl)]
    rw [shapeCast_apply _ shapeCasts_S16x256_S1x16x256 _ (ix2 (⟨r.val % 16, by omega⟩ : Fin 16) x)
      (by rw [Shape.rowMajor_val_three, Shape.rowMajor_val_two]; show r.val % 16 * 256 + x.val = (0 * 16 + r.val % 16) * 256 + x.val; omega)]
    rw [broadcastTo_apply _ broadcasts_S1x256_S16x256 _ (ix2 (0 : Fin 1) x)
      (fun a => by match a with | ⟨0, _⟩ => rfl | ⟨1, _⟩ => rfl)]
    rw [shapeCast_self]
    rw [extractStridedSlice_apply _ _ _ (ix2 (0 : Fin 1) x) (ix2 (0 : Fin 2) x) (fun a => by match a with | ⟨0, _⟩ => rfl | ⟨1, _⟩ => exact (Nat.zero_add _).symm)]
    rw [interleaveRows_apply, if_pos (by rfl)]
    have e (v : S1x1x256.Idx → EReal) (j : S1x256.Idx) (hj : (j 1).val = x.val) :
        shapeCast S1x256 v shapeCasts_S1x1x256_S1x256 j = v (ix3 (0 : Fin 1) (0 : Fin 1) x) :=
      shapeCast_apply v shapeCasts_S1x1x256_S1x256 j _ (by
        rw [Shape.rowMajor_val_three, Shape.rowMajor_val_two]
        have : (j 0).val < 1 := (j 0).isLt
        show (0 * 1 + 0) * 256 + x.val = (j 0).val * 256 + (j 1).val
        omega)
    rw [e _ _ (by rfl)]
    rw [rowsOfParity_apply]
    refine congrArg raw (funext fun a => Fin.ext ?_)
    match a with
    | ⟨0, _⟩ => rfl
    | ⟨1, _⟩ => rfl
    | ⟨2, _⟩ => rfl

end Cert.Proof.Step

end
-- ==== Proof.StepTiles.lean ====
/-
  Stacked tiles and row reductions read at an index, and the scores and value products of a step in the extended reals.
-/
module

public import proofs.«01_k».proof.Proof.StepIdeal

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

/-- 4 tiles of 64 rows stacked: row `r` is row `r % 64` of tile `r / 64`. -/
theorem stack4 {α : Type} (x : Fin 4 → S64x256.Idx → α) (h : Shape.Concatenates [S64x256, S64x256, S64x256, S64x256] S256x256 0) (r : Fin 256) (j : Fin 256) :
    concatenate S256x256 0 [⟨S64x256, x 0⟩, ⟨S64x256, x 1⟩, ⟨S64x256, x 2⟩, ⟨S64x256, x 3⟩] h (ix2 r j) = x ⟨r.val / 64, by omega⟩ (ix2 (⟨r.val % 64, by omega⟩ : Fin 64) j) := by
  have key (y : S64x256.Idx → α) (k : S64x256.Idx) (h0 : (k 0).val = r.val % 64) (h1 : (k 1).val = j.val) :
      y k = y (ix2 (⟨r.val % 64, by omega⟩ : Fin 64) j) :=
    congrArg y (funext fun a => Fin.ext (by match a with | ⟨0, _⟩ => exact h0 | ⟨1, _⟩ => exact h1))
  refine (concatenate_cons_apply _ _ _ _ _ _ _).trans ?_
  have hr : r.val / 64 = 0 ∨ r.val / 64 = 1 ∨ r.val / 64 = 2 ∨ r.val / 64 = 3 := by omega
  rcases hr with hr | hr | hr | hr
  · rw [show (⟨r.val / 64, by omega⟩ : Fin 4) = 0 from Fin.ext hr]
    refine (concatenateAt_cons _ _ _ _ _ _ _ _).trans ((dif_pos (show r.val < 64 by omega)).trans ?_)
    exact key _ _ (show r.val = r.val % 64 by omega) rfl
  · rw [show (⟨r.val / 64, by omega⟩ : Fin 4) = 1 from Fin.ext hr]
    refine (concatenateAt_cons _ _ _ _ _ _ _ _).trans ((dif_neg (show ¬ r.val < 64 by omega)).trans ?_)
    refine (concatenateAt_cons _ _ _ _ _ _ _ _).trans ((dif_pos (show r.val - 64 < 64 by omega)).trans ?_)
    exact key _ _ (show r.val - 64 = r.val % 64 by omega) rfl
  · rw [show (⟨r.val / 64, by omega⟩ : Fin 4) = 2 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_pos (show r.val - 64 - 64 < 64 by omega)).trans ?_)
    exact key _ _ (show r.val - 64 - 64 = r.val % 64 by omega) rfl
  · rw [show (⟨r.val / 64, by omega⟩ : Fin 4) = 3 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_neg (show ¬ r.val - 64 - 64 < 64 by omega)).trans ?_)
    refine (concatenateAt_singleton _ _ _ _ _ _).trans ?_
    exact key _ _ (show r.val - 64 - 64 - 64 = r.val % 64 by omega) rfl

/-- 8 tiles of 64 rows stacked: row `r` is row `r % 64` of tile `r / 64`. -/
theorem stack8 {α : Type} (x : Fin 8 → S64x256.Idx → α) (h : Shape.Concatenates [S64x256, S64x256, S64x256, S64x256, S64x256, S64x256, S64x256, S64x256] S512x256 0) (r : Fin 512) (j : Fin 256) :
    concatenate S512x256 0 [⟨S64x256, x 0⟩, ⟨S64x256, x 1⟩, ⟨S64x256, x 2⟩, ⟨S64x256, x 3⟩, ⟨S64x256, x 4⟩, ⟨S64x256, x 5⟩, ⟨S64x256, x 6⟩, ⟨S64x256, x 7⟩] h (ix2 r j) = x ⟨r.val / 64, by omega⟩ (ix2 (⟨r.val % 64, by omega⟩ : Fin 64) j) := by
  have key (y : S64x256.Idx → α) (k : S64x256.Idx) (h0 : (k 0).val = r.val % 64) (h1 : (k 1).val = j.val) :
      y k = y (ix2 (⟨r.val % 64, by omega⟩ : Fin 64) j) :=
    congrArg y (funext fun a => Fin.ext (by match a with | ⟨0, _⟩ => exact h0 | ⟨1, _⟩ => exact h1))
  refine (concatenate_cons_apply _ _ _ _ _ _ _).trans ?_
  have hr : r.val / 64 = 0 ∨ r.val / 64 = 1 ∨ r.val / 64 = 2 ∨ r.val / 64 = 3 ∨ r.val / 64 = 4 ∨ r.val / 64 = 5 ∨ r.val / 64 = 6 ∨ r.val / 64 = 7 := by omega
  rcases hr with hr | hr | hr | hr | hr | hr | hr | hr
  · rw [show (⟨r.val / 64, by omega⟩ : Fin 8) = 0 from Fin.ext hr]
    refine (concatenateAt_cons _ _ _ _ _ _ _ _).trans ((dif_pos (show r.val < 64 by omega)).trans ?_)
    exact key _ _ (show r.val = r.val % 64 by omega) rfl
  · rw [show (⟨r.val / 64, by omega⟩ : Fin 8) = 1 from Fin.ext hr]
    refine (concatenateAt_cons _ _ _ _ _ _ _ _).trans ((dif_neg (show ¬ r.val < 64 by omega)).trans ?_)
    refine (concatenateAt_cons _ _ _ _ _ _ _ _).trans ((dif_pos (show r.val - 64 < 64 by omega)).trans ?_)
    exact key _ _ (show r.val - 64 = r.val % 64 by omega) rfl
  · rw [show (⟨r.val / 64, by omega⟩ : Fin 8) = 2 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_pos (show r.val - 64 - 64 < 64 by omega)).trans ?_)
    exact key _ _ (show r.val - 64 - 64 = r.val % 64 by omega) rfl
  · rw [show (⟨r.val / 64, by omega⟩ : Fin 8) = 3 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_neg (show ¬ r.val - 64 - 64 < 64 by omega)).trans ?_)
    refine (concatenateAt_cons _ _ _ _ _ _ _ _).trans ((dif_pos (show r.val - 64 - 64 - 64 < 64 by omega)).trans ?_)
    exact key _ _ (show r.val - 64 - 64 - 64 = r.val % 64 by omega) rfl
  · rw [show (⟨r.val / 64, by omega⟩ : Fin 8) = 4 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_neg (show ¬ r.val - 64 - 64 < 64 by omega)).trans ?_)
    refine (concatenateAt_cons _ _ _ _ _ _ _ _).trans ((dif_neg (show ¬ r.val - 64 - 64 - 64 < 64 by omega)).trans ?_)
    refine (concatenateAt_cons _ _ _ _ _ _ _ _).trans ((dif_pos (show r.val - 64 - 64 - 64 - 64 < 64 by omega)).trans ?_)
    exact key _ _ (show r.val - 64 - 64 - 64 - 64 = r.val % 64 by omega) rfl
  · rw [show (⟨r.val / 64, by omega⟩ : Fin 8) = 5 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_neg (show ¬ r.val - 64 - 64 < 64 by omega)).trans ?_)
    refine (concatenateAt_cons _ _ _ _ _ _ _ _).trans ((dif_neg (show ¬ r.val - 64 - 64 - 64 < 64 by omega)).trans ?_)
    refine (concatenateAt_cons _ _ _ _ _ _ _ _).trans ((dif_neg (show ¬ r.val - 64 - 64 - 64 - 64 < 64 by omega)).trans ?_)
    refine (concatenateAt_cons _ _ _ _ _ _ _ _).trans ((dif_pos (show r.val - 64 - 64 - 64 - 64 - 64 < 64 by omega)).trans ?_)
    exact key _ _ (show r.val - 64 - 64 - 64 - 64 - 64 = r.val % 64 by omega) rfl
  · rw [show (⟨r.val / 64, by omega⟩ : Fin 8) = 6 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_neg (show ¬ r.val - 64 - 64 < 64 by omega)).trans ?_)
    refine (concatenateAt_cons _ _ _ _ _ _ _ _).trans ((dif_neg (show ¬ r.val - 64 - 64 - 64 < 64 by omega)).trans ?_)
    refine (concatenateAt_cons _ _ _ _ _ _ _ _).trans ((dif_neg (show ¬ r.val - 64 - 64 - 64 - 64 < 64 by omega)).trans ?_)
    refine (concatenateAt_cons _ _ _ _ _ _ _ _).trans ((dif_neg (show ¬ r.val - 64 - 64 - 64 - 64 - 64 < 64 by omega)).trans ?_)
    refine (concatenateAt_cons _ _ _ _ _ _ _ _).trans ((dif_pos (show r.val - 64 - 64 - 64 - 64 - 64 - 64 < 64 by omega)).trans ?_)
    exact key _ _ (show r.val - 64 - 64 - 64 - 64 - 64 - 64 = r.val % 64 by omega) rfl
  · rw [show (⟨r.val / 64, by omega⟩ : Fin 8) = 7 from Fin.ext hr]
    refine (concatenateAt_cons _ _ _ _ _ _ _ _).trans ((dif_neg (show ¬ r.val < 64 by omega)).trans ?_)
    refine (concatenateAt_cons _ _ _ _ _ _ _ _).trans ((dif_neg (show ¬ r.val - 64 < 64 by omega)).trans ?_)
    refine (concatenateAt_cons _ _ _ _ _ _ _ _).trans ((dif_neg (show ¬ r.val - 64 - 64 < 64 by omega)).trans ?_)
    refine (concatenateAt_cons _ _ _ _ _ _ _ _).trans ((dif_neg (show ¬ r.val - 64 - 64 - 64 < 64 by omega)).trans ?_)
    refine (concatenateAt_cons _ _ _ _ _ _ _ _).trans ((dif_neg (show ¬ r.val - 64 - 64 - 64 - 64 < 64 by omega)).trans ?_)
    refine (concatenateAt_cons _ _ _ _ _ _ _ _).trans ((dif_neg (show ¬ r.val - 64 - 64 - 64 - 64 - 64 < 64 by omega)).trans ?_)
    refine (concatenateAt_cons _ _ _ _ _ _ _ _).trans ((dif_neg (show ¬ r.val - 64 - 64 - 64 - 64 - 64 - 64 < 64 by omega)).trans ?_)
    refine (concatenateAt_singleton _ _ _ _ _ _).trans ?_
    exact key _ _ (show r.val - 64 - 64 - 64 - 64 - 64 - 64 - 64 = r.val % 64 by omega) rfl

/-- 2 tiles of 16 rows stacked: row `r` is row `r % 16` of tile `r / 16`. -/
theorem stack2 {α : Type} (x : Fin 2 → S16x128.Idx → α) (h : Shape.Concatenates [S16x128, S16x128] S32x128 0) (r : Fin 32) (j : Fin 128) :
    concatenate S32x128 0 [⟨S16x128, x 0⟩, ⟨S16x128, x 1⟩] h (ix2 r j) = x ⟨r.val / 16, by omega⟩ (ix2 (⟨r.val % 16, by omega⟩ : Fin 16) j) := by
  have key (y : S16x128.Idx → α) (k : S16x128.Idx) (h0 : (k 0).val = r.val % 16) (h1 : (k 1).val = j.val) :
      y k = y (ix2 (⟨r.val % 16, by omega⟩ : Fin 16) j) :=
    congrArg y (funext fun a => Fin.ext (by match a with | ⟨0, _⟩ => exact h0 | ⟨1, _⟩ => exact h1))
  refine (concatenate_cons_apply _ _ _ _ _ _ _).trans ?_
  have hr : r.val / 16 = 0 ∨ r.val / 16 = 1 := by omega
  rcases hr with hr | hr
  · rw [show (⟨r.val / 16, by omega⟩ : Fin 2) = 0 from Fin.ext hr]
    refine (concatenateAt_cons _ _ _ _ _ _ _ _).trans ((dif_pos (show r.val < 16 by omega)).trans ?_)
    exact key _ _ (show r.val = r.val % 16 by omega) rfl
  · rw [show (⟨r.val / 16, by omega⟩ : Fin 2) = 1 from Fin.ext hr]
    refine (concatenateAt_cons _ _ _ _ _ _ _ _).trans ((dif_neg (show ¬ r.val < 16 by omega)).trans ?_)
    refine (concatenateAt_singleton _ _ _ _ _ _).trans ?_
    exact key _ _ (show r.val - 16 = r.val % 16 by omega) rfl

variable (L : Loads Ideal)

/-- The dequantised key of head `h`, coordinate `d`, token `j` of chunk `c`. -/
def kAt (h : Fin 8) (c : Fin 16) (d : Fin 64) (j : Fin 256) : EReal :=
  num (L.kc h c (ix3 (0 : Fin 1) d j)) * L.ks h c (ix3 (0 : Fin 1) (0 : Fin 2) j)

/-- The dequantised value of head `h`, coordinate `d`, token `j` of chunk `c`. -/
def vAt (h : Fin 8) (c : Fin 16) (d : Fin 64) (j : Fin 256) : EReal :=
  num (L.vc h c (ix3 (0 : Fin 1) d j)) * L.vs h c (ix3 (0 : Fin 1) (0 : Fin 2) j)

theorem kTile_apply (t : Fin 2) (c : Fin 16) (x j : Fin 256) :
    kTile L t c (ix2 x j) = kAt L (hd t ⟨x.val / 64, by omega⟩) c ⟨x.val % 64, by omega⟩ j :=
  (stack4 (fun i => k0_pay83 (L.ks (hd t i) c) (L.kc (hd t i) c)) concatenates_S64x256_S64x256_S64x256_S64x256_S256x256_d0 x j).trans
    (deq_apply _ _ _ _)

theorem vTile_apply (c : Fin 16) (x : Fin 512) (j : Fin 256) :
    vTile L c (ix2 x j) = vAt L ⟨x.val / 64, by omega⟩ c ⟨x.val % 64, by omega⟩ j :=
  (stack8 (fun i => k0_pay83 (L.vs i c) (L.vc i c))
    concatenates_S64x256_S64x256_S64x256_S64x256_S64x256_S64x256_S64x256_S64x256_S512x256_d0 x j).trans (deq_apply _ _ _ _)

/-- The factor the scores are scaled by. -/
def scaleC : EReal := Ideal.ofBits .f32 0x3E000000#32

/-- The score of query row `r` of half `t` against token `j` of chunk `c`. -/
def scoreAt (t : Fin 2) (r : Fin 16) (c : Fin 16) (j : Fin 256) : EReal :=
  (∑ x : Fin 256, L.q t (ix4 (0 : Fin 1) (0 : Fin 1) r x) * kAt L (hd t ⟨x.val / 64, by omega⟩) c ⟨x.val % 64, by omega⟩ j) * scaleC

theorem sTile_apply (t : Fin 2) (c : Fin 16) (r : Fin 16) (j : Fin 256) : sTile L t c (ix2 r j) = scoreAt L t r c j := by
  unfold sTile scoreAt
  rw [mulf_apply]
  refine congrArg (· * scaleC) ?_
  rw [show dot_S16x256_S256x256_S16x256_1_0_0_1_n_n = DotDims.plain 16 256 256 from rfl]
  refine (Ideal.matmul_plain_apply _ _ _ _ _ _).trans ?_
  rw [show constant (F := Ideal) S16x256 .f32 0x00000000#32 (ix2 r j) = 0 from Ideal.ofBits_zero_f32, zero_add]
  refine Finset.sum_congr rfl fun x _ => ?_
  rw [kTile_apply, shapeCast_apply _ shapeCasts_S1x1x16x256_S16x256 (ix2 r x) (ix4 (0 : Fin 1) (0 : Fin 1) r x)
    (by rw [Shape.rowMajor_val_four, Shape.rowMajor_val_two]; show ((0 * 1 + 0) * 16 + r.val) * 256 + x.val = r.val * 256 + x.val; omega)]

/-- The value products of a chunk of tokens, for row `x` of the stacked values and query row `h`. -/
theorem pvTile_apply (c : Fin 16) (x : Fin 512) (h : Fin 32) :
    pvTile L c (ix2 x h) = ∑ j : Fin 256, vAt L ⟨x.val / 64, by omega⟩ c ⟨x.val % 64, by omega⟩ j * L.p c (ix2 h j) := by
  unfold pvTile
  rw [show dot_S512x256_S32x256_S512x32_1_1_0_0_n_n = DotDims.transposedRhs 512 256 32 from rfl]
  refine (Ideal.matmul_transposedRhs_apply _ _ _ _ _ _).trans ?_
  rw [show constant (F := Ideal) S512x32 .f32 0x00000000#32 (ix2 x h) = 0 from Ideal.ofBits_zero_f32, zero_add]
  exact Finset.sum_congr rfl fun j _ => by rw [vTile_apply]

theorem pvAt_apply (x : Fin 512) (h : Fin 32) : ∀ (n : ℕ) (hn : n < 16), pvAt L n hn (ix2 x h)
    = ∑ c : Fin (n + 1), pvTile L ⟨c.val, by omega⟩ (ix2 x h)
  | 0, _ => by rw [Fin.sum_univ_one]; rfl
  | n + 1, hn => by
    rw [Fin.sum_univ_castSucc]
    show pvAt L n (by omega) (ix2 x h) + pvTile L ⟨n + 1, hn⟩ (ix2 x h) = _
    rw [pvAt_apply x h n (by omega)]; rfl

/-- The value sum a step leaves: the old one rescaled, plus the step's value products. -/
theorem accNew_apply (x : Fin 512) (h : Fin 32) : accNew L (ix2 x h)
    = L.acc (ix2 x h) * L.al (ix2 (0 : Fin 8) h)
      + ∑ c : Fin 16, ∑ j : Fin 256, vAt L ⟨x.val / 64, by omega⟩ c ⟨x.val % 64, by omega⟩ j * L.p c (ix2 h j) := by
  unfold accNew
  show L.acc (ix2 x h) * _ + _ = _
  rw [pvAt_apply]
  refine congrArg₂ (· + ·) (congrArg (L.acc (ix2 x h) * ·) ?_) (Finset.sum_congr rfl fun c _ => pvTile_apply L c x h)
  rw [broadcastTo_apply _ broadcasts_S1x32_S512x32 (ix2 x h) (ix2 (0 : Fin 1) h)
    (fun a => by match a with | ⟨0, _⟩ => rfl | ⟨1, _⟩ => rfl)]
  exact extractStridedSlice_apply _ _ _ _ (ix2 (0 : Fin 8) h)
    (fun a => by match a with | ⟨0, _⟩ => rfl | ⟨1, _⟩ => exact (Nat.zero_add _).symm)

end Cert.Proof.Step

end
-- ==== Proof.StepRows.lean ====
/-
  The scores read back, the rows' maxima and sums, and the weights of a step in the extended reals.
-/
module

public import proofs.«01_k».proof.Proof.StepTiles
public import Idealize.ShloMosaic.Lib.WritesUnit
public import Idealize.ShloMosaic.Lib.VecWindow

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

variable (L : Loads Ideal)

/-- The score of query row `r` against token `x.2` of chunk `x.1`. -/
def scoreRow (r : Fin 32) (x : Fin 16 × Fin 256) : EReal := scoreAt L ⟨r.val / 16, by omega⟩ ⟨r.val % 16, by omega⟩ x.1 x.2

theorem neg_inf : (Ideal.ofBits .f32 0xFF800000#32 : EReal) = ⊥ := by simp [Ideal.ofBits, Ideal.ieee]

theorem mask_bot : (Named.named (F := Ideal) κ "mask" 0xF149F2CA#32 : Ideal .f32) = (⊥ : EReal) := rfl

/-- Reading the stored score tiles at an index one of them covers. -/
theorem read_sPieces (a15 : Memref sig .tc .vmem S32x4096 .f32) (r : Fin 32) (y : Fin 4096) : ∀ (n : ℕ) (hn : n ≤ 32),
    2 * (y.val / 256) + r.val / 16 < n →
    a15.view.read (Elt Ideal) (a15.view.writes (Elt Ideal) a15.view.junk (sPieces L n hn)) (ix2 r y)
      = scoreRow L r (⟨y.val / 256, by omega⟩, ⟨y.val % 256, by omega⟩)
  | 0, _, h => by omega
  | n + 1, hn, h => by
    have hy := y.isLt
    have hr := r.isLt
    by_cases e : 2 * (y.val / 256) + r.val / 16 = n
    · refine (View.read_writes_cons_unit_of_mem a15.view _ (sOff_inb ⟨n, hn⟩) _ _ (ix2 r y)
        (ix2 (⟨r.val % 16, by omega⟩ : Fin 16) (⟨y.val % 256, by omega⟩ : Fin 256)) rfl (fun a => ?_)).trans ?_
      · match a with
        | ⟨0, _⟩ => show r.val = 16 * (n % 2) + r.val % 16; omega
        | ⟨1, _⟩ => show y.val = 256 * (n / 2) + y.val % 256; omega
      · rw [shapeCast_self, sTile_apply]
        have e1 : (⟨n % 2, Nat.mod_lt _ (by decide)⟩ : Fin 2) = ⟨r.val / 16, by omega⟩ := Fin.ext (by show n % 2 = r.val / 16; omega)
        have e2 : (⟨n / 2, by omega⟩ : Fin 16) = ⟨y.val / 256, by omega⟩ := Fin.ext (by show n / 2 = y.val / 256; omega)
        rw [e1, e2]; rfl
    · have hlt : 2 * (y.val / 256) + r.val / 16 < n := by omega
      have hd : (ix2 r y 0).val < sOff ⟨n, hn⟩ 0 ∨ sOff ⟨n, hn⟩ 0 + S16x256.size 0 ≤ (ix2 r y 0).val
          ∨ (ix2 r y 1).val < sOff ⟨n, hn⟩ 1 ∨ sOff ⟨n, hn⟩ 1 + S16x256.size 1 ≤ (ix2 r y 1).val := by
        show r.val < 16 * (n % 2) ∨ 16 * (n % 2) + 16 ≤ r.val ∨ y.val < 256 * (n / 2) ∨ 256 * (n / 2) + 256 ≤ y.val
        omega
      rcases hd with hd | hd | hd | hd
      · exact (View.read_writes_cons_unit_of_not_mem a15.view _ (sOff_inb ⟨n, hn⟩) _ _ _ rfl 0 (.inl hd)).trans (read_sPieces a15 r y n _ hlt)
      · exact (View.read_writes_cons_unit_of_not_mem a15.view _ (sOff_inb ⟨n, hn⟩) _ _ _ rfl 0 (.inr hd)).trans (read_sPieces a15 r y n _ hlt)
      · exact (View.read_writes_cons_unit_of_not_mem a15.view _ (sOff_inb ⟨n, hn⟩) _ _ _ rfl 1 (.inl hd)).trans (read_sPieces a15 r y n _ hlt)
      · exact (View.read_writes_cons_unit_of_not_mem a15.view _ (sOff_inb ⟨n, hn⟩) _ _ _ rfl 1 (.inr hd)).trans (read_sPieces a15 r y n _ hlt)

theorem sLoad_apply (a15 : Memref sig .tc .vmem S32x4096 .f32) (c : Fin 16) (r : Fin 32) (j : Fin 256) :
    sLoad L a15 c (ix2 r j) = scoreRow L r (c, j) := by
  have hc := c.isLt
  have hj := j.isLt
  have hi : (Rect.unit (s := S32x4096) (pOff c) S32x256.size (pOff_inb c)).toLoadRect.idx (ix2 r j)
      = ix2 r (⟨256 * c.val + j.val, by omega⟩ : Fin 4096) := funext fun a => Fin.ext (by
    match a with
    | ⟨0, _⟩ => show 0 + 1 * r.val = r.val; omega
    | ⟨1, _⟩ => show 256 * c.val + 1 * j.val = 256 * c.val + j.val; omega)
  show a15.view.read (Elt Ideal) _ ((Rect.unit (s := S32x4096) (pOff c) S32x256.size (pOff_inb c)).toLoadRect.idx (ix2 r j)) = _
  rw [hi, read_sPieces L a15 r _ 32 (le_refl _) (by show 2 * ((256 * c.val + j.val) / 256) + r.val / 16 < 32; have := r.isLt; omega)]
  exact congrArg (scoreRow L r) (Prod.ext (Fin.ext (by show (256 * c.val + j.val) / 256 = c.val; omega))
    (Fin.ext (by show (256 * c.val + j.val) % 256 = j.val; omega)))

theorem mxAt_le (t : Fin 2) (r : Fin 16) (k : Fin 128) (b : EReal) : ∀ (n : ℕ) (hn : n ≤ 16), mxAt L t n hn (ix2 r k) ≤ b ↔
    ∀ c : Fin 16, c.val < n → scoreAt L t r c ⟨k.val, by omega⟩ ≤ b ∧ scoreAt L t r c ⟨128 + k.val, by omega⟩ ≤ b
  | 0, _ => ⟨fun _ c hc => absurd hc (by omega), fun _ => by
      rw [show mxAt L t 0 _ (ix2 r k) = (⊥ : EReal) from rfl]; exact bot_le⟩
  | n + 1, hn => by
    have e1 : extractStridedSlice S16x128 ![0, 0] (sTile L t ⟨n, hn⟩) slices_S16x256_o0_0_S16x128 (ix2 r k)
        = scoreAt L t r ⟨n, hn⟩ ⟨k.val, by omega⟩ :=
      (extractStridedSlice_apply _ _ _ _ (ix2 r (⟨k.val, by omega⟩ : Fin 256)) (fun a => by
        match a with | ⟨0, _⟩ => exact (Nat.zero_add _).symm | ⟨1, _⟩ => exact (Nat.zero_add _).symm)).trans (sTile_apply _ _ _ _ _)
    have e2 : extractStridedSlice S16x128 ![0, 128] (sTile L t ⟨n, hn⟩) slices_S16x256_o0_128_S16x128 (ix2 r k)
        = scoreAt L t r ⟨n, hn⟩ ⟨128 + k.val, by omega⟩ :=
      (extractStridedSlice_apply _ _ _ _ (ix2 r (⟨128 + k.val, by omega⟩ : Fin 256)) (fun a => by
        match a with | ⟨0, _⟩ => exact (Nat.zero_add _).symm | ⟨1, _⟩ => rfl)).trans (sTile_apply _ _ _ _ _)
    show max (max (mxAt L t n (by omega) (ix2 r k)) (extractStridedSlice S16x128 ![0, 0] (sTile L t ⟨n, hn⟩) slices_S16x256_o0_0_S16x128 (ix2 r k)))
      (extractStridedSlice S16x128 ![0, 128] (sTile L t ⟨n, hn⟩) slices_S16x256_o0_128_S16x128 (ix2 r k)) ≤ b ↔ _
    rw [e1, e2, max_le_iff, max_le_iff, mxAt_le t r k b n (by omega)]
    constructor
    · rintro ⟨⟨h, h1⟩, h2⟩ c hc
      rcases Nat.lt_succ_iff_lt_or_eq.mp hc with h' | h'
      · exact h c h'
      · rw [show c = ⟨n, hn⟩ from Fin.ext h']; exact ⟨h1, h2⟩
    · intro h
      exact ⟨⟨fun c hc => h c (by omega), (h ⟨n, hn⟩ (by show n < n + 1; omega)).1⟩, (h ⟨n, hn⟩ (by show n < n + 1; omega)).2⟩

/-- A row's reduction spread again over 128 lanes. -/
theorem spread_apply (v : FVec Ideal S32 .f32) (r : Fin 32) (k : Fin 128) :
    broadcastTo S32x128 (shapeCast S32x1 v shapeCasts_S32_S32x1) broadcasts_S32x1_S32x128 (ix2 r k) = v (ValueIdx.ix1 r) := by
  rw [broadcastTo_apply _ broadcasts_S32x1_S32x128 (ix2 r k) (ix2 r (0 : Fin 1))
    (fun a => by match a with | ⟨0, _⟩ => rfl | ⟨1, _⟩ => rfl)]
  exact shapeCast_apply v shapeCasts_S32_S32x1 _ (ValueIdx.ix1 r)
    (by rw [Shape.rowMajor_val_one, Shape.rowMajor_val_two]; show r.val = r.val * 1 + 0; omega)

theorem lift32 (r : Fin 32) (k : Fin 128) : reduces_S32x128_S32.lift (ValueIdx.ix1 r) k = ix2 r k :=
  funext fun a => Fin.ext ((Shape.Reduces.lift_val _ _ _ _).trans (by match a with | ⟨0, _⟩ => rfl | ⟨1, _⟩ => rfl))

theorem rowMax_apply (r : Fin 32) (k : Fin 128) : rowMax L (ix2 r k) = Finset.univ.sup (scoreRow L r) := by
  refine eq_of_forall_ge_iff fun b => ?_
  unfold rowMax
  rw [spread_apply]
  refine (iff_of_eq (congrArg (fun z : EReal => z ≤ b) (Ideal.multiReduction_maximumf_single _ _ _ _ _ _))).trans ?_
  refine (Finset.fold_max_le (s := (Finset.univ : Finset (Fin 128))) b).trans ?_
  rw [Finset.sup_le_iff]
  have hb : (FloatOps.ofBits (F := Ideal) .f32 0xFF800000#32 : EReal) ≤ b := by
    rw [show (FloatOps.ofBits (F := Ideal) .f32 0xFF800000#32 : EReal) = ⊥ from neg_inf]; exact bot_le
  have hf (k : Fin 128) : (concatenate S32x128 0 [⟨S16x128, mxAt L 0 16 (le_refl _)⟩, ⟨S16x128, mxAt L 1 16 (le_refl _)⟩]
      concatenates_S16x128_S16x128_S32x128_d0 ∘ reduces_S32x128_S32.lift (ValueIdx.ix1 r)) k
      = mxAt L ⟨r.val / 16, by omega⟩ 16 (le_refl _) (ix2 (⟨r.val % 16, by omega⟩ : Fin 16) k) := by
    refine (congrArg (concatenate S32x128 0 _ _) (lift32 r k)).trans ?_
    exact stack2 (fun t => mxAt L t 16 (le_refl _)) _ r k
  constructor
  · rintro ⟨_, h⟩ ⟨c, j⟩ _
    by_cases hj : j.val < 128
    · exact (((mxAt_le L _ _ ⟨j.val, hj⟩ b 16 (le_refl _)).mp ((hf _).symm.le.trans (h ⟨j.val, hj⟩ (Finset.mem_univ _)))) c c.isLt).1
    · have := (((mxAt_le L _ _ ⟨j.val - 128, by omega⟩ b 16 (le_refl _)).mp
        ((hf _).symm.le.trans (h ⟨j.val - 128, by omega⟩ (Finset.mem_univ _)))) c c.isLt).2
      have e : (⟨128 + (j.val - 128), by omega⟩ : Fin 256) = j := Fin.ext (by show 128 + (j.val - 128) = j.val; omega)
      exact (congrArg (scoreAt L _ _ c) e).symm.le.trans this
  · intro h
    refine ⟨hb, fun k _ => (hf k).le.trans ((mxAt_le L _ _ k b 16 (le_refl _)).mpr fun c _ => ⟨?_, ?_⟩)⟩
    · exact h (c, ⟨k.val, by omega⟩) (Finset.mem_univ _)
    · exact h (c, ⟨128 + k.val, by omega⟩) (Finset.mem_univ _)

variable (kf kl : BitVec 1)

theorem mNew_apply (i : S32x128.Idx) (r : Fin 32) (k : Fin 128) (hi : i = ix2 r k) :
    mNew L kf kl i = max (max (mOld L kf i) (Finset.univ.sup (scoreRow L r))) (snNew L kl i) := by
  subst hi
  show max (max (mOld L kf (ix2 r k)) (rowMax L (ix2 r k))) (snNew L kl (ix2 r k)) = _
  rw [rowMax_apply]

theorem alpha_apply (i : S32x128.Idx) : alpha L kf kl i = Ideal.exp (mOld L kf i - mNew L kf kl i) := rfl
theorem pNew_apply (i : S32x128.Idx) : pNew L kf kl i = Ideal.exp (snNew L kl i - mNew L kf kl i) := rfl

theorem mOld_one : mOld L 1#1 = fun _ => (⊥ : EReal) := rfl
theorem mOld_zero : mOld L 0#1 = L.m := rfl
theorem lOld_one : lOld L 1#1 = fun _ => (0 : EReal) := funext fun _ => Ideal.ofBits_zero_f32
theorem lOld_zero : lOld L 0#1 = L.l := rfl
theorem snNew_one : snNew L 1#1 = L.sn := rfl
theorem snNew_zero : snNew L 0#1 = fun _ => (⊥ : EReal) := rfl

theorem pTile_apply (s : Vec Ideal S32x256 .f32) (r : Fin 32) (j : Fin 256) :
    pTile L kf kl s (ix2 r j) = Ideal.exp (s (ix2 r j) - mNew L kf kl (ix2 r (0 : Fin 128))) := by
  show Ideal.exp (s (ix2 r j) - _) = _
  rw [broadcastTo_apply _ broadcasts_S32x1_S32x256 (ix2 r j) (ix2 r (0 : Fin 1))
    (fun a => by match a with | ⟨0, _⟩ => rfl | ⟨1, _⟩ => rfl)]
  rw [extractStridedSlice_apply _ _ _ _ (ix2 r (0 : Fin 128))
    (fun a => by match a with | ⟨0, _⟩ => exact (Nat.zero_add _).symm | ⟨1, _⟩ => rfl)]

theorem psumAt_apply (s : Fin 16 → Vec Ideal S32x256 .f32) (r : Fin 32) (k : Fin 128) : ∀ (n : ℕ) (hn : n ≤ 16),
    psumAt L kf kl s n hn (ix2 r k) = ∑ c : Fin n, (pTile L kf kl (s ⟨c.val, by omega⟩) (ix2 r (⟨k.val, by omega⟩ : Fin 256))
      + pTile L kf kl (s ⟨c.val, by omega⟩) (ix2 r (⟨128 + k.val, by omega⟩ : Fin 256)))
  | 0, _ => by rw [Fin.sum_univ_zero]; exact Ideal.ofBits_zero_f32
  | n + 1, hn => by
    rw [Fin.sum_univ_castSucc, ← add_assoc]
    show psumAt L kf kl s n (by omega) (ix2 r k) + _ + _ = _
    rw [psumAt_apply s r k n (by omega)]
    rw [extractStridedSlice_apply _ _ _ _ (ix2 r (⟨k.val, by omega⟩ : Fin 256))
      (fun a => by match a with | ⟨0, _⟩ => exact (Nat.zero_add _).symm | ⟨1, _⟩ => exact (Nat.zero_add _).symm)]
    rw [extractStridedSlice_apply _ _ _ _ (ix2 r (⟨128 + k.val, by omega⟩ : Fin 256))
      (fun a => by match a with | ⟨0, _⟩ => exact (Nat.zero_add _).symm | ⟨1, _⟩ => rfl)]
    rfl

theorem lNew_apply (a15 : Memref sig .tc .vmem S32x4096 .f32) (r : Fin 32) (k : Fin 128) :
    lNew L kf kl (sLoad L a15) (ix2 r k) = alpha L kf kl (ix2 r k) * lOld L kf (ix2 r k)
      + ∑ x, Ideal.exp (scoreRow L r x - mNew L kf kl (ix2 r (0 : Fin 128))) + pNew L kf kl (ix2 r k) := by
  unfold lNew
  show alpha L kf kl (ix2 r k) * lOld L kf (ix2 r k) + _ + pNew L kf kl (ix2 r k) = _
  refine congrArg (· + pNew L kf kl (ix2 r k)) (congrArg (alpha L kf kl (ix2 r k) * lOld L kf (ix2 r k) + ·) ?_)
  rw [spread_apply]
  refine (Ideal.multiReduction_add_single _ _ _ _ _ _).trans ?_
  have h1 (k : Fin 128) : psumAt L kf kl (sLoad L a15) 16 (le_refl _) (reduces_S32x128_S32.lift (ValueIdx.ix1 r) k)
      = ∑ c : Fin 16, (Ideal.exp (scoreRow L r (c, ⟨k.val, by omega⟩) - mNew L kf kl (ix2 r (0 : Fin 128)))
        + Ideal.exp (scoreRow L r (c, ⟨128 + k.val, by omega⟩) - mNew L kf kl (ix2 r (0 : Fin 128)))) := by
    rw [lift32, psumAt_apply]
    exact Finset.sum_congr rfl fun c _ => by rw [pTile_apply, pTile_apply, sLoad_apply, sLoad_apply]
  refine (Finset.sum_congr rfl fun k _ => h1 k).trans ?_
  refine (Finset.sum_comm (s := (Finset.univ : Finset (Fin 128)))).trans ?_
  rw [Fintype.sum_prod_type]
  refine Finset.sum_congr rfl fun c _ => ?_
  rw [Finset.sum_add_distrib]
  exact (Fin.sum_univ_add (a := 128) (b := 128)
    (fun j : Fin (128 + 128) => Ideal.exp (scoreRow L r (c, j) - mNew L kf kl (ix2 r (0 : Fin 128))))).symm

theorem alStored_apply (a : Fin 8) (r : Fin 32) : alStored L kf kl (ix2 a r) = alpha L kf kl (ix2 r (⟨a.val, by omega⟩ : Fin 128)) := by
  unfold alStored
  rw [shapeCast_self, extractStridedSlice_apply _ _ _ _ (ix2 (⟨a.val, by omega⟩ : Fin 128) r)
      (fun a => by match a with | ⟨0, _⟩ => exact (Nat.zero_add _).symm | ⟨1, _⟩ => exact (Nat.zero_add _).symm)]
  exact transpose_ix2_apply _ _ _ _

/-- Reading the stored weights. -/
theorem read_pPieces (a15 : Memref sig .tc .vmem S32x4096 .f32) (a16 : Memref sig .tc .vmem S32x4096 .bf16)
    (B : List (View.Piece (Elt Ideal) S32x4096 .bf16)) (r : Fin 32) (y : Fin 4096) : ∀ (n : ℕ) (hn : n ≤ 16),
    y.val / 256 < n →
    a16.view.read (Elt Ideal) (a16.view.writes (Elt Ideal) a16.view.junk (pPieces L kf kl (sLoad L a15) B n hn)) (ix2 r y)
      = Ideal.exp (scoreRow L r (⟨y.val / 256, by omega⟩, ⟨y.val % 256, by omega⟩) - mNew L kf kl (ix2 r (0 : Fin 128)))
  | 0, _, h => by omega
  | n + 1, hn, h => by
    have hy := y.isLt
    by_cases e : y.val / 256 = n
    · refine (View.read_writes_cons_unit_of_mem a16.view _ (pOff_inb ⟨n, hn⟩) _ _ (ix2 r y)
        (ix2 r (⟨y.val % 256, by omega⟩ : Fin 256)) rfl (fun a => ?_)).trans ?_
      · match a with
        | ⟨0, _⟩ => show r.val = 0 + r.val; omega
        | ⟨1, _⟩ => show y.val = 256 * n + y.val % 256; omega
      · rw [shapeCast_self]
        show pTile L kf kl (sLoad L a15 ⟨n, hn⟩) (ix2 r (⟨y.val % 256, by omega⟩ : Fin 256)) = _
        rw [pTile_apply, sLoad_apply]
        have e2 : (⟨n, hn⟩ : Fin 16) = ⟨y.val / 256, by omega⟩ := Fin.ext e.symm
        rw [e2]
    · have hlt : y.val / 256 < n := by omega
      refine (View.read_writes_cons_unit_of_not_mem a16.view _ (pOff_inb ⟨n, hn⟩) _ _ _ rfl 1 (.inl ?_)).trans (read_pPieces a15 a16 B r y n _ hlt)
      show y.val < 256 * n
      omega

end Cert.Proof.Step

end
-- ==== Proof.Batch.lean ====
/-
  What the points that start a batch compute besides the step itself, in closed form: the quantised new keys and values,
  the new tokens' scores, and the finished output of the batch before.
-/
module

public import proofs.«01_k».proof.Proof.Step

@[expose] public section

noncomputable section

namespace Cert.Proof.Step

open Cert.KernelIdeal Cert.KernelIdeal.Gen
open Idealize.ShloMosaic Idealize.ShloMosaic.TcCoe

variable {F : FTy → Type} [FloatOps F] [Named F]

/-- The largest magnitude of head `h`'s new row, by batch. -/
def headMax (x : Vec F S8x512 .bf16) (h : ℕ) : FVec F S8x1 .f32 :=
  shapeCast S8x1 (multiReduction .maximumf [1] S8
    (select (cmpi .eq k0_pay1 (broadcast S8x512 (BitVec.ofNat 32 h))) (k0_pay3 x) (broadcast S8x512 (Scalar.ofBits .f32 0x00000000#32)))
    0xFF800000#32 reduces_S8x512_S8 (.inl rfl) rfl) shapeCasts_S8_S8x1

/-- The scale of head `h`'s new row, by batch. -/
def headScale (x : Vec F S8x512 .bf16) (h : ℕ) : FVec F S8x1 .f32 :=
  select (cmpf .ogt (headMax x h) (broadcast S8x1 (Scalar.ofBits .f32 0x00000000#32)))
    (divf (headMax x h) (broadcast S8x1 (Scalar.ofBits .f32 0x42FE0000#32)))
    (broadcast S8x1 (Scalar.ofBits .f32 0x3F800000#32))

/-- The scales of the first `n` heads, laid on the lanes of their rows. -/
def laneScale (x : Vec F S8x512 .bf16) : ℕ → FVec F S8x512 .f32
  | 0 => broadcast S8x512 (Scalar.ofBits .f32 0x00000000#32)
  | n + 1 => select (cmpi .eq k0_pay1 (broadcast S8x512 (BitVec.ofNat 32 n)))
      (broadcastTo S8x512 (shapeCast S8x1 (headScale x n) shapeCasts_S8x1_S8x1) broadcasts_S8x1_S8x512) (laneScale x n)

/-- The scales of the first `n` heads, one lane each. -/
def outScale (x : Vec F S8x512 .bf16) : ℕ → FVec F S8x8 .f32
  | 0 => broadcast S8x8 (Scalar.ofBits .f32 0x00000000#32)
  | n + 1 => select (cmpi .eq (iota .tc S8x8 32 [1] iota_S8x8_d1_w32) (broadcast S8x8 (BitVec.ofNat 32 n)))
      (broadcastTo S8x8 (shapeCast S8x1 (headScale x n) shapeCasts_S8x1_S8x1) broadcasts_S8x1_S8x8) (outScale x n)

/-- The codes before they are made integers. -/
def codesF (x : Vec F S8x512 .bf16) : FVec F S8x512 .f32 :=
  minimumf (broadcast S8x512 (Scalar.ofBits .f32 0x42FE0000#32))
    (maximumf (broadcast S8x512 (Scalar.ofBits .f32 0xC2FE0000#32)) (roundeven (divf (k0_pay2 x) (laneScale x 8))))

def codes (x : Vec F S8x512 .bf16) : IVec S8x512 8 := fptosi 8 (codesF x)

/-- The new rows as their codes and scales give them back. -/
def newDeq (x : Vec F S8x512 .bf16) : FVec F S8x512 .f32 :=
  shapeCast S8x512 (extf .f32 (mulf (truncf .bf16 (codesF x) bitsLt_bf16_f32) (truncf .bf16 (laneScale x 8) bitsLt_bf16_f32))
    bitsLt_bf16_f32) shapeCasts_S8x512_S8x512

def rdNew (c : Dev nD) (a : Memref sig .tc .vmem S8x512 .bf16) (f : Cert.Proof.KernelIdealRun.Bf (F := F) c a) : Vec F S8x512 .bf16 :=
  View.readAt (Elt F) a.view (Rect.unit (s := S8x512) ![0, 0] S8x512.size inb_S8x512_S8x512_0_0).toLoadRect f

/-- The new token's scores as stored, from the two halves of the query and the batch's new key row. -/
def snPieces (q : Fin 2 → Vec F S1x1x16x256 .bf16) (row : Vec F S1x512 .f32) : List (View.Piece (Elt F) S32x128 .f32) :=
  [⟨Rect.unit (s := S32x128) ![16, 0] S16x128.size inb_S32x128_S16x128_16_0, k0_pay78 row (k0_pay71 (q 1))⟩,
   ⟨Rect.unit (s := S32x128) ![0, 0] S16x128.size inb_S32x128_S16x128_0_0, k0_pay70 row (q 0)⟩]

/-- A batch's output as stored, from the finished value sums, the new token's weight and value row, and the sum of weights. -/
def yStored (acc : FVec F S512x32 .f32) (pn : Vec F S32x1 .f32) (row : Vec F S1x512 .f32) (lf : Vec F S32x1 .f32) :
    FVec F S1x32x64 .bf16 :=
  shapeCast S1x32x64 (truncf .bf16 (extractStridedSlice S32x64 ![0, 0]
    (k0_pay75 (k0_pay72 acc pn row lf) (iota .tc S32x512 32 [0] iota_S32x512_d0_w32) 4#32 k0_pay73 k0_pay74
      (Scalar.extui (Scalar.cmpi .sgt 4#32 0#32)) (Scalar.cmpi .slt 4#32 0#32))
    slices_S32x128_o0_0_S32x64) bitsLt_bf16_f32) shapeCasts_S32x64_S1x32x64

def rdCol (c : Dev nD) (a : Memref sig .tc .vmem S32x128 .f32) (f : Cert.Proof.KernelIdealRun.Bf (F := F) c a) : Vec F S32x1 .f32 :=
  View.readAt (Elt F) a.view (Rect.unit (s := S32x128) ![0, 0] S32x1.size inb_S32x128_S32x1_0_0).toLoadRect f

end Cert.Proof.Step

end
-- ==== Proof.Spec.lean ====
/-
  The mathematics both sides compute, entry by entry, in the extended reals: a row's scale and its codes.
-/
module

public import Idealize.ShloMosaic.PureOps.Ideal.Laws

@[expose] public section

noncomputable section

namespace Cert.Proof.Spec

open Idealize.ShloMosaic

/-- A number an int8 code stands for. -/
abbrev num (b : BitVec 8) : EReal := ((b.toInt : ℝ) : EReal)

/-- The greatest magnitude of a row. -/
def quantM {ι : Type} [Fintype ι] (f : ι → EReal) : EReal := Finset.univ.sup fun d => max (f d) (-(f d))

/-- The scale of a row whose greatest magnitude is `M`. -/
def quantS (M : EReal) : EReal :=
  Scalar.select (Ideal.cmp .ogt M (Ideal.ofBits .f32 0x00000000#32)) (Ideal.div M (Ideal.ofBits .f32 0x42FE0000#32))
    (Ideal.ofBits .f32 0x3F800000#32)

/-- An entry `v` over its scale `s`, rounded and clamped. -/
def quantF (v s : EReal) : EReal :=
  min (Ideal.ofBits .f32 0x42FE0000#32) (max (Ideal.ofBits .f32 0xC2FE0000#32) (Ideal.liftRound Ideal.roundHalfEven (Ideal.div v s)))

theorem ofBits_127 : Ideal.ofBits .f32 0x42FE0000#32 = (((127 : ℤ) : ℝ) : EReal) := by
  simp [Ideal.ofBits, Ideal.ieee]; rw [← EReal.coe_mul]; norm_num

theorem ofBits_neg_127 : Ideal.ofBits .f32 0xC2FE0000#32 = (((-127 : ℤ) : ℝ) : EReal) := by
  simp [Ideal.ofBits, Ideal.ieee]; rw [← EReal.coe_mul]; norm_num

theorem mono_int : Monotone fun z : ℤ => ((z : ℝ) : EReal) := fun a b h => EReal.coe_le_coe_iff.mpr (Int.cast_le.mpr h)

/-- A rounded and clamped entry is a whole number of magnitude at most 127. -/
theorem quantF_int (v s : EReal) : ∃ z : ℤ, -127 ≤ z ∧ z ≤ 127 ∧ quantF v s = ((z : ℝ) : EReal) := by
  unfold quantF
  rw [ofBits_127, ofBits_neg_127]
  induction Ideal.div v s using EReal.rec with
  | bot => exact ⟨-127, by norm_num, by norm_num, by
      rw [show Ideal.liftRound Ideal.roundHalfEven ⊥ = ⊥ from rfl, max_bot_right, min_eq_right (mono_int (by norm_num))]⟩
  | top => exact ⟨127, by norm_num, by norm_num, by
      rw [show Ideal.liftRound Ideal.roundHalfEven ⊤ = ⊤ from rfl, max_top_right, min_top_right]⟩
  | coe r => exact ⟨min 127 (max (-127) (Ideal.roundHalfEven r)), by omega, by omega, by
      rw [show Ideal.liftRound Ideal.roundHalfEven (r : EReal) = ((Ideal.roundHalfEven r : ℝ) : EReal) from rfl]
      rw [mono_int.map_min, mono_int.map_max]⟩

/-- Its code stands for it. -/
theorem num_code (v s : EReal) : num (Ideal.fptosi 8 (quantF v s)) = quantF v s := by
  obtain ⟨z, h1, h2, h⟩ := quantF_int v s
  rw [h]
  have e : Ideal.toIntClamped (-(2 ^ (8 - 1) : Nat)) ((2 ^ (8 - 1) : Nat) - 1) ((z : ℝ) : EReal) = z := by
    show max _ (min _ (if 0 ≤ (z : ℝ) then ⌊(z : ℝ)⌋ else ⌈(z : ℝ)⌉)) = z
    rw [Int.floor_intCast, Int.ceil_intCast, ite_self]
    norm_num
    omega
  unfold Ideal.fptosi
  rw [e]
  have : (BitVec.ofInt 8 z).toInt = z := by
    rw [BitVec.toInt_ofInt]
    exact Int.bmod_eq_of_le (by norm_num; omega) (by norm_num; omega)
  show (((BitVec.ofInt 8 z).toInt : ℝ) : EReal) = _
  rw [this]

end Cert.Proof.Spec

end
-- ==== Proof.BatchIdeal.lean ====
/-
  The quantised new rows, the new tokens' scores and a batch's output, entry by entry, in the extended reals.
-/
module

public import proofs.«01_k».proof.Proof.StepRows
public import proofs.«01_k».proof.Proof.Batch
public import proofs.«01_k».proof.Proof.Spec
public import Idealize.ShloMosaic.Lib.KernelVsHost

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.Spec (quantM quantS quantF)

theorem pay1_apply : ∀ (b : Fin 8) (l : Fin 512), k0_pay1 (ix2 b l) = BitVec.ofNat 32 (l.val / 64) := by decide +kernel

theorem cmp_ofNat : ∀ (a b : Fin 8), Scalar.cmpi .eq (BitVec.ofNat 32 a.val) (BitVec.ofNat 32 b.val) = BitVec.ofBool (decide (a = b)) := by
  decide +kernel

theorem lane_eq (b : Fin 8) (l : Fin 512) (h : ℕ) (hh : h < 8) :
    cmpi .eq k0_pay1 (broadcast S8x512 (BitVec.ofNat 32 h)) (ix2 b l) = BitVec.ofBool (decide (l.val / 64 = h)) := by
  show Scalar.cmpi .eq (k0_pay1 (ix2 b l)) (BitVec.ofNat 32 h) = _
  rw [pay1_apply]
  refine (cmp_ofNat ⟨l.val / 64, by omega⟩ ⟨h, hh⟩).trans ?_
  simp [Fin.ext_iff]

theorem select_bool {α : Type} (p : Prop) [Decidable p] (a b : α) : Scalar.select (BitVec.ofBool (decide p)) a b = if p then a else b := by
  by_cases h : p <;> simp [h, Scalar.select]

theorem lift512 (b : Fin 8) (l : Fin 512) : reduces_S8x512_S8.lift (ValueIdx.ix1 b) l = ix2 b l :=
  funext fun a => Fin.ext ((Shape.Reduces.lift_val _ _ _ _).trans (by match a with | ⟨0, _⟩ => rfl | ⟨1, _⟩ => rfl))

variable (x : Vec Ideal S8x512 .bf16)

/-- Head `h`'s new row of batch `b`. -/
def headRow (b : Fin 8) (h : Fin 8) (d : Fin 64) : EReal := x (ix2 b (⟨64 * h.val + d.val, by omega⟩ : Fin 512))

theorem pay2_apply (i : S8x512.Idx) : k0_pay2 (F := Ideal) x i = x i := by
  dsimp only [k0_pay2]
  rw [shapeCast_self]; rfl

theorem headMax_apply (b h : Fin 8) (z : Fin 1) : headMax x h.val (ix2 b z) = quantM (headRow x b h) := by
  unfold headMax
  rw [shapeCast_apply _ shapeCasts_S8_S8x1 (ix2 b z) (ValueIdx.ix1 b)
    (by rw [Shape.rowMajor_val_one, Shape.rowMajor_val_two]; show b.val = b.val * 1 + z.val; omega)]
  have hf (l : Fin 512) : (select (cmpi .eq k0_pay1 (broadcast S8x512 (BitVec.ofNat 32 h.val))) (k0_pay3 x)
      (broadcast S8x512 (Scalar.ofBits .f32 0x00000000#32))) (reduces_S8x512_S8.lift (ValueIdx.ix1 b) l)
      = if l.val / 64 = h.val then max (x (ix2 b l)) (-(x (ix2 b l))) else (0 : EReal) := by
    refine (congrArg (select _ _ _) (lift512 b l)).trans ?_
    show Scalar.select (cmpi .eq k0_pay1 (broadcast S8x512 (BitVec.ofNat 32 h.val)) (ix2 b l)) (k0_pay3 x (ix2 b l))
      (Ideal.ofBits .f32 0x00000000#32 : EReal) = _
    rw [lane_eq b l h.val h.isLt, select_bool, Ideal.ofBits_zero_f32]
    show (if _ then max (k0_pay2 x (ix2 b l) : EReal) (-(k0_pay2 x (ix2 b l) : EReal)) else (0 : EReal)) = _
    rw [pay2_apply]
  refine eq_of_forall_ge_iff fun c => ?_
  refine (iff_of_eq (congrArg (fun z : EReal => z ≤ c) (Ideal.multiReduction_maximumf_single _ _ _ _ _ _))).trans ?_
  refine (Finset.fold_max_le (s := (Finset.univ : Finset (Fin 512))) c).trans ?_
  unfold quantM
  rw [Finset.sup_le_iff]
  constructor
  · rintro ⟨_, H⟩ d _
    have := H ⟨64 * h.val + d.val, by omega⟩ (Finset.mem_univ _)
    refine le_trans (le_of_eq ?_) this
    refine Eq.symm ((hf ⟨64 * h.val + d.val, by omega⟩).trans ?_)
    rw [if_pos (by show (64 * h.val + d.val) / 64 = h.val; omega)]; rfl
  · intro H
    refine ⟨by rw [show (FloatOps.ofBits (F := Ideal) .f32 0xFF800000#32 : EReal) = ⊥ from neg_inf]; exact bot_le, fun l _ => ?_⟩
    refine (hf l).le.trans ?_
    have h0 : (0 : EReal) ≤ c := by
      refine le_trans ?_ (H 0 (Finset.mem_univ _))
      rcases le_total (0 : EReal) (headRow x b h 0) with h' | h'
      · exact h'.trans (le_max_left _ _)
      · exact (EReal.neg_nonneg.mpr h').trans (le_max_right _ _)
    split
    · next e =>
      have := H ⟨l.val % 64, by omega⟩ (Finset.mem_univ _)
      have e2 : (⟨64 * h.val + l.val % 64, by omega⟩ : Fin 512) = l := Fin.ext (by show 64 * h.val + l.val % 64 = l.val; omega)
      unfold headRow at this
      rw [show (⟨64 * h.val + (⟨l.val % 64, by omega⟩ : Fin 64).val, by omega⟩ : Fin 512) = l from e2] at this
      exact this
    · exact h0

theorem headScale_apply (b h : Fin 8) (z : Fin 1) : headScale x h.val (ix2 b z) = quantS (quantM (headRow x b h)) := by
  show Scalar.select (Ideal.cmp .ogt (headMax x h.val (ix2 b z)) (Ideal.ofBits .f32 0x00000000#32))
    (Ideal.div (headMax x h.val (ix2 b z)) (Ideal.ofBits .f32 0x42FE0000#32)) (Ideal.ofBits .f32 0x3F800000#32 : EReal) = _
  rw [headMax_apply]; rfl

theorem laneScale_apply (b : Fin 8) (l : Fin 512) : ∀ n, n ≤ 8 → l.val / 64 < n →
    laneScale x n (ix2 b l) = quantS (quantM (headRow x b ⟨l.val / 64, by omega⟩))
  | 0, _, h => absurd h (by omega)
  | n + 1, hn, h => by
    show Scalar.select (cmpi .eq k0_pay1 (broadcast S8x512 (BitVec.ofNat 32 n)) (ix2 b l)) _ (laneScale x n (ix2 b l)) = _
    rw [lane_eq b l n (by omega), select_bool]
    split
    · next e =>
      rw [broadcastTo_apply _ broadcasts_S8x1_S8x512 (ix2 b l) (ix2 b (0 : Fin 1))
        (fun a => by match a with | ⟨0, _⟩ => rfl | ⟨1, _⟩ => rfl), shapeCast_self]
      have := headScale_apply x b ⟨l.val / 64, by omega⟩ 0
      rw [show ((⟨l.val / 64, by omega⟩ : Fin 8)).val = n from e] at this
      exact this
    · exact laneScale_apply b l n (by omega) (by omega)

theorem outScale_apply (b h : Fin 8) : ∀ n, n ≤ 8 → h.val < n →
    outScale x n (ix2 b h) = quantS (quantM (headRow x b h))
  | 0, _, e => absurd e (by omega)
  | n + 1, hn, e => by
    show Scalar.select (Scalar.cmpi .eq (iota .tc S8x8 32 [1] iota_S8x8_d1_w32 (ix2 b h)) (BitVec.ofNat 32 n)) _ (outScale x n (ix2 b h)) = _
    rw [show iota .tc S8x8 32 [1] iota_S8x8_d1_w32 (ix2 b h) = BitVec.ofNat 32 h.val from
      congrArg (BitVec.ofNat 32) (by show 0 * 8 + h.val = h.val; omega)]
    rw [show Scalar.cmpi .eq (BitVec.ofNat 32 h.val) (BitVec.ofNat 32 n) = _ from cmp_ofNat h ⟨n, by omega⟩, select_bool]
    split
    · next e' =>
      rw [broadcastTo_apply _ broadcasts_S8x1_S8x8 (ix2 b h) (ix2 b (0 : Fin 1))
        (fun a => by match a with | ⟨0, _⟩ => rfl | ⟨1, _⟩ => rfl), shapeCast_self]
      have := headScale_apply x b h 0
      rw [show h.val = n from congrArg Fin.val e'] at this
      exact this
    · next e' => exact outScale_apply b h n (by omega) (by have : h.val ≠ n := fun q => e' (Fin.ext q); omega)

/-- The code of a new entry before it is made an integer. -/
theorem codesF_apply (b : Fin 8) (l : Fin 512) :
    codesF x (ix2 b l) = quantF (x (ix2 b l)) (quantS (quantM (headRow x b ⟨l.val / 64, by omega⟩))) := by
  show min _ (max _ (Ideal.liftRound Ideal.roundHalfEven (Ideal.div (k0_pay2 x (ix2 b l)) (laneScale x 8 (ix2 b l))))) = _
  rw [pay2_apply, laneScale_apply x b l 8 (le_refl _) (by omega)]
  rfl

theorem codes_apply (b : Fin 8) (l : Fin 512) :
    codes x (ix2 b l) = Ideal.fptosi 8 (quantF (x (ix2 b l)) (quantS (quantM (headRow x b ⟨l.val / 64, by omega⟩)))) := by
  rw [← codesF_apply]; rfl

theorem newDeq_apply (b : Fin 8) (l : Fin 512) : newDeq x (ix2 b l)
    = quantF (x (ix2 b l)) (quantS (quantM (headRow x b ⟨l.val / 64, by omega⟩))) * quantS (quantM (headRow x b ⟨l.val / 64, by omega⟩)) := by
  unfold newDeq
  rw [shapeCast_self]
  show codesF x (ix2 b l) * laneScale x 8 (ix2 b l) = _
  rw [codesF_apply, laneScale_apply x b l 8 (le_refl _) (by omega)]

/-! ### The new token's scores -/

theorem lift256 (r : Fin 16) (l : Fin 256) : reduces_S16x256_S16.lift (ValueIdx.ix1 r) l = ix2 r l :=
  funext fun a => Fin.ext ((Shape.Reduces.lift_val _ _ _ _).trans (by match a with | ⟨0, _⟩ => rfl | ⟨1, _⟩ => rfl))

variable (q : Fin 2 → Vec Ideal S1x1x16x256 .bf16) (row : Vec Ideal S1x512 .f32)

/-- The new token's score of query row `r`. -/
def newScore (t : Fin 2) (r : Fin 16) : EReal :=
  (∑ l : Fin 256, q t (ix4 (0 : Fin 1) (0 : Fin 1) r l) * row (ix2 (0 : Fin 1) (⟨256 * t.val + l.val, by omega⟩ : Fin 512))) * scaleC

theorem spread16 (v : FVec Ideal S16 .f32) (r : Fin 16) (k : Fin 128) (c : Ideal .f32) :
    broadcastTo S16x128 (shapeCast S16x1 (mulf (shapeCast S16x1 v shapeCasts_S16_S16x1) (broadcast S16x1 c)) shapeCasts_S16x1_S16x1)
      broadcasts_S16x1_S16x128 (ix2 r k) = (v (ValueIdx.ix1 r) * c : EReal) := by
  rw [broadcastTo_apply _ broadcasts_S16x1_S16x128 (ix2 r k) (ix2 r (0 : Fin 1))
    (fun a => by match a with | ⟨0, _⟩ => rfl | ⟨1, _⟩ => rfl), shapeCast_self]
  show (shapeCast S16x1 v shapeCasts_S16_S16x1 (ix2 r (0 : Fin 1)) * c : EReal) = _
  rw [shapeCast_apply v shapeCasts_S16_S16x1 _ (ValueIdx.ix1 r)
    (by rw [Shape.rowMajor_val_one, Shape.rowMajor_val_two]; show r.val = r.val * 1 + 0; omega)]

theorem qcast (t : Fin 2) (r : Fin 16) (l : Fin 256) :
    shapeCast S16x256 (q t) shapeCasts_S1x1x16x256_S16x256 (ix2 r l) = q t (ix4 (0 : Fin 1) (0 : Fin 1) r l) :=
  shapeCast_apply _ shapeCasts_S1x1x16x256_S16x256 (ix2 r l) (ix4 (0 : Fin 1) (0 : Fin 1) r l)
    (by rw [Shape.rowMajor_val_four, Shape.rowMajor_val_two]; show ((0 * 1 + 0) * 16 + r.val) * 256 + l.val = r.val * 256 + l.val; omega)

theorem pay70_apply (r : Fin 16) (k : Fin 128) : k0_pay70 row (q 0) (ix2 r k) = newScore q row 0 r := by
  dsimp only [k0_pay70]
  rw [shapeCast_self, spread16]
  refine congrArg (fun z : EReal => z * scaleC) ((Ideal.multiReduction_add_single _ _ _ _ _ _).trans (Finset.sum_congr (s₁ := (Finset.univ : Finset (Fin 256))) rfl fun (l : Fin 256) _ => ?_))
  refine (congrArg (mulf _ _) (lift256 r l)).trans ?_
  show (shapeCast S16x256 (q 0) shapeCasts_S1x1x16x256_S16x256 (ix2 r l) * broadcastTo S16x256 _ broadcasts_S1x256_S16x256 (ix2 r l) : EReal) = _
  rw [qcast]
  refine congrArg (fun z : EReal => q 0 (ix4 (0 : Fin 1) (0 : Fin 1) r l) * z) ?_
  rw [broadcastTo_apply _ broadcasts_S1x256_S16x256 (ix2 r l) (ix2 (0 : Fin 1) l)
    (fun a => by match a with | ⟨0, _⟩ => rfl | ⟨1, _⟩ => rfl)]
  exact extractStridedSlice_apply _ _ _ _ _ (fun a => by
    match a with | ⟨0, _⟩ => rfl | ⟨1, _⟩ => show 256 * 0 + l.val = 0 + l.val; omega)

theorem pay78_apply (r : Fin 16) (k : Fin 128) : k0_pay78 row (k0_pay71 (q 1)) (ix2 r k) = newScore q row 1 r := by
  dsimp only [k0_pay78, k0_pay71]
  rw [shapeCast_self, spread16]
  refine congrArg (fun z : EReal => z * scaleC) ((Ideal.multiReduction_add_single _ _ _ _ _ _).trans (Finset.sum_congr (s₁ := (Finset.univ : Finset (Fin 256))) rfl fun (l : Fin 256) _ => ?_))
  refine (congrArg (mulf _ _) (lift256 r l)).trans ?_
  show (shapeCast S16x256 (q 1) shapeCasts_S1x1x16x256_S16x256 (ix2 r l) * broadcastTo S16x256 _ broadcasts_S1x256_S16x256 (ix2 r l) : EReal) = _
  rw [qcast]
  refine congrArg (fun z : EReal => q 1 (ix4 (0 : Fin 1) (0 : Fin 1) r l) * z) ?_
  rw [broadcastTo_apply _ broadcasts_S1x256_S16x256 (ix2 r l) (ix2 (0 : Fin 1) l)
    (fun a => by match a with | ⟨0, _⟩ => rfl | ⟨1, _⟩ => rfl)]
  exact extractStridedSlice_apply _ _ _ _ _ (fun a => by
    match a with | ⟨0, _⟩ => rfl | ⟨1, _⟩ => show 256 * 1 + l.val = 256 + l.val; omega)

theorem read_snPieces (a : Memref sig .tc .vmem S32x128 .f32) (r : Fin 32) (k : Fin 128) :
    a.view.read (Elt Ideal) (a.view.writes (Elt Ideal) a.view.junk (snPieces q row)) (ix2 r k)
      = newScore q row ⟨r.val / 16, by omega⟩ ⟨r.val % 16, by omega⟩ := by
  have hr := r.isLt
  unfold snPieces
  by_cases h : r.val < 16
  · refine (View.read_writes_cons_unit_of_not_mem a.view _ inb_S32x128_S16x128_16_0 _ _ (ix2 r k) rfl 0 (.inl h)).trans ?_
    refine (View.read_writes_cons_unit_of_mem a.view _ inb_S32x128_S16x128_0_0 _ _ (ix2 r k) (ix2 (⟨r.val % 16, by omega⟩ : Fin 16) k) rfl
      (fun a => by match a with | ⟨0, _⟩ => show r.val = 0 + r.val % 16; omega | ⟨1, _⟩ => show k.val = 0 + k.val; omega)).trans ?_
    rw [pay70_apply, show (⟨r.val / 16, by omega⟩ : Fin 2) = 0 from Fin.ext (by show r.val / 16 = 0; omega)]
  · refine (View.read_writes_cons_unit_of_mem a.view _ inb_S32x128_S16x128_16_0 _ _ (ix2 r k) (ix2 (⟨r.val % 16, by omega⟩ : Fin 16) k) rfl
      (fun a => by match a with | ⟨0, _⟩ => show r.val = 16 + r.val % 16; omega | ⟨1, _⟩ => show k.val = 0 + k.val; omega)).trans ?_
    rw [pay78_apply, show (⟨r.val / 16, by omega⟩ : Fin 2) = 1 from Fin.ext (by show r.val / 16 = 1; omega)]

/-! ### A batch's output -/

/-- Each query row's kv head, as the body divides it out. -/
def rowHead : IVec S32x512 32 :=
  let v4122 : IVec S32x512 32 := iota .tc S32x512 32 [0] iota_S32x512_d0_w32
  let c4_i32 : BitVec 32 := 4#32
  let v4124 : IVec S32x512 32 := k0_pay73
  let v4131 : IVec S32x512 32 := k0_pay74
  let v4133 : BitVec 32 := Scalar.extui (Scalar.cmpi .sgt 4#32 0#32)
  let v4134 : BitVec 1 := Scalar.cmpi .slt 4#32 0#32
  let v4135 : BitVec 32 := Scalar.extui v4134
  let v4136 : BitVec 32 := Scalar.subi v4133 v4135
  let v4137 : IVec S32x512 32 := broadcast S32x512 v4136
  let v4138 : IVec S32x512 1 := cmpi .ne v4131 v4137
  let v4139 : IVec S32x512 32 := broadcast S32x512 c4_i32
  let v4140 : IVec S32x512 32 := remsi v4122 v4139
  let v4141 : IVec S32x512 32 := broadcast S32x512 0#32
  let v4142 : IVec S32x512 1 := cmpi .ne v4140 v4141
  let v4143 : IVec S32x512 1 := andi v4138 v4142
  let v4144 : IVec S32x512 32 := broadcast S32x512 1#32
  let v4145 : IVec S32x512 32 := subi v4124 v4144
  let v4146 : IVec S32x512 32 := select v4143 v4145 v4124
  v4146

/-- Each lane's kv head, as the body divides it out. -/
def laneHead : IVec S32x512 32 :=
  let v4147 : IVec S32x512 32 := iota .tc S32x512 32 [1] iota_S32x512_d1_w32
  let v4148 : IVec S32x512 32 := broadcast S32x512 64#32
  let v4149 : IVec S32x512 32 := divsi v4147 v4148
  let v4150 : IVec S32x512 32 := broadcast S32x512 0#32
  let v4151 : IVec S32x512 1 := cmpi .sgt v4147 v4150
  let v4152 : IVec S32x512 32 := extui 32 v4151 natLt_1_32
  let v4153 : IVec S32x512 32 := broadcast S32x512 0#32
  let v4154 : IVec S32x512 1 := cmpi .slt v4147 v4153
  let v4155 : IVec S32x512 32 := extui 32 v4154 natLt_1_32
  let v4156 : IVec S32x512 32 := subi v4152 v4155
  let v4157 : BitVec 1 := Scalar.cmpi .sgt 64#32 0#32
  let v4158 : BitVec 32 := Scalar.extui v4157
  let v4159 : BitVec 1 := Scalar.cmpi .slt 64#32 0#32
  let v4160 : BitVec 32 := Scalar.extui v4159
  let v4161 : BitVec 32 := Scalar.subi v4158 v4160
  let v4162 : IVec S32x512 32 := broadcast S32x512 v4161
  let v4163 : IVec S32x512 1 := cmpi .ne v4156 v4162
  let v4164 : IVec S32x512 32 := broadcast S32x512 64#32
  let v4165 : IVec S32x512 32 := remsi v4147 v4164
  let v4166 : IVec S32x512 32 := broadcast S32x512 0#32
  let v4167 : IVec S32x512 1 := cmpi .ne v4165 v4166
  let v4168 : IVec S32x512 1 := andi v4163 v4167
  let v4169 : IVec S32x512 32 := broadcast S32x512 1#32
  let v4170 : IVec S32x512 32 := subi v4149 v4169
  let v4171 : IVec S32x512 32 := select v4168 v4170 v4149
  v4171

theorem rowHead_zero : ∀ r : Fin 32, rowHead (ix2 r (0 : Fin 512)) = BitVec.ofNat 32 (r.val / 4) := by decide +kernel

theorem laneHead_zero : ∀ l : Fin 512, laneHead (ix2 (0 : Fin 32) l) = BitVec.ofNat 32 (l.val / 64) := by decide +kernel

theorem rowHead_apply (r : Fin 32) (l : Fin 512) : rowHead (ix2 r l) = BitVec.ofNat 32 (r.val / 4) := (show _ = _ from rfl : rowHead (ix2 r l) = rowHead (ix2 r 0)).trans (rowHead_zero r)

theorem laneHead_apply (r : Fin 32) (l : Fin 512) : laneHead (ix2 r l) = BitVec.ofNat 32 (l.val / 64) := (show _ = _ from rfl : laneHead (ix2 r l) = laneHead (ix2 0 l)).trans (laneHead_zero l)

variable (X : FVec Ideal S32x512 .f32)

/-- A batch's rows with every lane that is not of the row's own kv head put to zero. -/
def ownLanes : FVec Ideal S32x512 .f32 :=
  select (cmpi .eq rowHead laneHead) X (broadcast S32x512 (Scalar.ofBits .f32 0x00000000#32))

theorem ownLanes_apply (r : Fin 32) (l : Fin 512) : ownLanes X (ix2 r l) = if r.val / 4 = l.val / 64 then X (ix2 r l) else (0 : EReal) := by
  show Scalar.select (Scalar.cmpi .eq (rowHead (ix2 r l)) (laneHead (ix2 r l))) (X (ix2 r l)) (Ideal.ofBits .f32 0x00000000#32 : EReal) = _
  rw [rowHead_apply, laneHead_apply, show Scalar.cmpi .eq (BitVec.ofNat 32 (r.val / 4)) (BitVec.ofNat 32 (l.val / 64)) = _ from
    cmp_ofNat ⟨r.val / 4, by omega⟩ ⟨l.val / 64, by omega⟩, select_bool, Ideal.ofBits_zero_f32]
  simp [Fin.ext_iff]

/-- The four 128-lane quarters added up. -/
def quarters : FVec Ideal S32x128 .f32 :=
  addf (addf (addf (extractStridedSlice S32x128 ![0, 0] (ownLanes X) slices_S32x512_o0_0_S32x128)
    (extractStridedSlice S32x128 ![0, 128] (ownLanes X) slices_S32x512_o0_128_S32x128))
    (extractStridedSlice S32x128 ![0, 256] (ownLanes X) slices_S32x512_o0_256_S32x128))
    (extractStridedSlice S32x128 ![0, 384] (ownLanes X) slices_S32x512_o0_384_S32x128)

theorem quarters_apply (r : Fin 32) (l : Fin 128) : quarters X (ix2 r l)
    = ownLanes X (ix2 r (⟨l.val, by omega⟩ : Fin 512)) + ownLanes X (ix2 r (⟨128 + l.val, by omega⟩ : Fin 512))
      + ownLanes X (ix2 r (⟨256 + l.val, by omega⟩ : Fin 512)) + ownLanes X (ix2 r (⟨384 + l.val, by omega⟩ : Fin 512)) := by
  refine congrArg₂ (fun a b : EReal => a + b) (congrArg₂ (fun a b : EReal => a + b) (congrArg₂ (fun a b : EReal => a + b) ?_ ?_) ?_) ?_ <;>
    exact extractStridedSlice_apply _ _ _ _ _ (fun a => by
      match a with | ⟨0, _⟩ => exact (Nat.zero_add _).symm | ⟨1, _⟩ => first | exact (Nat.zero_add _).symm | rfl)

theorem pay75_eq : k0_pay75 X (iota .tc S32x512 32 [0] iota_S32x512_d0_w32) 4#32 k0_pay73 k0_pay74
      (Scalar.extui (Scalar.cmpi .sgt 4#32 0#32)) (Scalar.cmpi .slt 4#32 0#32)
    = addf (quarters X) (dynamicRotate 1 64#32 none (quarters X) rotates_S32x128_d1) := rfl

theorem folded (r : Fin 32) (d : Fin 64) :
    (quarters X (ix2 r (⟨d.val, by omega⟩ : Fin 128)) + quarters X (ix2 r (⟨d.val + 64, by omega⟩ : Fin 128)) : EReal)
      = X (ix2 r (⟨64 * (r.val / 4) + d.val, by omega⟩ : Fin 512)) := by
  have hd := d.isLt
  rw [quarters_apply, quarters_apply]
  have hr : r.val / 4 < 8 := by omega
  have e (l : Fin 512) (h : l.val = 64 * (r.val / 4) + d.val) : X (ix2 r l) = X (ix2 r (⟨64 * (r.val / 4) + d.val, by omega⟩ : Fin 512)) :=
    congrArg (fun l => X (ix2 r l)) (Fin.ext h)
  generalize hX : X (ix2 r (⟨64 * (r.val / 4) + d.val, by omega⟩ : Fin 512)) = z at e ⊢
  have pick (l : Fin 512) (n : ℕ) (h : l.val = 64 * n + d.val) : ownLanes X (ix2 r l) = if r.val / 4 = n then z else (0 : EReal) := by
    rw [ownLanes_apply, show l.val / 64 = n by omega]
    split
    · next q => exact (e l (by rw [q]; exact h)).trans hX
    · rfl
  rw [pick (⟨(⟨d.val, by omega⟩ : Fin 128).val, by omega⟩ : Fin 512) 0 (by show d.val = 64 * 0 + d.val; omega),
    pick (⟨128 + (⟨d.val, by omega⟩ : Fin 128).val, by omega⟩ : Fin 512) 2 (by show 128 + d.val = 64 * 2 + d.val; omega),
    pick (⟨256 + (⟨d.val, by omega⟩ : Fin 128).val, by omega⟩ : Fin 512) 4 (by show 256 + d.val = 64 * 4 + d.val; omega),
    pick (⟨384 + (⟨d.val, by omega⟩ : Fin 128).val, by omega⟩ : Fin 512) 6 (by show 384 + d.val = 64 * 6 + d.val; omega),
    pick (⟨(⟨d.val + 64, by omega⟩ : Fin 128).val, by omega⟩ : Fin 512) 1 (by show d.val + 64 = 64 * 1 + d.val; omega),
    pick (⟨128 + (⟨d.val + 64, by omega⟩ : Fin 128).val, by omega⟩ : Fin 512) 3 (by show 128 + (d.val + 64) = 64 * 3 + d.val; omega),
    pick (⟨256 + (⟨d.val + 64, by omega⟩ : Fin 128).val, by omega⟩ : Fin 512) 5 (by show 256 + (d.val + 64) = 64 * 5 + d.val; omega),
    pick (⟨384 + (⟨d.val + 64, by omega⟩ : Fin 128).val, by omega⟩ : Fin 512) 7 (by show 384 + (d.val + 64) = 64 * 7 + d.val; omega)]
  clear pick e hX
  generalize r.val / 4 = n at hr
  interval_cases n <;> simp

/-- A batch's output: the accumulator finished with the new token's term, over the denominator. -/
theorem yStored_apply (acc : FVec Ideal S512x32 .f32) (pn : Vec Ideal S32x1 .f32) (row : Vec Ideal S1x512 .f32) (lf : Vec Ideal S32x1 .f32)
    (r : Fin 32) (d : Fin 64) : yStored acc pn row lf (ix3 (0 : Fin 1) r d)
      = Ideal.div (acc (ix2 (⟨64 * (r.val / 4) + d.val, by omega⟩ : Fin 512) r)
          + pn (ix2 r (0 : Fin 1)) * row (ix2 (0 : Fin 1) (⟨64 * (r.val / 4) + d.val, by omega⟩ : Fin 512))) (lf (ix2 r (0 : Fin 1))) := by
  unfold yStored
  rw [shapeCast_apply _ shapeCasts_S32x64_S1x32x64 (ix3 (0 : Fin 1) r d) (ix2 r d)
    (by rw [Shape.rowMajor_val_two, Shape.rowMajor_val_three]; show r.val * 64 + d.val = (0 * 32 + r.val) * 64 + d.val; omega)]
  have ht (v : FVec Ideal S32x64 .f32) (i : S32x64.Idx) : truncf .bf16 v bitsLt_bf16_f32 i = v i := rfl
  rw [ht]
  refine (extractStridedSlice_apply _ _ _ (ix2 r d) (ix2 r (⟨d.val, by omega⟩ : Fin 128)) (fun a => by
      match a with | ⟨0, _⟩ => exact (Nat.zero_add _).symm | ⟨1, _⟩ => exact (Nat.zero_add _).symm)).trans ?_
  rw [pay75_eq]
  refine (congrArg (fun z : EReal => quarters _ (ix2 r (⟨d.val, by omega⟩ : Fin 128)) + z)
    (dynamicRotate_apply 1 64#32 _ rotates_S32x128_d1 (ix2 r (⟨d.val, by omega⟩ : Fin 128)) (ix2 r (⟨d.val + 64, by omega⟩ : Fin 128))
      (fun b => by match b with | ⟨0, _⟩ => rfl | ⟨1, _⟩ => show d.val + 64 = (d.val + 128 - 64 % 128) % 128; omega))).trans ?_
  rw [folded]
  generalize (⟨64 * (r.val / 4) + d.val, by omega⟩ : Fin 512) = l
  show Ideal.div (transpose S32x512 [1, 0] acc transposes_S512x32_p1_0_S32x512 (ix2 r l)
    + broadcastTo S32x512 pn broadcasts_S32x1_S32x512 (ix2 r l) * broadcastTo S32x512 row broadcasts_S1x512_S32x512 (ix2 r l))
    (broadcastTo S32x512 lf broadcasts_S32x1_S32x512 (ix2 r l)) = _
  rw [transpose_ix2_apply, broadcastTo_apply pn broadcasts_S32x1_S32x512 (ix2 r l) (ix2 r (0 : Fin 1))
    (fun a => by match a with | ⟨0, _⟩ => rfl | ⟨1, _⟩ => rfl), broadcastTo_apply lf broadcasts_S32x1_S32x512 (ix2 r l) (ix2 r (0 : Fin 1))
    (fun a => by match a with | ⟨0, _⟩ => rfl | ⟨1, _⟩ => rfl), broadcastTo_apply row broadcasts_S1x512_S32x512 (ix2 r l) (ix2 (0 : Fin 1) l)
    (fun a => by match a with | ⟨0, _⟩ => rfl | ⟨1, _⟩ => rfl)]

end Cert.Proof.Step

end
-- ==== Proof.StepState.lean ====
/-
  One step's scores and values in terms of the blocks it finds, and the running maxima, sums and weighted sums it leaves.
-/
module

public import proofs.«01_k».proof.Proof.BatchIdeal
public import proofs.«01_k».proof.Proof.Online

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt)
open Cert.Proof.Online (msup lsum asum fresh exp_bot_sub)

/-! ### The blocks -/

/-- The dequantised entry of head `h`, coordinate `d`, token `j` of a block. -/
def kBlk (X4 : Vec Ideal S1x512x4096 .i8) (X5 : Vec Ideal S1x8x4096 .f32) (h : Fin 8) (d : Fin 64) (j : Fin 4096) : EReal :=
  num (X4 (ix3 (0 : Fin 1) (⟨64 * h.val + d.val, by omega⟩ : Fin 512) j)) * X5 (ix3 (0 : Fin 1) h j)

/-- A block's token of chunk `x.1`, place `x.2`. -/
def tok (x : Fin 16 × Fin 256) : Fin 4096 := ⟨256 * x.1.val + x.2.val, by omega⟩

/-- The score of query row `r` against token `x` of a block. -/
def blkScore (X1 : Vec Ideal S1x2x16x256 .bf16) (X4 : Vec Ideal S1x512x4096 .i8) (X5 : Vec Ideal S1x8x4096 .f32) (r : Fin 32)
    (x : Fin 16 × Fin 256) : EReal :=
  (∑ y : Fin 256, X1 (ix4 (0 : Fin 1) (⟨r.val / 16, by omega⟩ : Fin 2) (⟨r.val % 16, by omega⟩ : Fin 16) y)
    * kBlk X4 X5 (hd ⟨r.val / 16, by omega⟩ ⟨y.val / 64, by omega⟩) ⟨y.val % 64, by omega⟩ (tok x)) * scaleC

/-- The value of channel `z` at token `x` of a block. -/
def blkV (X6 : Vec Ideal S1x512x4096 .i8) (X7 : Vec Ideal S1x8x4096 .f32) (z : Fin 512) (x : Fin 16 × Fin 256) : EReal :=
  kBlk X6 X7 ⟨z.val / 64, by omega⟩ ⟨z.val % 64, by omega⟩ (tok x)

/-- The new token's score of query row `r`. -/
def blkNew (X1 : Vec Ideal S1x2x16x256 .bf16) (k : Fin 512 → EReal) (r : Fin 32) : EReal :=
  (∑ l : Fin 256, X1 (ix4 (0 : Fin 1) (⟨r.val / 16, by omega⟩ : Fin 2) (⟨r.val % 16, by omega⟩ : Fin 16) l)
    * k (⟨256 * (r.val / 16) + l.val, by omega⟩ : Fin 512)) * scaleC

theorem pay79_apply (v : Vec Ideal S1x8x4096 .f32) (h : Fin 8) (j : Fin 4096) :
    k0_pay79 v (ix3 h (0 : Fin 2) j) = v (ix3 (0 : Fin 1) h j) := by
  dsimp only [k0_pay79]
  rw [interleaveRows_apply, if_pos (by rfl)]
  have e (w : S8x4096.Idx → EReal) (i : S8x1x4096.Idx) (h0 : (i 0).val = h.val) (h2 : (i 2).val = j.val) :
      shapeCast S8x1x4096 w shapeCasts_S8x4096_S8x1x4096 i = w (ix2 h j) :=
    shapeCast_apply w shapeCasts_S8x4096_S8x1x4096 i _ (by
      rw [Shape.rowMajor_val_three, Shape.rowMajor_val_two]
      have : (i 1).val < 1 := (i 1).isLt
      show h.val * 4096 + j.val = ((i 0).val * 1 + (i 1).val) * 4096 + (i 2).val
      omega)
  refine (e _ _ (by rfl) (by rfl)).trans ?_
  · show shapeCast S8x4096 v shapeCasts_S1x8x4096_S8x4096 (ix2 h j) = _
    exact shapeCast_apply _ _ _ _ (by
      rw [Shape.rowMajor_val_two, Shape.rowMajor_val_three]
      show (0 * 8 + h.val) * 4096 + j.val = h.val * 4096 + j.val
      omega)

theorem pay80_apply (v : Vec Ideal S1x8x4096 .f32) (h : Fin 8) (j : Fin 4096) :
    k0_pay80 v (ix3 h (0 : Fin 2) j) = v (ix3 (0 : Fin 1) h j) := pay79_apply v h j

section
variable (c : Dev nD) (a1 : Memref sig .tc .vmem S1x2x16x256 .bf16) (f1 : Bf (F := Ideal) c a1)
    (a4 : Memref sig .tc .vmem S1x512x4096 .i8) (f4 : Bf (F := Ideal) c a4) (a5 : Memref sig .tc .vmem S1x8x4096 .f32) (f5 : Bf (F := Ideal) c a5)
    (a6 : Memref sig .tc .vmem S1x512x4096 .i8) (f6 : Bf (F := Ideal) c a6) (a7 : Memref sig .tc .vmem S1x8x4096 .f32) (f7 : Bf (F := Ideal) c a7)
    (a13 a14 : Memref sig .tc .vmem S8x2x4096 .bf16)
    (p : Fin 16 → Vec Ideal S32x256 .bf16) (acc : Vec Ideal S512x32 .f32) (al : Vec Ideal S8x32 .f32) (m l sn : Vec Ideal S32x128 .f32)

theorem code_read (a : Memref sig .tc .vmem S1x512x4096 .i8) (f : Bf (F := Ideal) c a) (h : Fin 8) (x : Fin 16) (d : Fin 64) (j : Fin 256) :
    View.readAt (Elt Ideal) a.view (Rect.unit (s := S1x512x4096) ![0, 64 * h.val, 256 * x.val] S1x64x256.size (cInb h x)).toLoadRect f (ix3 (0 : Fin 1) d j)
      = a.view.read (Elt Ideal) f (ix3 (0 : Fin 1) (⟨64 * h.val + d.val, by omega⟩ : Fin 512) (tok (x, j))) :=
  congrArg (a.view.read (Elt Ideal) f) (funext fun a => Fin.ext (by
    match a with
    | ⟨0, _⟩ => rfl
    | ⟨1, _⟩ => show 64 * h.val + 1 * d.val = 64 * h.val + d.val; omega
    | ⟨2, _⟩ => show 256 * x.val + 1 * j.val = 256 * x.val + j.val; omega))

theorem scale_read (a : Memref sig .tc .vmem S8x2x4096 .bf16) (w : Vec Ideal S8x2x4096 .bf16) (h : Fin 8) (x : Fin 16) (j : Fin 256) :
    a.view.readCov [⟨Rect.unit (s := S8x2x4096) ![0, 0, 0] S8x2x4096.size inb_S8x2x4096_S8x2x4096_0_0_0, w⟩]
      (Rect.unit (s := S8x2x4096) ![h.val, 0, 256 * x.val] S1x2x256.size (wInb h x)).toLoadRect (ix3 (0 : Fin 1) (0 : Fin 2) j)
      = w (ix3 h (0 : Fin 2) (tok (x, j))) :=
  (congrFun (View.read_writes_full a.view a.view.junk inb_S8x2x4096_S8x2x4096_0_0_0 w []) _).trans
    (congrArg w (funext fun a => Fin.ext (by
      match a with
      | ⟨0, _⟩ => show h.val + 1 * 0 = h.val; omega
      | ⟨1, _⟩ => rfl
      | ⟨2, _⟩ => show 256 * x.val + 1 * j.val = 256 * x.val + j.val; omega)))

theorem kAt_blk (h : Fin 8) (x : Fin 16) (d : Fin 64) (j : Fin 256) :
    kAt (blockLoads c a1 f1 a4 f4 a5 f5 a6 f6 a7 f7 a13 a14 p acc al m l sn) h x d j
      = kBlk (a4.view.read (Elt Ideal) f4) (a5.view.read (Elt Ideal) f5) h d (tok (x, j)) :=
  congrArg₂ (fun (a : BitVec 8) (b : EReal) => num a * b) (code_read c a4 f4 h x d j)
    ((scale_read a13 _ h x j).trans ((pay79_apply _ h _).trans (congrFun (View.readAt_full a5.view f5 inb_S1x8x4096_S1x8x4096_0_0_0) _)))

theorem vAt_blk (h : Fin 8) (x : Fin 16) (d : Fin 64) (j : Fin 256) :
    vAt (blockLoads c a1 f1 a4 f4 a5 f5 a6 f6 a7 f7 a13 a14 p acc al m l sn) h x d j
      = kBlk (a6.view.read (Elt Ideal) f6) (a7.view.read (Elt Ideal) f7) h d (tok (x, j)) :=
  congrArg₂ (fun (a : BitVec 8) (b : EReal) => num a * b) (code_read c a6 f6 h x d j)
    ((scale_read a14 _ h x j).trans ((pay80_apply _ h _).trans (congrFun (View.readAt_full a7.view f7 inb_S1x8x4096_S1x8x4096_0_0_0) _)))

theorem q_read (t : Fin 2) (r : Fin 16) (y : Fin 256) :
    View.readAt (Elt Ideal) a1.view (Rect.unit (s := S1x2x16x256) ![0, t.val, 0, 0] S1x1x16x256.size (qInb t)).toLoadRect f1 (ix4 (0 : Fin 1) (0 : Fin 1) r y)
      = a1.view.read (Elt Ideal) f1 (ix4 (0 : Fin 1) t r y) :=
  congrArg (a1.view.read (Elt Ideal) f1) (funext fun a => Fin.ext (by
    match a with
    | ⟨0, _⟩ => rfl
    | ⟨1, _⟩ => show t.val + 1 * 0 = t.val; omega
    | ⟨2, _⟩ => show 0 + 1 * r.val = r.val; omega
    | ⟨3, _⟩ => show 0 + 1 * y.val = y.val; omega))

theorem scoreRow_blk (r : Fin 32) :
    scoreRow (blockLoads c a1 f1 a4 f4 a5 f5 a6 f6 a7 f7 a13 a14 p acc al m l sn) r
      = blkScore (a1.view.read (Elt Ideal) f1) (a4.view.read (Elt Ideal) f4) (a5.view.read (Elt Ideal) f5) r :=
  funext fun x => congrArg (fun z : EReal => z * scaleC) (Finset.sum_congr rfl fun y _ =>
    congrArg₂ (fun a b : EReal => a * b) (q_read c a1 f1 ⟨r.val / 16, by omega⟩ ⟨r.val % 16, by omega⟩ y) (kAt_blk c a1 f1 a4 f4 a5 f5 a6 f6 a7 f7 a13 a14 p acc al m l sn _ x.1 _ x.2))

end

/-! ### The steps of the scan -/

/-- The blocks the steps find, by the step's number. -/
structure Blocks where
  X1 : ℕ → Vec Ideal S1x2x16x256 .bf16
  X2 : Vec Ideal S8x512 .bf16
  X3 : Vec Ideal S8x512 .bf16
  X4 : ℕ → Vec Ideal S1x512x4096 .i8
  X5 : ℕ → Vec Ideal S1x8x4096 .f32
  X6 : ℕ → Vec Ideal S1x512x4096 .i8
  X7 : ℕ → Vec Ideal S1x8x4096 .f32

namespace Blocks
variable (D : Blocks)

/-- Scores of batch `b`, row `r`, block `n`; values of batch `b`, channel `z`, block `n`, one step later. -/
def S (b : ℕ) (r : Fin 32) (n : ℕ) : Fin 16 × Fin 256 → EReal := blkScore (D.X1 (8 * b + n)) (D.X4 (8 * b + n)) (D.X5 (8 * b + n)) r
def V (b : ℕ) (z : Fin 512) (n : ℕ) : Fin 16 × Fin 256 → EReal := blkV (D.X6 (8 * b + n + 1)) (D.X7 (8 * b + n + 1)) z
/-- The dequantised new rows of batch `b`. -/
def kn (b : ℕ) (l : Fin 512) : EReal := newDeq D.X2 (ix2 (⟨b % 8, by omega⟩ : Fin 8) l)
def vn (b : ℕ) (l : Fin 512) : EReal := newDeq D.X3 (ix2 (⟨b % 8, by omega⟩ : Fin 8) l)
/-- The new token's score of batch `b`, row `r`. -/
def sn (b : ℕ) (r : Fin 32) : EReal := blkNew (D.X1 (8 * b)) (D.kn b) r
/-- The running maximum and sum. -/
def mx (b : ℕ) (r : Fin 32) (n : ℕ) : EReal := msup (D.S b r) (D.sn b r) n
def ls (b : ℕ) (r : Fin 32) (n : ℕ) : EReal := lsum (D.S b r) (D.sn b r) n
def ac (b : ℕ) (r : Fin 32) (z : Fin 512) (n : ℕ) : EReal := asum (D.S b r) (D.sn b r) (D.V b z) n
/-- The channel of query row `r`'s coordinate `d`. -/
def chan (r : Fin 32) (d : Fin 64) : Fin 512 := ⟨64 * (r.val / 4) + d.val, by omega⟩
/-- The output of batch `b`. -/
def y (b : ℕ) (r : Fin 32) (d : Fin 64) : EReal :=
  Ideal.div (D.ac b r (chan r d) 8 + Ideal.exp (D.sn b r - D.mx b r 8) * D.vn b (chan r d)) (D.ls b r 8)
end Blocks

/-- What the scratch holds after block `j` of batch `b`. -/
structure Held (D : Blocks) (b j : ℕ) (p : Vec Ideal S32x4096 .bf16) (acc : Vec Ideal S512x32 .f32) (m l : Vec Ideal S32x128 .f32) (al : Vec Ideal S8x32 .f32)
    (sn pn lf : Vec Ideal S32x128 .f32) : Prop where
  m : ∀ r k, m (ix2 r k) = D.mx b r (j + 1)
  l : ∀ r k, l (ix2 r k) = D.ls b r (j + 1)
  al : ∀ a r, al (ix2 a r) = Ideal.exp (D.mx b r j - D.mx b r (j + 1))
  p : ∀ r y, p (ix2 r y) = Ideal.exp (D.S b r j (⟨y.val / 256, by omega⟩, ⟨y.val % 256, by omega⟩) - D.mx b r (j + 1))
  acc : 0 < j → ∀ x r, acc (ix2 x r) = D.ac b r x j
  sn : ∀ r k, sn (ix2 r k) = D.sn b r
  pn : ∀ r k, pn (ix2 r k) = Ideal.exp (fresh (D.sn b r) j - D.mx b r (j + 1))
  lf : ∀ r k, lf (ix2 r k) = D.ls b r (j + 1)

section
variable (D : Blocks) (L : Loads Ideal) (kf kl : BitVec 1) (b j : ℕ)
  (hS : ∀ r, scoreRow L r = D.S b r j)
  (hm : ∀ r k, mOld L kf (ix2 r k) = D.mx b r j) (hl : ∀ r k, lOld L kf (ix2 r k) = D.ls b r j)
  (hsn : ∀ r k, snNew L kl (ix2 r k) = fresh (D.sn b r) j)

include hS hm hsn in
theorem mNew_mx (r : Fin 32) (k : Fin 128) : mNew L kf kl (ix2 r k) = D.mx b r (j + 1) := by
  rw [mNew_apply L kf kl _ r k rfl, hm, hsn, hS]; rfl

include hS hm hsn in
theorem alpha_mx (r : Fin 32) (k : Fin 128) : alpha L kf kl (ix2 r k) = Ideal.exp (D.mx b r j - D.mx b r (j + 1)) := by
  rw [alpha_apply, hm, mNew_mx D L kf kl b j hS hm hsn]

include hS hm hsn in
theorem pNew_mx (r : Fin 32) (k : Fin 128) : pNew L kf kl (ix2 r k) = Ideal.exp (fresh (D.sn b r) j - D.mx b r (j + 1)) := by
  rw [pNew_apply, hsn, mNew_mx D L kf kl b j hS hm hsn]

include hS hm hl hsn in
theorem lNew_ls (a15 : Memref sig .tc .vmem S32x4096 .f32) (r : Fin 32) (k : Fin 128) :
    lNew L kf kl (sLoad L a15) (ix2 r k) = D.ls b r (j + 1) := by
  rw [lNew_apply, alpha_mx D L kf kl b j hS hm hsn, pNew_mx D L kf kl b j hS hm hsn, hl, mNew_mx D L kf kl b j hS hm hsn, hS]; rfl

variable (a15 : Memref sig .tc .vmem S32x4096 .f32) (a16 : Memref sig .tc .vmem S32x4096 .bf16) (a17 : Memref sig .tc .vmem S512x32 .f32)
  (a18 a19 : Memref sig .tc .vmem S32x128 .f32) (a20 : Memref sig .tc .vmem S8x32 .f32) (a21 a22 a23 : Memref sig .tc .vmem S32x128 .f32)
  (B : List (View.Piece (Elt Ideal) S32x4096 .bf16)) (T20 : List (View.Piece (Elt Ideal) S8x32 .f32))
  (c : Dev nD) (g16 : Bf (F := Ideal) c a16) (g17 : Bf (F := Ideal) c a17) (g18 : Bf (F := Ideal) c a18) (g19 : Bf (F := Ideal) c a19) (g20 : Bf (F := Ideal) c a20)
  (g21 : Bf (F := Ideal) c a21) (g22 : Bf (F := Ideal) c a22) (g23 : Bf (F := Ideal) c a23)

include hS hm hl hsn in
/-- A step leaves what the next one is to find. -/
theorem held_next
    (e16 : g16 = a16.view.writes (Elt Ideal) a16.view.junk (pPieces L kf kl (sLoad L a15) B 16 (le_refl _)))
    (hacc : 0 < j → ∀ x r, a17.view.read (Elt Ideal) g17 (ix2 x r) = D.ac b r x j)
    (e18 : g18 = a18.view.writes (Elt Ideal) a18.view.junk [⟨Rect.unit (s := S32x128) ![0, 0] S32x128.size inb_S32x128_S32x128_0_0, mStored L kf kl⟩])
    (e19 : g19 = a19.view.writes (Elt Ideal) a19.view.junk [⟨Rect.unit (s := S32x128) ![0, 0] S32x128.size inb_S32x128_S32x128_0_0, lStored L kf kl (sLoad L a15)⟩])
    (e20 : g20 = a20.view.writes (Elt Ideal) a20.view.junk (⟨Rect.unit (s := S8x32) ![0, 0] S8x32.size inb_S8x32_S8x32_0_0, alStored L kf kl⟩ :: T20))
    (hsnr : ∀ r k, a21.view.read (Elt Ideal) g21 (ix2 r k) = D.sn b r)
    (e22 : g22 = a22.view.writes (Elt Ideal) a22.view.junk [⟨Rect.unit (s := S32x128) ![0, 0] S32x128.size inb_S32x128_S32x128_0_0, pnStored L kf kl⟩])
    (e23 : g23 = a23.view.writes (Elt Ideal) a23.view.junk [⟨Rect.unit (s := S32x128) ![0, 0] S32x128.size inb_S32x128_S32x128_0_0, lfinStored L kf kl (sLoad L a15)⟩]) :
    Held D b j (a16.view.read (Elt Ideal) g16) (a17.view.read (Elt Ideal) g17) (a18.view.read (Elt Ideal) g18) (a19.view.read (Elt Ideal) g19)
      (a20.view.read (Elt Ideal) g20) (a21.view.read (Elt Ideal) g21) (a22.view.read (Elt Ideal) g22) (a23.view.read (Elt Ideal) g23) := by
  subst e16 e18 e19 e20 e22 e23
  refine ⟨fun r k => ?_, fun r k => ?_, fun a r => ?_, fun r y => ?_, hacc, hsnr, fun r k => ?_, fun r k => ?_⟩
  · refine (congrFun (View.read_writes_full _ _ _ _ _) _).trans ?_
    unfold mStored
    rw [shapeCast_self]
    exact mNew_mx D L kf kl b j hS hm hsn r k
  · refine (congrFun (View.read_writes_full _ _ _ _ _) _).trans ?_
    unfold lStored
    rw [shapeCast_self]
    exact lNew_ls D L kf kl b j hS hm hl hsn a15 r k
  · refine (congrFun (View.read_writes_full _ _ _ _ _) _).trans ?_
    rw [alStored_apply]
    exact alpha_mx D L kf kl b j hS hm hsn r _
  · refine (read_pPieces L kf kl a15 a16 B r y 16 (le_refl _) (by omega)).trans ?_
    rw [mNew_mx D L kf kl b j hS hm hsn, hS]
  · refine (congrFun (View.read_writes_full _ _ _ _ _) _).trans ?_
    dsimp only [pnStored, k0_pay524]
    rw [shapeCast_self]
    exact pNew_mx D L kf kl b j hS hm hsn r k
  · refine (congrFun (View.read_writes_full _ _ _ _ _) _).trans ?_
    dsimp only [lfinStored, k0_pay525]
    rw [shapeCast_self]
    exact lNew_ls D L kf kl b j hS hm hl hsn a15 r k

end

/-- The weighted sum a step reaches from what the step before left. -/
theorem acc_step (D : Blocks) (L : Loads Ideal) (b j : ℕ) {p : Vec Ideal S32x4096 .bf16} {acc : Vec Ideal S512x32 .f32} {m l : Vec Ideal S32x128 .f32} {al : Vec Ideal S8x32 .f32}
    {sn pn lf : Vec Ideal S32x128 .f32} (H : Held D b j p acc m l al sn pn lf)
    (hp : ∀ (x : Fin 16) (r : Fin 32) (y : Fin 256), L.p x (ix2 r y) = p (ix2 r (tok (x, y)))) (hacc : L.acc = acc) (hal : L.al = al)
    (hv : ∀ (z : Fin 512) (x : Fin 16) (y : Fin 256), vAt L ⟨z.val / 64, by omega⟩ x ⟨z.val % 64, by omega⟩ y = D.V b z j (x, y))
    (z : Fin 512) (r : Fin 32) : accNew L (ix2 z r) = D.ac b r z (j + 1) := by
  rw [accNew_apply, hacc, hal, H.al]
  show _ = D.ac b r z j * Ideal.exp (D.mx b r j - D.mx b r (j + 1)) + ∑ x, D.V b z j x * Ideal.exp (D.S b r j x - D.mx b r (j + 1))
  rw [Fintype.sum_prod_type]
  refine congrArg₂ (fun a b : EReal => a + b) ?_ (Finset.sum_congr rfl fun x _ => Finset.sum_congr rfl fun y _ => ?_)
  · rcases Nat.eq_zero_or_pos j with h | h
    · subst h
      rw [show D.mx b r 0 = ⊥ from rfl, exp_bot_sub, mul_zero, mul_zero]
    · rw [H.acc h]
  · rw [hv, hp, H.p]
    have hx : (⟨(tok (x, y)).val / 256, by have := (tok (x, y)).isLt; omega⟩ : Fin 16) = x := Fin.ext (by show (256 * x.val + y.val) / 256 = x.val; omega)
    have hy : (⟨(tok (x, y)).val % 256, by omega⟩ : Fin 256) = y := Fin.ext (by show (256 * x.val + y.val) % 256 = y.val; omega)
    rw [hx, hy]

end Cert.Proof.Step

end
-- ==== Proof.StepPost.lean ====
/-
  What every step of the body is to leave, and the facts the three kinds of step share.
-/
module

public import proofs.«01_k».proof.Proof.StepState
public import proofs.«01_k».proof.Proof.IdealRunDefs

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)

local notation "𝕄" => MT nD τ sig Unit (Elt Ideal) ℕ (UR sig nD τ) ℕ

/-- What the scratch holds before step `t`, between the first and the last. -/
def Inv (D : Blocks) (t : ℕ) (p : Vec Ideal S32x4096 .bf16) (acc : Vec Ideal S512x32 .f32) (m l : Vec Ideal S32x128 .f32) (al : Vec Ideal S8x32 .f32) (sn pn lf : Vec Ideal S32x128 .f32) (knd vnd : Vec Ideal S8x512 .f32) : Prop :=
  0 < t → t ≤ 64 → Held D ((t - 1) / 8) ((t - 1) % 8) p acc m l al sn pn lf ∧ knd = newDeq D.X2 ∧ vnd = newDeq D.X3

/-- What step `t` leaves in the output blocks `n8` to `n12`, found as `y9` to `y12`. -/
structure Outs (D : Blocks) (t : ℕ) (n8 : Vec Ideal S1x32x64 .bf16) (y9 n9 : Vec Ideal S8x512 .i8) (y10 n10 : Vec Ideal S8x8 .f32) (y11 n11 : Vec Ideal S8x512 .i8) (y12 n12 : Vec Ideal S8x8 .f32) : Prop where
  y : 0 < t → t % 8 = 0 → ∀ r d, n8 (ix3 (0 : Fin 1) r d) = D.y (t / 8 - 1) r d
  first : t = 0 → n9 = codes D.X2 ∧ n10 = outScale D.X2 8 ∧ n11 = codes D.X3 ∧ n12 = outScale D.X3 8
  later : t ≠ 0 → n9 = y9 ∧ n10 = y10 ∧ n11 = y11 ∧ n12 = y12

/-- The body run from the contents `f1` to `f25` leaves the contents `g8` to `g25`. -/
def Runs (c : Dev nD) (i : grid0.Coords)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := Ideal) c a1) (f2 : Bf (F := Ideal) c a2) (f3 : Bf (F := Ideal) c a3) (f4 : Bf (F := Ideal) c a4) (f5 : Bf (F := Ideal) c a5) (f6 : Bf (F := Ideal) c a6) (f7 : Bf (F := Ideal) c a7) (f8 : Bf (F := Ideal) c a8) (f9 : Bf (F := Ideal) c a9) (f10 : Bf (F := Ideal) c a10) (f11 : Bf (F := Ideal) c a11) (f12 : Bf (F := Ideal) c a12) (f13 : Bf (F := Ideal) c a13) (f14 : Bf (F := Ideal) c a14) (f15 : Bf (F := Ideal) c a15) (f16 : Bf (F := Ideal) c a16) (f17 : Bf (F := Ideal) c a17) (f18 : Bf (F := Ideal) c a18) (f19 : Bf (F := Ideal) c a19) (f20 : Bf (F := Ideal) c a20) (f21 : Bf (F := Ideal) c a21) (f22 : Bf (F := Ideal) c a22) (f23 : Bf (F := Ideal) c a23) (f24 : Bf (F := Ideal) c a24) (f25 : Bf (F := Ideal) c a25)
    (g8 : Bf (F := Ideal) c a8) (g9 : Bf (F := Ideal) c a9) (g10 : Bf (F := Ideal) c a10) (g11 : Bf (F := Ideal) c a11) (g12 : Bf (F := Ideal) c a12) (g16 : Bf (F := Ideal) c a16) (g17 : Bf (F := Ideal) c a17) (g18 : Bf (F := Ideal) c a18) (g19 : Bf (F := Ideal) c a19) (g20 : Bf (F := Ideal) c a20) (g21 : Bf (F := Ideal) c a21) (g22 : Bf (F := Ideal) c a22) (g23 : Bf (F := Ideal) c a23) (g24 : Bf (F := Ideal) c a24) (g25 : Bf (F := Ideal) c a25) : Prop :=
  ∀ (E : Set ℕ) (Q : PUnit → sProp 𝕄), iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
      ∗ (iprop(pt c a1 f1 ∗ pt c a2 f2 ∗ pt c a3 f3 ∗ pt c a4 f4 ∗ pt c a5 f5 ∗ pt c a6 f6 ∗ pt c a7 f7 ∗ pt c a8 g8 ∗ pt c a9 g9 ∗ pt c a10 g10 ∗ pt c a11 g11 ∗ pt c a12 g12 ∗ (∃ f, pt c a13 f) ∗ (∃ f, pt c a14 f) ∗ (∃ f, pt c a15 f) ∗ pt c a16 g16 ∗ pt c a17 g17 ∗ pt c a18 g18 ∗ pt c a19 g19 ∗ pt c a20 g20 ∗ pt c a21 g21 ∗ pt c a22 g22 ∗ pt c a23 g23 ∗ pt c a24 g24 ∗ pt c a25 g25) -∗ Q ⟨⟩))
    ⊢ wp frame (wpE (defs₀ (F := Ideal)) Variants.none c none) E
        (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q

open Cert.Proof.KernelIdealRun in
theorem isFirst_eq (i : grid0.Coords) : isFirst i = if (i 0).val % 8 = 0 then 1#1 else 0#1 := by
  have h : ∀ n : Fin 65, isFirst (point n) = if n.val % 8 = 0 then 1#1 else 0#1 := by decide
  rw [eq_point i]; exact h (i 0)

open Cert.Proof.KernelIdealRun in
theorem isLast_eq (i : grid0.Coords) : isLast i = if (i 0).val % 8 = 7 then 1#1 else 0#1 := by
  have h : ∀ n : Fin 65, isLast (point n) = if n.val % 8 = 7 then 1#1 else 0#1 := by decide
  rw [eq_point i]; exact h (i 0)

open Cert.Proof.KernelIdealRun in
theorem off2_eq (i : grid0.Coords) (h8 : (i 0).val % 8 = 0) (h0 : 0 < (i 0).val) : k0_off2 i = ![(i 0).val / 8 - 1, 0] := by
  have h : ∀ n : Fin 65, n.val % 8 = 0 → 0 < n.val → k0_off2 (point n) = ![n.val / 8 - 1, 0] := by decide
  have e := eq_point i
  rw [e] at h8 h0 ⊢; exact h (i 0) h8 h0

/-- A row of a buffer of eight rows. -/
theorem row_read (v : Vec Ideal S8x512 .f32) (off : Fin 2 → ℕ) (inb : ∀ a, off a + S1x512.size a ≤ S8x512.size a) (n : Fin 8) (h : off = ![n.val, 0]) (l : Fin 512) :
    v ((Rect.unit (s := S8x512) off S1x512.size inb).toLoadRect.idx (ix2 (0 : Fin 1) l)) = v (ix2 n l) := by
  subst h
  exact congrArg v (funext fun a => Fin.ext (by
    match a with
    | ⟨0, _⟩ => show n.val + 1 * 0 = n.val; omega
    | ⟨1, _⟩ => show 0 + 1 * l.val = l.val; omega))

theorem sn_read (c : Dev nD) (a1 : Memref sig .tc .vmem S1x2x16x256 .bf16) (f1 : Bf (F := Ideal) c a1) (a21 : Memref sig .tc .vmem S32x128 .f32)
    (row : Vec Ideal S1x512 .f32) (kn : Fin 512 → EReal) (hrow : ∀ l, row (ix2 (0 : Fin 1) l) = kn l) (r : Fin 32) (k : Fin 128) :
    a21.view.read (Elt Ideal) (a21.view.writes (Elt Ideal) a21.view.junk (snPieces
      (fun t => View.readAt (Elt Ideal) a1.view (Rect.unit (s := S1x2x16x256) ![0, t.val, 0, 0] S1x1x16x256.size (qInb t)).toLoadRect f1) row)) (ix2 r k)
      = blkNew (a1.view.read (Elt Ideal) f1) kn r := by
  rw [read_snPieces]
  refine congrArg (fun z : EReal => z * scaleC) (Finset.sum_congr rfl fun l _ =>
    congrArg₂ (fun a b : EReal => a * b) (q_read c a1 f1 ⟨r.val / 16, by omega⟩ ⟨r.val % 16, by omega⟩ l) (hrow _))

theorem S_eq (D : Blocks) (c : Dev nD) (t : ℕ) (a1 : Memref sig .tc .vmem S1x2x16x256 .bf16) (f1 : Bf (F := Ideal) c a1)
    (a4 : Memref sig .tc .vmem S1x512x4096 .i8) (f4 : Bf (F := Ideal) c a4) (a5 : Memref sig .tc .vmem S1x8x4096 .f32) (f5 : Bf (F := Ideal) c a5)
    (h1 : (a1.view.read (Elt Ideal) f1) = D.X1 t) (h4 : (a4.view.read (Elt Ideal) f4) = D.X4 t) (h5 : (a5.view.read (Elt Ideal) f5) = D.X5 t) (r : Fin 32) :
    blkScore (a1.view.read (Elt Ideal) f1) (a4.view.read (Elt Ideal) f4) (a5.view.read (Elt Ideal) f5) r = D.S (t / 8) r (t % 8) := by
  unfold Blocks.S
  rw [h1, h4, h5, show 8 * (t / 8) + t % 8 = t by omega]

/-- The weighted sum of a step that found the scratch as the step before left it. -/
theorem acc_blk (D : Blocks) (c : Dev nD) (t : ℕ) (ht : 0 < t) (a1 : Memref sig .tc .vmem S1x2x16x256 .bf16) (f1 : Bf (F := Ideal) c a1)
    (a4 : Memref sig .tc .vmem S1x512x4096 .i8) (f4 : Bf (F := Ideal) c a4) (a5 : Memref sig .tc .vmem S1x8x4096 .f32) (f5 : Bf (F := Ideal) c a5)
    (a6 : Memref sig .tc .vmem S1x512x4096 .i8) (f6 : Bf (F := Ideal) c a6) (a7 : Memref sig .tc .vmem S1x8x4096 .f32) (f7 : Bf (F := Ideal) c a7)
    (a13 a14 : Memref sig .tc .vmem S8x2x4096 .bf16) (a16 : Memref sig .tc .vmem S32x4096 .bf16) (f16 : Bf (F := Ideal) c a16)
    (a17 : Memref sig .tc .vmem S512x32 .f32) (f17 : Bf (F := Ideal) c a17) (a20 : Memref sig .tc .vmem S8x32 .f32) (f20 : Bf (F := Ideal) c a20)
    (m l sn : Vec Ideal S32x128 .f32) (m' l' sn' pn' lf' : Vec Ideal S32x128 .f32) (h6 : (a6.view.read (Elt Ideal) f6) = D.X6 t) (h7 : (a7.view.read (Elt Ideal) f7) = D.X7 t)
    (H : Held D ((t - 1) / 8) ((t - 1) % 8) (a16.view.read (Elt Ideal) f16) (a17.view.read (Elt Ideal) f17) m' l' (a20.view.read (Elt Ideal) f20) sn' pn' lf') (z : Fin 512) (r : Fin 32) :
    accNew (blockLoads c a1 f1 a4 f4 a5 f5 a6 f6 a7 f7 a13 a14
      (fun x => View.readAt (Elt Ideal) a16.view (Rect.unit (s := S32x4096) (pOff x) S32x256.size (pOff_inb x)).toLoadRect f16)
      (View.readAt (Elt Ideal) a17.view (Rect.unit (s := S512x32) ![0, 0] S512x32.size inb_S512x32_S512x32_0_0).toLoadRect f17)
      (View.readAt (Elt Ideal) a20.view (Rect.unit (s := S8x32) ![0, 0] S8x32.size inb_S8x32_S8x32_0_0).toLoadRect f20) m l sn) (ix2 z r)
      = D.ac ((t - 1) / 8) r z ((t - 1) % 8 + 1) := by
  refine acc_step D _ ((t - 1) / 8) ((t - 1) % 8) H (fun x r y => ?_) (View.readAt_full a17.view f17 inb_S512x32_S512x32_0_0) (View.readAt_full a20.view f20 inb_S8x32_S8x32_0_0)
    (fun z x y => ?_) z r
  · exact congrArg (a16.view.read (Elt Ideal) f16) (funext fun a => Fin.ext (by
      match a with
      | ⟨0, _⟩ => show 0 + 1 * r.val = r.val; omega
      | ⟨1, _⟩ => show 256 * x.val + 1 * y.val = 256 * x.val + y.val; omega))
  · rw [vAt_blk, h6, h7]
    unfold Blocks.V blkV
    rw [show 8 * ((t - 1) / 8) + (t - 1) % 8 + 1 = t by omega]

end Cert.Proof.Step

end
-- ==== Proof.IdealRunMid.lean ====
/-
  The idealized kernel's body at a point inside a batch, run once by symbolic execution.
-/
module

public import proofs.«01_k».proof.Proof.IdealRunDefs

@[expose] public section

noncomputable section

namespace Cert.Proof.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A point inside a batch: only the straight line runs. What the run leaves in the buffers it
    writes, with the proof that the kernel's body leaves it there. -/
noncomputable def run_mid (c : Dev nD) (i : grid0.Coords) (hc1 : ¬ k0_cond1 i = 1#1) (hc2 : ¬ k0_cond2 i = 1#1) (hc3 : ¬ k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f4 : Bf (F := F) c a4) (f5 : Bf (F := F) c a5) (f6 : Bf (F := F) c a6) (f7 : Bf (F := F) c a7) (f16 : Bf (F := F) c a16) (f17 : Bf (F := F) c a17) (f18 : Bf (F := F) c a18) (f19 : Bf (F := F) c a19) (f20 : Bf (F := F) c a20) (f21 : Bf (F := F) c a21) :
    { W : Bf (F := F) c a16 × Bf (F := F) c a17 × Bf (F := F) c a18 × Bf (F := F) c a19 × Bf (F := F) c a20 × Bf (F := F) c a22 × Bf (F := F) c a23 //
      ∀ (f2 : Bf (F := F) c a2) (f3 : Bf (F := F) c a3) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f22 : Bf (F := F) c a22) (f23 : Bf (F := F) c a23) (f24 : Bf (F := F) c a24) (f25 : Bf (F := F) c a25) (E : Set ℕ) (Q : PUnit → sProp 𝕄),
        iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
          ∗ (iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ (∃ f, pt c a13 f) ∗ (∃ f, pt c a14 f) ∗ (∃ f, pt c a15 f) ∗ pt c a16 W.1 ∗ pt c a17 W.2.1 ∗ pt c a18 W.2.2.1 ∗ pt c a19 W.2.2.2.1 ∗ pt c a20 W.2.2.2.2.1 ∗ pt c a21 f21 ∗ pt c a22 W.2.2.2.2.2.1 ∗ pt c a23 W.2.2.2.2.2.2 ∗ pt c a24 f24 ∗ pt c a25 f25) -∗ Q ⟨⟩))
        ⊢ wp frame (wpE (defs₀ (F := F)) Variants.none c none) E
            (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q } := by
  refine ⟨⟨?_, ?_, ?_, ?_, ?_, ?_, ?_⟩, fun f2 f3 f8 f9 f10 f11 f12 f13 f14 f15 f22 f23 f24 f25 E Q => ?run⟩
  case run =>
    iintro ⟨H1, H2, H3, H4, H5, H6, H7, H8, H9, H10, H11, H12, H13, H14, H15, H16, H17, H18, H19, H20, H21, H22, H23, H24, H25, Hk⟩
    sl_exec_parts! (disch := sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Proof.KernelIdealRun

end
-- ==== Proof.StepMid.lean ====
/-
  What the run of a point inside a batch leaves, in the closed forms of a step.
-/
module

public import proofs.«01_k».proof.Proof.IdealRunMid
public import proofs.«01_k».proof.Proof.Batch

@[expose] public section

noncomputable section

namespace Cert.Proof.Step

open Cert.Proof.KernelIdealRun Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords) (hc1 : ¬ k0_cond1 i = 1#1) (hc2 : ¬ k0_cond2 i = 1#1) (hc3 : ¬ k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f4 : Bf (F := F) c a4) (f5 : Bf (F := F) c a5) (f6 : Bf (F := F) c a6) (f7 : Bf (F := F) c a7) (f16 : Bf (F := F) c a16) (f17 : Bf (F := F) c a17) (f18 : Bf (F := F) c a18) (f19 : Bf (F := F) c a19) (f20 : Bf (F := F) c a20) (f21 : Bf (F := F) c a21)

/-- The loads of a point inside a batch. -/
def midLoads : Loads F := blockLoads c a1 f1 a4 f4 a5 f5 a6 f6 a7 f7 a13 a14
  (fun x => View.readAt (Elt F) a16.view (Rect.unit (s := S32x4096) (pOff x) S32x256.size (pOff_inb x)).toLoadRect f16)
  (View.readAt (Elt F) a17.view (Rect.unit (s := S512x32) ![0, 0] S512x32.size inb_S512x32_S512x32_0_0).toLoadRect f17)
  (View.readAt (Elt F) a20.view (Rect.unit (s := S8x32) ![0, 0] S8x32.size inb_S8x32_S8x32_0_0).toLoadRect f20)
  (rd32 c a18 f18) (rd32 c a19 f19)
  (rd32 c a21 f21)

set_option maxRecDepth 65536
set_option maxHeartbeats 0

attribute [local irreducible] concatenate mulf addf subf exp maximumf shapeCast extractStridedSlice
  broadcastTo broadcast transpose multiReduction View.readAt View.readCov View.writes truncf extf sitofp select divf

theorem mid_16 : (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.1 = a16.view.writes (Elt F) a16.view.junk (pPieces (midLoads c a1 a4 a5 a6 a7 a13 a14 a16 a17 a18 a19 a20 a21 f1 f4 f5 f6 f7 f16 f17 f18 f19 f20 f21) (isFirst i) (isLast i) (sLoad (midLoads c a1 a4 a5 a6 a7 a13 a14 a16 a17 a18 a19 a20 a21 f1 f4 f5 f6 f7 f16 f17 f18 f19 f20 f21) a15) [] 16 (le_refl _)) := (rfl)

theorem mid_17 : (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.1 = a17.view.writes (Elt F) a17.view.junk [⟨Rect.unit (s := S512x32) ![0, 0] S512x32.size inb_S512x32_S512x32_0_0, accStored (midLoads c a1 a4 a5 a6 a7 a13 a14 a16 a17 a18 a19 a20 a21 f1 f4 f5 f6 f7 f16 f17 f18 f19 f20 f21)⟩] := (rfl)

theorem mid_18 : (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.1 = a18.view.writes (Elt F) a18.view.junk [⟨Rect.unit (s := S32x128) ![0, 0] S32x128.size inb_S32x128_S32x128_0_0, mStored (midLoads c a1 a4 a5 a6 a7 a13 a14 a16 a17 a18 a19 a20 a21 f1 f4 f5 f6 f7 f16 f17 f18 f19 f20 f21) (isFirst i) (isLast i)⟩] := (rfl)

theorem mid_19 : (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.1 = a19.view.writes (Elt F) a19.view.junk [⟨Rect.unit (s := S32x128) ![0, 0] S32x128.size inb_S32x128_S32x128_0_0, lStored (midLoads c a1 a4 a5 a6 a7 a13 a14 a16 a17 a18 a19 a20 a21 f1 f4 f5 f6 f7 f16 f17 f18 f19 f20 f21) (isFirst i) (isLast i) (sLoad (midLoads c a1 a4 a5 a6 a7 a13 a14 a16 a17 a18 a19 a20 a21 f1 f4 f5 f6 f7 f16 f17 f18 f19 f20 f21) a15)⟩] := (rfl)

theorem mid_20 : (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.2.1 = a20.view.writes (Elt F) a20.view.junk [⟨Rect.unit (s := S8x32) ![0, 0] S8x32.size inb_S8x32_S8x32_0_0, alStored (midLoads c a1 a4 a5 a6 a7 a13 a14 a16 a17 a18 a19 a20 a21 f1 f4 f5 f6 f7 f16 f17 f18 f19 f20 f21) (isFirst i) (isLast i)⟩] := (rfl)

theorem mid_22 : (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.2.2.1 = a22.view.writes (Elt F) a22.view.junk [⟨Rect.unit (s := S32x128) ![0, 0] S32x128.size inb_S32x128_S32x128_0_0, pnStored (midLoads c a1 a4 a5 a6 a7 a13 a14 a16 a17 a18 a19 a20 a21 f1 f4 f5 f6 f7 f16 f17 f18 f19 f20 f21) (isFirst i) (isLast i)⟩] := (rfl)

theorem mid_23 : (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.2.2.2 = a23.view.writes (Elt F) a23.view.junk [⟨Rect.unit (s := S32x128) ![0, 0] S32x128.size inb_S32x128_S32x128_0_0, lfinStored (midLoads c a1 a4 a5 a6 a7 a13 a14 a16 a17 a18 a19 a20 a21 f1 f4 f5 f6 f7 f16 f17 f18 f19 f20 f21) (isFirst i) (isLast i) (sLoad (midLoads c a1 a4 a5 a6 a7 a13 a14 a16 a17 a18 a19 a20 a21 f1 f4 f5 f6 f7 f16 f17 f18 f19 f20 f21) a15)⟩] := (rfl)

end Cert.Proof.Step

end
-- ==== Proof.CaseMid.lean ====
/-
  A step inside a batch.
-/
module

public import proofs.«01_k».proof.Proof.StepPost
public import proofs.«01_k».proof.Proof.StepMid

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt run_mid cond1_iff cond2_iff cond3_iff off1_eq)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)

set_option maxHeartbeats 1000000

/-- What the step leaves. -/
theorem mid_case (D : Blocks) (c : Dev nD) (i : grid0.Coords)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := Ideal) c a1) (f2 : Bf (F := Ideal) c a2) (f3 : Bf (F := Ideal) c a3) (f4 : Bf (F := Ideal) c a4) (f5 : Bf (F := Ideal) c a5) (f6 : Bf (F := Ideal) c a6) (f7 : Bf (F := Ideal) c a7) (f8 : Bf (F := Ideal) c a8) (f9 : Bf (F := Ideal) c a9) (f10 : Bf (F := Ideal) c a10) (f11 : Bf (F := Ideal) c a11) (f12 : Bf (F := Ideal) c a12) (f13 : Bf (F := Ideal) c a13) (f14 : Bf (F := Ideal) c a14) (f15 : Bf (F := Ideal) c a15) (f16 : Bf (F := Ideal) c a16) (f17 : Bf (F := Ideal) c a17) (f18 : Bf (F := Ideal) c a18) (f19 : Bf (F := Ideal) c a19) (f20 : Bf (F := Ideal) c a20) (f21 : Bf (F := Ideal) c a21) (f22 : Bf (F := Ideal) c a22) (f23 : Bf (F := Ideal) c a23) (f24 : Bf (F := Ideal) c a24) (f25 : Bf (F := Ideal) c a25)
    (hm : ¬ (i 0).val % 8 = 0)
    (hX1 : (a1.view.read (Elt Ideal) f1) = D.X1 (i 0).val) (hX4 : (a4.view.read (Elt Ideal) f4) = D.X4 (i 0).val) (hX5 : (a5.view.read (Elt Ideal) f5) = D.X5 (i 0).val) (hX6 : (a6.view.read (Elt Ideal) f6) = D.X6 (i 0).val) (hX7 : (a7.view.read (Elt Ideal) f7) = D.X7 (i 0).val)

    (hinv : Inv D (i 0).val (a16.view.read (Elt Ideal) f16) (a17.view.read (Elt Ideal) f17) (a18.view.read (Elt Ideal) f18) (a19.view.read (Elt Ideal) f19) (a20.view.read (Elt Ideal) f20) (a21.view.read (Elt Ideal) f21) (a22.view.read (Elt Ideal) f22) (a23.view.read (Elt Ideal) f23) (a24.view.read (Elt Ideal) f24) (a25.view.read (Elt Ideal) f25)) :
    ∃ (g8 : Bf (F := Ideal) c a8) (g9 : Bf (F := Ideal) c a9) (g10 : Bf (F := Ideal) c a10) (g11 : Bf (F := Ideal) c a11) (g12 : Bf (F := Ideal) c a12) (g16 : Bf (F := Ideal) c a16) (g17 : Bf (F := Ideal) c a17) (g18 : Bf (F := Ideal) c a18) (g19 : Bf (F := Ideal) c a19) (g20 : Bf (F := Ideal) c a20) (g21 : Bf (F := Ideal) c a21) (g22 : Bf (F := Ideal) c a22) (g23 : Bf (F := Ideal) c a23) (g24 : Bf (F := Ideal) c a24) (g25 : Bf (F := Ideal) c a25),
      Inv D ((i 0).val + 1) (a16.view.read (Elt Ideal) g16) (a17.view.read (Elt Ideal) g17) (a18.view.read (Elt Ideal) g18) (a19.view.read (Elt Ideal) g19) (a20.view.read (Elt Ideal) g20) (a21.view.read (Elt Ideal) g21) (a22.view.read (Elt Ideal) g22) (a23.view.read (Elt Ideal) g23) (a24.view.read (Elt Ideal) g24) (a25.view.read (Elt Ideal) g25)
      ∧ Outs D (i 0).val (a8.view.read (Elt Ideal) g8) (a9.view.read (Elt Ideal) f9) (a9.view.read (Elt Ideal) g9) (a10.view.read (Elt Ideal) f10) (a10.view.read (Elt Ideal) g10) (a11.view.read (Elt Ideal) f11) (a11.view.read (Elt Ideal) g11) (a12.view.read (Elt Ideal) f12) (a12.view.read (Elt Ideal) g12)
      ∧ Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 g8 g9 g10 g11 g12 g16 g17 g18 g19 g20 g21 g22 g23 g24 g25 := by
  have h65 : (i 0).val < 65 := (i 0).isLt
  obtain ⟨H, hk, hv⟩ := hinv (by omega) (by omega)
  have hb : ((i 0).val - 1) / 8 = (i 0).val / 8 := by omega
  have hj : ((i 0).val - 1) % 8 + 1 = (i 0).val % 8 := by omega
  have hc1 : ¬ k0_cond1 i = 1#1 := fun h => by have := (cond1_iff i).mp h; omega
  have hc2 : ¬ k0_cond2 i = 1#1 := fun h => hm ((cond2_iff i).mp h)
  have hc3 : ¬ k0_cond3 i = 1#1 := fun h => hm ((cond3_iff i).mp h).1
  refine ⟨f8, f9, f10, f11, f12, (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.1, (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.1, (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.1, (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.1, (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.2.1, f21, (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.2.2.1, (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).1.2.2.2.2.2.2, f24, f25, ?_, ?_,
    fun E Q => (run_mid c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21).2 f2 f3 f8 f9 f10 f11 f12 f13 f14 f15 f22 f23 f24 f25 E Q⟩
  · intro _ _
    refine ⟨held_next D (midLoads c a1 a4 a5 a6 a7 a13 a14 a16 a17 a18 a19 a20 a21 f1 f4 f5 f6 f7 f16 f17 f18 f19 f20 f21) (isFirst i) (isLast i) ((i 0).val / 8) ((i 0).val % 8)
      (fun r => (scoreRow_blk c a1 f1 a4 f4 a5 f5 a6 f6 a7 f7 a13 a14 _ _ _ _ _ _ r).trans (S_eq D c (i 0).val a1 f1 a4 f4 a5 f5 hX1 hX4 hX5 r))
      (fun r k => ?_) (fun r k => ?_) (fun r k => ?_) a15 a16 a17 a18 a19 a20 a21 a22 a23 [] [] c _ _ _ _ _ _ _ _
      (mid_16 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21) (fun _ x r => ?_) (mid_18 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21) (mid_19 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21) (mid_20 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21) (fun r k => ?_) (mid_22 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21) (mid_23 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21), hk, hv⟩
    · rw [isFirst_eq, if_neg hm, mOld_zero]
      refine (congrFun (View.readAt_full a18.view f18 inb_S32x128_S32x128_0_0) _).trans ((H.m r k).trans ?_)
      rw [hb, hj]
    · rw [isFirst_eq, if_neg hm, lOld_zero]
      refine (congrFun (View.readAt_full a19.view f19 inb_S32x128_S32x128_0_0) _).trans ((H.l r k).trans ?_)
      rw [hb, hj]
    · rw [isLast_eq]
      by_cases hm7 : (i 0).val % 8 = 7
      · rw [if_pos hm7, hm7, snNew_one]
        refine (congrFun (View.readAt_full a21.view f21 inb_S32x128_S32x128_0_0) _).trans ((H.sn r k).trans ?_)
        rw [hb]; rfl
      · rw [if_neg hm7, snNew_zero, fresh, if_neg hm7]
    · rw [(mid_17 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f21)]
      refine (congrFun (View.read_writes_full _ _ _ _ _) _).trans ?_
      unfold accStored
      rw [shapeCast_self, ← hb, ← hj]
      exact acc_blk D c (i 0).val (by omega) a1 f1 a4 f4 a5 f5 a6 f6 a7 f7 a13 a14 a16 f16 a17 f17 a20 f20 _ _ _ _ _ _ _ _ hX6 hX7 H x r
    · rw [← hb]; exact H.sn r k
  · exact ⟨fun _ h => absurd h hm, fun h => absurd (by rw [h]) hm, fun _ => ⟨rfl, rfl, rfl, rfl⟩⟩

end Cert.Proof.Step

end
-- ==== Proof.IdealRunStart.lean ====
/-
  The idealized kernel's body at the first point of a later batch, run once by symbolic execution.
-/
module

public import proofs.«01_k».proof.Proof.IdealRunDefs

@[expose] public section

noncomputable section

namespace Cert.Proof.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first point of a later batch: the previous batch is finished and written out. What the run leaves in the buffers it
    writes, with the proof that the kernel's body leaves it there. -/
noncomputable def run_start (c : Dev nD) (i : grid0.Coords) (hc1 : ¬ k0_cond1 i = 1#1) (hc2 : k0_cond2 i = 1#1) (hc3 : k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f4 : Bf (F := F) c a4) (f5 : Bf (F := F) c a5) (f6 : Bf (F := F) c a6) (f7 : Bf (F := F) c a7) (f16 : Bf (F := F) c a16) (f17 : Bf (F := F) c a17) (f18 : Bf (F := F) c a18) (f19 : Bf (F := F) c a19) (f20 : Bf (F := F) c a20) (f22 : Bf (F := F) c a22) (f23 : Bf (F := F) c a23) (f24 : Bf (F := F) c a24) (f25 : Bf (F := F) c a25) :
    { W : Bf (F := F) c a8 × Bf (F := F) c a16 × Bf (F := F) c a17 × Bf (F := F) c a18 × Bf (F := F) c a19 × Bf (F := F) c a20 × Bf (F := F) c a21 × Bf (F := F) c a22 × Bf (F := F) c a23 //
      ∀ (f2 : Bf (F := F) c a2) (f3 : Bf (F := F) c a3) (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f21 : Bf (F := F) c a21) (E : Set ℕ) (Q : PUnit → sProp 𝕄),
        iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
          ∗ (iprop(pt c a1 f1 ∗ pt c a2 f2 ∗ pt c a3 f3 ∗ pt c a4 f4 ∗ pt c a5 f5 ∗ pt c a6 f6 ∗ pt c a7 f7 ∗ pt c a8 W.1 ∗ pt c a9 f9 ∗ pt c a10 f10 ∗ pt c a11 f11 ∗ pt c a12 f12 ∗ (∃ f, pt c a13 f) ∗ (∃ f, pt c a14 f) ∗ (∃ f, pt c a15 f) ∗ pt c a16 W.2.1 ∗ pt c a17 W.2.2.1 ∗ pt c a18 W.2.2.2.1 ∗ pt c a19 W.2.2.2.2.1 ∗ pt c a20 W.2.2.2.2.2.1 ∗ pt c a21 W.2.2.2.2.2.2.1 ∗ pt c a22 W.2.2.2.2.2.2.2.1 ∗ pt c a23 W.2.2.2.2.2.2.2.2 ∗ pt c a24 f24 ∗ pt c a25 f25) -∗ Q ⟨⟩))
        ⊢ wp frame (wpE (defs₀ (F := F)) Variants.none c none) E
            (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q } := by
  refine ⟨⟨?_, ?_, ?_, ?_, ?_, ?_, ?_, ?_, ?_⟩, fun f2 f3 f8 f9 f10 f11 f12 f13 f14 f15 f21 E Q => ?run⟩
  case run =>
    iintro ⟨H1, H2, H3, H4, H5, H6, H7, H8, H9, H10, H11, H12, H13, H14, H15, H16, H17, H18, H19, H20, H21, H22, H23, H24, H25, Hk⟩
    sl_exec_parts! (disch := sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Proof.KernelIdealRun

end
-- ==== Proof.StepStart.lean ====
/-
  What the run of a point starting a batch after the first leaves, in the closed forms of a step.
-/
module

public import proofs.«01_k».proof.Proof.IdealRunStart
public import proofs.«01_k».proof.Proof.Batch

@[expose] public section

noncomputable section

namespace Cert.Proof.Step

open Cert.Proof.KernelIdealRun Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords) (hc1 : ¬ k0_cond1 i = 1#1) (hc2 : k0_cond2 i = 1#1) (hc3 : k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f4 : Bf (F := F) c a4) (f5 : Bf (F := F) c a5) (f6 : Bf (F := F) c a6) (f7 : Bf (F := F) c a7) (f16 : Bf (F := F) c a16) (f17 : Bf (F := F) c a17) (f18 : Bf (F := F) c a18) (f19 : Bf (F := F) c a19) (f20 : Bf (F := F) c a20) (f22 : Bf (F := F) c a22) (f23 : Bf (F := F) c a23) (f24 : Bf (F := F) c a24) (f25 : Bf (F := F) c a25)

/-- The loads of a point starting a batch after the first. -/
def startLoads : Loads F := blockLoads c a1 f1 a4 f4 a5 f5 a6 f6 a7 f7 a13 a14
  (fun x => View.readAt (Elt F) a16.view (Rect.unit (s := S32x4096) (pOff x) S32x256.size (pOff_inb x)).toLoadRect f16)
  (View.readAt (Elt F) a17.view (Rect.unit (s := S512x32) ![0, 0] S512x32.size inb_S512x32_S512x32_0_0).toLoadRect f17)
  (View.readAt (Elt F) a20.view (Rect.unit (s := S8x32) ![0, 0] S8x32.size inb_S8x32_S8x32_0_0).toLoadRect f20)
  (rd32 c a18 f18) (rd32 c a19 f19)
  (a21.view.readCov (snPieces (fun t => View.readAt (Elt F) a1.view (Rect.unit (s := S1x2x16x256) ![0, t.val, 0, 0] S1x1x16x256.size (qInb t)).toLoadRect f1) (View.readAt (Elt F) a24.view (Rect.unit (s := S8x512) (k0_off1 i) S1x512.size (k0_off1_inb i hc2)).toLoadRect f24)) (Rect.unit (s := S32x128) ![0, 0] S32x128.size inb_S32x128_S32x128_0_0).toLoadRect)

set_option maxRecDepth 65536
set_option maxHeartbeats 0

attribute [local irreducible] concatenate mulf addf subf exp maximumf shapeCast extractStridedSlice
  broadcastTo broadcast transpose multiReduction View.readAt View.readCov View.writes truncf extf sitofp select divf

theorem start_8 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.1 = a8.view.writes (Elt F) a8.view.junk [⟨Rect.unit (s := S1x32x64) ![0, 0, 0] S1x32x64.size inb_S1x32x64_S1x32x64_0_0_0, yStored (accNew (startLoads c i hc2 a1 a4 a5 a6 a7 a13 a14 a16 a17 a18 a19 a20 a21 a24 f1 f4 f5 f6 f7 f16 f17 f18 f19 f20 f24)) (rdCol c a22 f22) (View.readAt (Elt F) a25.view (Rect.unit (s := S8x512) (k0_off2 i) S1x512.size (k0_off2_inb i hc3)).toLoadRect f25) (rdCol c a23 f23)⟩] := (rfl)

theorem start_16 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.1 = a16.view.writes (Elt F) a16.view.junk (pPieces (startLoads c i hc2 a1 a4 a5 a6 a7 a13 a14 a16 a17 a18 a19 a20 a21 a24 f1 f4 f5 f6 f7 f16 f17 f18 f19 f20 f24) (isFirst i) (isLast i) (sLoad (startLoads c i hc2 a1 a4 a5 a6 a7 a13 a14 a16 a17 a18 a19 a20 a21 a24 f1 f4 f5 f6 f7 f16 f17 f18 f19 f20 f24) a15) [] 16 (le_refl _)) := (rfl)

theorem start_17 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.1 = a17.view.writes (Elt F) a17.view.junk [⟨Rect.unit (s := S512x32) ![0, 0] S512x32.size inb_S512x32_S512x32_0_0, accStored (startLoads c i hc2 a1 a4 a5 a6 a7 a13 a14 a16 a17 a18 a19 a20 a21 a24 f1 f4 f5 f6 f7 f16 f17 f18 f19 f20 f24)⟩] := (rfl)

theorem start_18 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.1 = a18.view.writes (Elt F) a18.view.junk [⟨Rect.unit (s := S32x128) ![0, 0] S32x128.size inb_S32x128_S32x128_0_0, mStored (startLoads c i hc2 a1 a4 a5 a6 a7 a13 a14 a16 a17 a18 a19 a20 a21 a24 f1 f4 f5 f6 f7 f16 f17 f18 f19 f20 f24) (isFirst i) (isLast i)⟩] := (rfl)

theorem start_19 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.1 = a19.view.writes (Elt F) a19.view.junk [⟨Rect.unit (s := S32x128) ![0, 0] S32x128.size inb_S32x128_S32x128_0_0, lStored (startLoads c i hc2 a1 a4 a5 a6 a7 a13 a14 a16 a17 a18 a19 a20 a21 a24 f1 f4 f5 f6 f7 f16 f17 f18 f19 f20 f24) (isFirst i) (isLast i) (sLoad (startLoads c i hc2 a1 a4 a5 a6 a7 a13 a14 a16 a17 a18 a19 a20 a21 a24 f1 f4 f5 f6 f7 f16 f17 f18 f19 f20 f24) a15)⟩] := (rfl)

theorem start_20 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.1 = a20.view.writes (Elt F) a20.view.junk [⟨Rect.unit (s := S8x32) ![0, 0] S8x32.size inb_S8x32_S8x32_0_0, alStored (startLoads c i hc2 a1 a4 a5 a6 a7 a13 a14 a16 a17 a18 a19 a20 a21 a24 f1 f4 f5 f6 f7 f16 f17 f18 f19 f20 f24) (isFirst i) (isLast i)⟩] := (rfl)

theorem start_21 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.2.1 = a21.view.writes (Elt F) a21.view.junk (snPieces (fun t => View.readAt (Elt F) a1.view (Rect.unit (s := S1x2x16x256) ![0, t.val, 0, 0] S1x1x16x256.size (qInb t)).toLoadRect f1) (View.readAt (Elt F) a24.view (Rect.unit (s := S8x512) (k0_off1 i) S1x512.size (k0_off1_inb i hc2)).toLoadRect f24)) := (rfl)

theorem start_22 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.2.2.1 = a22.view.writes (Elt F) a22.view.junk [⟨Rect.unit (s := S32x128) ![0, 0] S32x128.size inb_S32x128_S32x128_0_0, pnStored (startLoads c i hc2 a1 a4 a5 a6 a7 a13 a14 a16 a17 a18 a19 a20 a21 a24 f1 f4 f5 f6 f7 f16 f17 f18 f19 f20 f24) (isFirst i) (isLast i)⟩] := (rfl)

theorem start_23 : (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.2.2.2 = a23.view.writes (Elt F) a23.view.junk [⟨Rect.unit (s := S32x128) ![0, 0] S32x128.size inb_S32x128_S32x128_0_0, lfinStored (startLoads c i hc2 a1 a4 a5 a6 a7 a13 a14 a16 a17 a18 a19 a20 a21 a24 f1 f4 f5 f6 f7 f16 f17 f18 f19 f20 f24) (isFirst i) (isLast i) (sLoad (startLoads c i hc2 a1 a4 a5 a6 a7 a13 a14 a16 a17 a18 a19 a20 a21 a24 f1 f4 f5 f6 f7 f16 f17 f18 f19 f20 f24) a15)⟩] := (rfl)

end Cert.Proof.Step

end
-- ==== Proof.CaseStart.lean ====
/-
  A step that finishes a batch and starts the next.
-/
module

public import proofs.«01_k».proof.Proof.StepPost
public import proofs.«01_k».proof.Proof.StepStart

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt run_start cond1_iff cond2_iff cond3_iff off1_eq)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)

set_option maxHeartbeats 1000000

/-- What the step leaves. -/
theorem start_case (D : Blocks) (c : Dev nD) (i : grid0.Coords)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := Ideal) c a1) (f2 : Bf (F := Ideal) c a2) (f3 : Bf (F := Ideal) c a3) (f4 : Bf (F := Ideal) c a4) (f5 : Bf (F := Ideal) c a5) (f6 : Bf (F := Ideal) c a6) (f7 : Bf (F := Ideal) c a7) (f8 : Bf (F := Ideal) c a8) (f9 : Bf (F := Ideal) c a9) (f10 : Bf (F := Ideal) c a10) (f11 : Bf (F := Ideal) c a11) (f12 : Bf (F := Ideal) c a12) (f13 : Bf (F := Ideal) c a13) (f14 : Bf (F := Ideal) c a14) (f15 : Bf (F := Ideal) c a15) (f16 : Bf (F := Ideal) c a16) (f17 : Bf (F := Ideal) c a17) (f18 : Bf (F := Ideal) c a18) (f19 : Bf (F := Ideal) c a19) (f20 : Bf (F := Ideal) c a20) (f21 : Bf (F := Ideal) c a21) (f22 : Bf (F := Ideal) c a22) (f23 : Bf (F := Ideal) c a23) (f24 : Bf (F := Ideal) c a24) (f25 : Bf (F := Ideal) c a25)
    (hm : (i 0).val % 8 = 0) (h0 : 0 < (i 0).val)
    (hX1 : (a1.view.read (Elt Ideal) f1) = D.X1 (i 0).val) (hX4 : (a4.view.read (Elt Ideal) f4) = D.X4 (i 0).val) (hX5 : (a5.view.read (Elt Ideal) f5) = D.X5 (i 0).val) (hX6 : (a6.view.read (Elt Ideal) f6) = D.X6 (i 0).val) (hX7 : (a7.view.read (Elt Ideal) f7) = D.X7 (i 0).val)

    (hinv : Inv D (i 0).val (a16.view.read (Elt Ideal) f16) (a17.view.read (Elt Ideal) f17) (a18.view.read (Elt Ideal) f18) (a19.view.read (Elt Ideal) f19) (a20.view.read (Elt Ideal) f20) (a21.view.read (Elt Ideal) f21) (a22.view.read (Elt Ideal) f22) (a23.view.read (Elt Ideal) f23) (a24.view.read (Elt Ideal) f24) (a25.view.read (Elt Ideal) f25)) :
    ∃ (g8 : Bf (F := Ideal) c a8) (g9 : Bf (F := Ideal) c a9) (g10 : Bf (F := Ideal) c a10) (g11 : Bf (F := Ideal) c a11) (g12 : Bf (F := Ideal) c a12) (g16 : Bf (F := Ideal) c a16) (g17 : Bf (F := Ideal) c a17) (g18 : Bf (F := Ideal) c a18) (g19 : Bf (F := Ideal) c a19) (g20 : Bf (F := Ideal) c a20) (g21 : Bf (F := Ideal) c a21) (g22 : Bf (F := Ideal) c a22) (g23 : Bf (F := Ideal) c a23) (g24 : Bf (F := Ideal) c a24) (g25 : Bf (F := Ideal) c a25),
      Inv D ((i 0).val + 1) (a16.view.read (Elt Ideal) g16) (a17.view.read (Elt Ideal) g17) (a18.view.read (Elt Ideal) g18) (a19.view.read (Elt Ideal) g19) (a20.view.read (Elt Ideal) g20) (a21.view.read (Elt Ideal) g21) (a22.view.read (Elt Ideal) g22) (a23.view.read (Elt Ideal) g23) (a24.view.read (Elt Ideal) g24) (a25.view.read (Elt Ideal) g25)
      ∧ Outs D (i 0).val (a8.view.read (Elt Ideal) g8) (a9.view.read (Elt Ideal) f9) (a9.view.read (Elt Ideal) g9) (a10.view.read (Elt Ideal) f10) (a10.view.read (Elt Ideal) g10) (a11.view.read (Elt Ideal) f11) (a11.view.read (Elt Ideal) g11) (a12.view.read (Elt Ideal) f12) (a12.view.read (Elt Ideal) g12)
      ∧ Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 g8 g9 g10 g11 g12 g16 g17 g18 g19 g20 g21 g22 g23 g24 g25 := by
  have h65 : (i 0).val < 65 := (i 0).isLt
  obtain ⟨H, hk, hv⟩ := hinv h0 (by omega)
  have hb : ((i 0).val - 1) / 8 = (i 0).val / 8 - 1 := by omega
  have hj : ((i 0).val - 1) % 8 = 7 := by omega
  have hc1 : ¬ k0_cond1 i = 1#1 := fun h => by have := (cond1_iff i).mp h; omega
  have hc2 : k0_cond2 i = 1#1 := (cond2_iff i).mpr hm
  have hc3 : k0_cond3 i = 1#1 := (cond3_iff i).mpr ⟨hm, h0⟩
  have col (r : Fin 32) : (Rect.unit (s := S32x128) ![0, 0] S32x1.size inb_S32x128_S32x1_0_0).toLoadRect.idx (ix2 r (0 : Fin 1)) = ix2 r (0 : Fin 128) :=
    funext fun a => Fin.ext (by
      match a with
      | ⟨0, _⟩ => show 0 + 1 * r.val = r.val; omega
      | ⟨1, _⟩ => rfl)
  refine ⟨(run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.1, f9, f10, f11, f12, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.1, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.1, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.1, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.1, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.1, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.2.1, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.2.2.1, (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).1.2.2.2.2.2.2.2.2, f24, f25, ?_, ?_,
    fun E Q => (run_start c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25).2 f2 f3 f8 f9 f10 f11 f12 f13 f14 f15 f21 E Q⟩
  · intro _ h64
    have ht : (i 0).val < 64 := by omega
    refine ⟨held_next D (startLoads c i hc2 a1 a4 a5 a6 a7 a13 a14 a16 a17 a18 a19 a20 a21 a24 f1 f4 f5 f6 f7 f16 f17 f18 f19 f20 f24) (isFirst i) (isLast i) ((i 0).val / 8) ((i 0).val % 8)
      (fun r => (scoreRow_blk c a1 f1 a4 f4 a5 f5 a6 f6 a7 f7 a13 a14 _ _ _ _ _ _ r).trans (S_eq D c (i 0).val a1 f1 a4 f4 a5 f5 hX1 hX4 hX5 r))
      (fun r k => ?_) (fun r k => ?_) (fun r k => ?_) a15 a16 a17 a18 a19 a20 a21 a22 a23 [] [] c _ _ _ _ _ _ _ _
      (start_16 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25) (fun h => absurd h (by omega)) (start_18 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25) (start_19 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25) (start_20 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25) (fun r k => ?_) (start_22 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25) (start_23 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25), hk, hv⟩
    · rw [isFirst_eq, if_pos hm, mOld_one, hm]; rfl
    · rw [isFirst_eq, if_pos hm, lOld_one, hm]; rfl
    · rw [isLast_eq, if_neg (by omega), snNew_zero, hm]; rfl
    · rw [(start_21 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25)]
      refine (sn_read c a1 f1 a21 _ (D.kn ((i 0).val / 8)) (fun l => ?_) r k).trans ?_
      · refine (row_read (a24.view.read (Elt Ideal) f24) (k0_off1 i) (k0_off1_inb i hc2) (⟨min ((i 0).val / 8) 7, by omega⟩ : Fin 8) (off1_eq i) l).trans ?_
        rw [hk]
        unfold Blocks.kn
        exact congrArg (fun n : Fin 8 => newDeq D.X2 (ix2 n l)) (Fin.ext (by show min ((i 0).val / 8) 7 = (i 0).val / 8 % 8; omega))
      · unfold Blocks.sn
        rw [hX1, show 8 * ((i 0).val / 8) = (i 0).val by omega]
  · refine ⟨fun _ _ r d => ?_, fun h => absurd h (by omega), fun _ => ⟨rfl, rfl, rfl, rfl⟩⟩
    rw [(start_8 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f4 f5 f6 f7 f16 f17 f18 f19 f20 f22 f23 f24 f25)]
    refine (congrFun (View.read_writes_full _ _ _ _ _) _).trans ?_
    refine (yStored_apply _ _ _ _ r d).trans ?_
    refine congrArg₂ Ideal.div (congrArg₂ (fun a b : EReal => a + b) ?_ (congrArg₂ (fun a b : EReal => a * b) ?_ ?_)) ?_
    · rw [← hb]
      refine (acc_blk D c (i 0).val h0 a1 f1 a4 f4 a5 f5 a6 f6 a7 f7 a13 a14 a16 f16 a17 f17 a20 f20 _ _ _ _ _ _ _ _ hX6 hX7 H _ r).trans ?_
      rw [hj]; rfl
    · refine Eq.trans (b := a22.view.read (Elt Ideal) f22 (ix2 r (0 : Fin 128))) (congrArg (a22.view.read (Elt Ideal) f22) (col r)) ((H.pn r 0).trans ?_)
      rw [hb, hj]; rfl
    · refine (row_read (a25.view.read (Elt Ideal) f25) (k0_off2 i) (k0_off2_inb i hc3) (⟨(i 0).val / 8 - 1, by omega⟩ : Fin 8) (off2_eq i hm h0) _).trans ?_
      rw [hv]
      unfold Blocks.vn
      exact congrArg (fun n : Fin 8 => newDeq D.X3 (ix2 n (Blocks.chan r d))) (Fin.ext (by show (i 0).val / 8 - 1 = ((i 0).val / 8 - 1) % 8; omega))
    · refine Eq.trans (b := a23.view.read (Elt Ideal) f23 (ix2 r (0 : Fin 128))) (congrArg (a23.view.read (Elt Ideal) f23) (col r)) ((H.lf r 0).trans ?_)
      rw [hb, hj]

end Cert.Proof.Step

end
-- ==== Proof.IdealRunFirst.lean ====
/-
  The idealized kernel's body at the first point of all, run once by symbolic execution.
-/
module

public import proofs.«01_k».proof.Proof.IdealRunDefs

@[expose] public section

noncomputable section

namespace Cert.Proof.KernelIdealRun

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first point: the new token is quantised, the accumulators cleared, and the new token's scores taken. What the run leaves in the buffers it
    writes, with the proof that the kernel's body leaves it there. -/
noncomputable def run_first (c : Dev nD) (i : grid0.Coords) (hc1 : k0_cond1 i = 1#1) (hc2 : k0_cond2 i = 1#1) (hc3 : ¬ k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f18 : Bf (F := F) c a18) (f19 : Bf (F := F) c a19) :
    { W : Bf (F := F) c a9 × Bf (F := F) c a10 × Bf (F := F) c a11 × Bf (F := F) c a12 × Bf (F := F) c a16 × Bf (F := F) c a17 × Bf (F := F) c a18 × Bf (F := F) c a19 × Bf (F := F) c a20 × Bf (F := F) c a21 × Bf (F := F) c a22 × Bf (F := F) c a23 × Bf (F := F) c a24 × Bf (F := F) c a25 //
      ∀ (f8 : Bf (F := F) c a8) (f9 : Bf (F := F) c a9) (f10 : Bf (F := F) c a10) (f11 : Bf (F := F) c a11) (f12 : Bf (F := F) c a12) (f13 : Bf (F := F) c a13) (f14 : Bf (F := F) c a14) (f15 : Bf (F := F) c a15) (f16 : Bf (F := F) c a16) (f17 : Bf (F := F) c a17) (f20 : Bf (F := F) c a20) (f21 : Bf (F := F) c a21) (f22 : Bf (F := F) c a22) (f23 : Bf (F := F) c a23) (f24 : Bf (F := F) c a24) (f25 : Bf (F := F) c a25) (E : Set ℕ) (Q : PUnit → sProp 𝕄),
        iprop(pt c a1 f1 ∗ pt c a2 f2 ∗ pt c a3 f3 ∗ pt c a4 f4 ∗ pt c a5 f5 ∗ pt c a6 f6 ∗ pt c a7 f7 ∗ pt c a8 f8 ∗ pt c a9 f9 ∗ pt c a10 f10 ∗ pt c a11 f11 ∗ pt c a12 f12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
          ∗ (iprop(pt c a1 f1 ∗ pt c a2 f2 ∗ pt c a3 f3 ∗ pt c a4 f4 ∗ pt c a5 f5 ∗ pt c a6 f6 ∗ pt c a7 f7 ∗ pt c a8 f8 ∗ pt c a9 W.1 ∗ pt c a10 W.2.1 ∗ pt c a11 W.2.2.1 ∗ pt c a12 W.2.2.2.1 ∗ (∃ f, pt c a13 f) ∗ (∃ f, pt c a14 f) ∗ (∃ f, pt c a15 f) ∗ pt c a16 W.2.2.2.2.1 ∗ pt c a17 W.2.2.2.2.2.1 ∗ pt c a18 W.2.2.2.2.2.2.1 ∗ pt c a19 W.2.2.2.2.2.2.2.1 ∗ pt c a20 W.2.2.2.2.2.2.2.2.1 ∗ pt c a21 W.2.2.2.2.2.2.2.2.2.1 ∗ pt c a22 W.2.2.2.2.2.2.2.2.2.2.1 ∗ pt c a23 W.2.2.2.2.2.2.2.2.2.2.2.1 ∗ pt c a24 W.2.2.2.2.2.2.2.2.2.2.2.2.1 ∗ pt c a25 W.2.2.2.2.2.2.2.2.2.2.2.2.2) -∗ Q ⟨⟩))
        ⊢ wp frame (wpE (defs₀ (F := F)) Variants.none c none) E
            (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q } := by
  refine ⟨⟨?_, ?_, ?_, ?_, ?_, ?_, ?_, ?_, ?_, ?_, ?_, ?_, ?_, ?_⟩, fun f8 f9 f10 f11 f12 f13 f14 f15 f16 f17 f20 f21 f22 f23 f24 f25 E Q => ?run⟩
  case run =>
    iintro ⟨H1, H2, H3, H4, H5, H6, H7, H8, H9, H10, H11, H12, H13, H14, H15, H16, H17, H18, H19, H20, H21, H22, H23, H24, H25, Hk⟩
    sl_exec_parts! (disch := sl_exact hc1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Proof.KernelIdealRun

end
-- ==== Proof.StepFirst.lean ====
/-
  What the run of a point starting the first batch leaves, in the closed forms of a step.
-/
module

public import proofs.«01_k».proof.Proof.IdealRunFirst
public import proofs.«01_k».proof.Proof.Batch

@[expose] public section

noncomputable section

namespace Cert.Proof.Step

open Cert.Proof.KernelIdealRun Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords) (hc1 : k0_cond1 i = 1#1) (hc2 : k0_cond2 i = 1#1) (hc3 : ¬ k0_cond3 i = 1#1)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := F) c a1) (f2 : Bf (F := F) c a2) (f3 : Bf (F := F) c a3) (f4 : Bf (F := F) c a4) (f5 : Bf (F := F) c a5) (f6 : Bf (F := F) c a6) (f7 : Bf (F := F) c a7) (f18 : Bf (F := F) c a18) (f19 : Bf (F := F) c a19)

/-- The loads of a point starting the first batch. -/
def firstLoads : Loads F := blockLoads c a1 f1 a4 f4 a5 f5 a6 f6 a7 f7 a13 a14
  (fun x => a16.view.readCov [⟨Rect.unit (s := S32x4096) ![0, 0] S32x4096.size inb_S32x4096_S32x4096_0_0, k0_pay68⟩] (Rect.unit (s := S32x4096) (pOff x) S32x256.size (pOff_inb x)).toLoadRect)
  (a17.view.readCov [⟨Rect.unit (s := S512x32) ![0, 0] S512x32.size inb_S512x32_S512x32_0_0, k0_pay76 k0_pay69⟩] (Rect.unit (s := S512x32) ![0, 0] S512x32.size inb_S512x32_S512x32_0_0).toLoadRect)
  (a20.view.readCov [⟨Rect.unit (s := S8x32) ![0, 0] S8x32.size inb_S8x32_S8x32_0_0, k0_pay77⟩] (Rect.unit (s := S8x32) ![0, 0] S8x32.size inb_S8x32_S8x32_0_0).toLoadRect)
  (rd32 c a18 f18) (rd32 c a19 f19)
  (a21.view.readCov (snPieces (fun t => View.readAt (Elt F) a1.view (Rect.unit (s := S1x2x16x256) ![0, t.val, 0, 0] S1x1x16x256.size (qInb t)).toLoadRect f1) (a24.view.readCov [⟨Rect.unit (s := S8x512) ![0, 0] S8x512.size inb_S8x512_S8x512_0_0, newDeq (rdNew c a2 f2)⟩] (Rect.unit (s := S8x512) (k0_off1 i) S1x512.size (k0_off1_inb i hc2)).toLoadRect)) (Rect.unit (s := S32x128) ![0, 0] S32x128.size inb_S32x128_S32x128_0_0).toLoadRect)

set_option maxRecDepth 65536
set_option maxHeartbeats 0

attribute [local irreducible] concatenate mulf addf subf exp maximumf shapeCast extractStridedSlice
  broadcastTo broadcast transpose multiReduction View.readAt View.writes truncf extf sitofp select divf

theorem first_9 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.1 = a9.view.writes (Elt F) a9.view.junk [⟨Rect.unit (s := S8x512) ![0, 0] S8x512.size inb_S8x512_S8x512_0_0, codes (rdNew c a2 f2)⟩] := (rfl)

theorem first_10 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.1 = a10.view.writes (Elt F) a10.view.junk [⟨Rect.unit (s := S8x8) ![0, 0] S8x8.size inb_S8x8_S8x8_0_0, outScale (rdNew c a2 f2) 8⟩] := (rfl)

theorem first_11 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.1 = a11.view.writes (Elt F) a11.view.junk [⟨Rect.unit (s := S8x512) ![0, 0] S8x512.size inb_S8x512_S8x512_0_0, codes (rdNew c a3 f3)⟩] := (rfl)

theorem first_12 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.1 = a12.view.writes (Elt F) a12.view.junk [⟨Rect.unit (s := S8x8) ![0, 0] S8x8.size inb_S8x8_S8x8_0_0, outScale (rdNew c a3 f3) 8⟩] := (rfl)

theorem first_16 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.1 = a16.view.writes (Elt F) a16.view.junk (pPieces (firstLoads c i hc2 a1 a2 a4 a5 a6 a7 a13 a14 a16 a17 a18 a19 a20 a21 a24 f1 f2 f4 f5 f6 f7 f18 f19) (isFirst i) (isLast i) (sLoad (firstLoads c i hc2 a1 a2 a4 a5 a6 a7 a13 a14 a16 a17 a18 a19 a20 a21 a24 f1 f2 f4 f5 f6 f7 f18 f19) a15) [⟨Rect.unit (s := S32x4096) ![0, 0] S32x4096.size inb_S32x4096_S32x4096_0_0, k0_pay68⟩] 16 (le_refl _)) := (rfl)

theorem first_18 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.1 = a18.view.writes (Elt F) a18.view.junk [⟨Rect.unit (s := S32x128) ![0, 0] S32x128.size inb_S32x128_S32x128_0_0, mStored (firstLoads c i hc2 a1 a2 a4 a5 a6 a7 a13 a14 a16 a17 a18 a19 a20 a21 a24 f1 f2 f4 f5 f6 f7 f18 f19) (isFirst i) (isLast i)⟩] := (rfl)

theorem first_19 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.1 = a19.view.writes (Elt F) a19.view.junk [⟨Rect.unit (s := S32x128) ![0, 0] S32x128.size inb_S32x128_S32x128_0_0, lStored (firstLoads c i hc2 a1 a2 a4 a5 a6 a7 a13 a14 a16 a17 a18 a19 a20 a21 a24 f1 f2 f4 f5 f6 f7 f18 f19) (isFirst i) (isLast i) (sLoad (firstLoads c i hc2 a1 a2 a4 a5 a6 a7 a13 a14 a16 a17 a18 a19 a20 a21 a24 f1 f2 f4 f5 f6 f7 f18 f19) a15)⟩] := (rfl)

theorem first_20 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.1 = a20.view.writes (Elt F) a20.view.junk [⟨Rect.unit (s := S8x32) ![0, 0] S8x32.size inb_S8x32_S8x32_0_0, alStored (firstLoads c i hc2 a1 a2 a4 a5 a6 a7 a13 a14 a16 a17 a18 a19 a20 a21 a24 f1 f2 f4 f5 f6 f7 f18 f19) (isFirst i) (isLast i)⟩, ⟨Rect.unit (s := S8x32) ![0, 0] S8x32.size inb_S8x32_S8x32_0_0, k0_pay77⟩] := (rfl)

theorem first_21 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.1 = a21.view.writes (Elt F) a21.view.junk (snPieces (fun t => View.readAt (Elt F) a1.view (Rect.unit (s := S1x2x16x256) ![0, t.val, 0, 0] S1x1x16x256.size (qInb t)).toLoadRect f1) (a24.view.readCov [⟨Rect.unit (s := S8x512) ![0, 0] S8x512.size inb_S8x512_S8x512_0_0, newDeq (rdNew c a2 f2)⟩] (Rect.unit (s := S8x512) (k0_off1 i) S1x512.size (k0_off1_inb i hc2)).toLoadRect)) := (rfl)

theorem first_22 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.1 = a22.view.writes (Elt F) a22.view.junk [⟨Rect.unit (s := S32x128) ![0, 0] S32x128.size inb_S32x128_S32x128_0_0, pnStored (firstLoads c i hc2 a1 a2 a4 a5 a6 a7 a13 a14 a16 a17 a18 a19 a20 a21 a24 f1 f2 f4 f5 f6 f7 f18 f19) (isFirst i) (isLast i)⟩] := (rfl)

theorem first_23 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.2.1 = a23.view.writes (Elt F) a23.view.junk [⟨Rect.unit (s := S32x128) ![0, 0] S32x128.size inb_S32x128_S32x128_0_0, lfinStored (firstLoads c i hc2 a1 a2 a4 a5 a6 a7 a13 a14 a16 a17 a18 a19 a20 a21 a24 f1 f2 f4 f5 f6 f7 f18 f19) (isFirst i) (isLast i) (sLoad (firstLoads c i hc2 a1 a2 a4 a5 a6 a7 a13 a14 a16 a17 a18 a19 a20 a21 a24 f1 f2 f4 f5 f6 f7 f18 f19) a15)⟩] := (rfl)

theorem first_24 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.2.2.1 = a24.view.writes (Elt F) a24.view.junk [⟨Rect.unit (s := S8x512) ![0, 0] S8x512.size inb_S8x512_S8x512_0_0, newDeq (rdNew c a2 f2)⟩] := (rfl)

theorem first_25 : (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.2.2.2 = a25.view.writes (Elt F) a25.view.junk [⟨Rect.unit (s := S8x512) ![0, 0] S8x512.size inb_S8x512_S8x512_0_0, newDeq (rdNew c a3 f3)⟩] := (rfl)

end Cert.Proof.Step

end
-- ==== Proof.CaseFirst.lean ====
/-
  The first step.
-/
module

public import proofs.«01_k».proof.Proof.StepPost
public import proofs.«01_k».proof.Proof.StepFirst

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt run_first cond1_iff cond2_iff cond3_iff off1_eq)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)

set_option maxHeartbeats 1000000

/-- What the step leaves. -/
theorem first_case (D : Blocks) (c : Dev nD) (i : grid0.Coords)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := Ideal) c a1) (f2 : Bf (F := Ideal) c a2) (f3 : Bf (F := Ideal) c a3) (f4 : Bf (F := Ideal) c a4) (f5 : Bf (F := Ideal) c a5) (f6 : Bf (F := Ideal) c a6) (f7 : Bf (F := Ideal) c a7) (f8 : Bf (F := Ideal) c a8) (f9 : Bf (F := Ideal) c a9) (f10 : Bf (F := Ideal) c a10) (f11 : Bf (F := Ideal) c a11) (f12 : Bf (F := Ideal) c a12) (f13 : Bf (F := Ideal) c a13) (f14 : Bf (F := Ideal) c a14) (f15 : Bf (F := Ideal) c a15) (f16 : Bf (F := Ideal) c a16) (f17 : Bf (F := Ideal) c a17) (f18 : Bf (F := Ideal) c a18) (f19 : Bf (F := Ideal) c a19) (f20 : Bf (F := Ideal) c a20) (f21 : Bf (F := Ideal) c a21) (f22 : Bf (F := Ideal) c a22) (f23 : Bf (F := Ideal) c a23) (f24 : Bf (F := Ideal) c a24) (f25 : Bf (F := Ideal) c a25)
    (h0 : (i 0).val = 0)
    (hX1 : (a1.view.read (Elt Ideal) f1) = D.X1 (i 0).val) (hX4 : (a4.view.read (Elt Ideal) f4) = D.X4 (i 0).val) (hX5 : (a5.view.read (Elt Ideal) f5) = D.X5 (i 0).val) (hX6 : (a6.view.read (Elt Ideal) f6) = D.X6 (i 0).val) (hX7 : (a7.view.read (Elt Ideal) f7) = D.X7 (i 0).val)
    (hX2 : (a2.view.read (Elt Ideal) f2) = D.X2) (hX3 : (a3.view.read (Elt Ideal) f3) = D.X3)
    (hinv : Inv D (i 0).val (a16.view.read (Elt Ideal) f16) (a17.view.read (Elt Ideal) f17) (a18.view.read (Elt Ideal) f18) (a19.view.read (Elt Ideal) f19) (a20.view.read (Elt Ideal) f20) (a21.view.read (Elt Ideal) f21) (a22.view.read (Elt Ideal) f22) (a23.view.read (Elt Ideal) f23) (a24.view.read (Elt Ideal) f24) (a25.view.read (Elt Ideal) f25)) :
    ∃ (g8 : Bf (F := Ideal) c a8) (g9 : Bf (F := Ideal) c a9) (g10 : Bf (F := Ideal) c a10) (g11 : Bf (F := Ideal) c a11) (g12 : Bf (F := Ideal) c a12) (g16 : Bf (F := Ideal) c a16) (g17 : Bf (F := Ideal) c a17) (g18 : Bf (F := Ideal) c a18) (g19 : Bf (F := Ideal) c a19) (g20 : Bf (F := Ideal) c a20) (g21 : Bf (F := Ideal) c a21) (g22 : Bf (F := Ideal) c a22) (g23 : Bf (F := Ideal) c a23) (g24 : Bf (F := Ideal) c a24) (g25 : Bf (F := Ideal) c a25),
      Inv D ((i 0).val + 1) (a16.view.read (Elt Ideal) g16) (a17.view.read (Elt Ideal) g17) (a18.view.read (Elt Ideal) g18) (a19.view.read (Elt Ideal) g19) (a20.view.read (Elt Ideal) g20) (a21.view.read (Elt Ideal) g21) (a22.view.read (Elt Ideal) g22) (a23.view.read (Elt Ideal) g23) (a24.view.read (Elt Ideal) g24) (a25.view.read (Elt Ideal) g25)
      ∧ Outs D (i 0).val (a8.view.read (Elt Ideal) g8) (a9.view.read (Elt Ideal) f9) (a9.view.read (Elt Ideal) g9) (a10.view.read (Elt Ideal) f10) (a10.view.read (Elt Ideal) g10) (a11.view.read (Elt Ideal) f11) (a11.view.read (Elt Ideal) g11) (a12.view.read (Elt Ideal) f12) (a12.view.read (Elt Ideal) g12)
      ∧ Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 g8 g9 g10 g11 g12 g16 g17 g18 g19 g20 g21 g22 g23 g24 g25 := by
  have h65 : (i 0).val < 65 := (i 0).isLt
  have hm : (i 0).val % 8 = 0 := by omega
  have hc1 : k0_cond1 i = 1#1 := (cond1_iff i).mpr h0
  have hc2 : k0_cond2 i = 1#1 := (cond2_iff i).mpr hm
  have hc3 : ¬ k0_cond3 i = 1#1 := fun h => by have := (cond3_iff i).mp h; omega
  have rd2 : rdNew c a2 f2 = D.X2 := (View.readAt_full a2.view f2 inb_S8x512_S8x512_0_0).trans hX2
  have rd3 : rdNew c a3 f3 = D.X3 := (View.readAt_full a3.view f3 inb_S8x512_S8x512_0_0).trans hX3
  refine ⟨f8, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.2.2.1, (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).1.2.2.2.2.2.2.2.2.2.2.2.2.2, ?_, ?_,
    fun E Q => (run_first c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19).2 f8 f9 f10 f11 f12 f13 f14 f15 f16 f17 f20 f21 f22 f23 f24 f25 E Q⟩
  · intro _ _
    refine ⟨held_next D (firstLoads c i hc2 a1 a2 a4 a5 a6 a7 a13 a14 a16 a17 a18 a19 a20 a21 a24 f1 f2 f4 f5 f6 f7 f18 f19) (isFirst i) (isLast i) ((i 0).val / 8) ((i 0).val % 8)
      (fun r => (scoreRow_blk c a1 f1 a4 f4 a5 f5 a6 f6 a7 f7 a13 a14 _ _ _ _ _ _ r).trans (S_eq D c (i 0).val a1 f1 a4 f4 a5 f5 hX1 hX4 hX5 r))
      (fun r k => ?_) (fun r k => ?_) (fun r k => ?_) a15 a16 a17 a18 a19 a20 a21 a22 a23 _ _ c _ _ _ _ _ _ _ _
      (first_16 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19) (fun h => absurd h (by omega)) (first_18 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19) (first_19 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19) (first_20 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19) (fun r k => ?_) (first_22 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19) (first_23 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19), ?_, ?_⟩
    · rw [isFirst_eq, if_pos hm, mOld_one, hm]; rfl
    · rw [isFirst_eq, if_pos hm, lOld_one, hm]; rfl
    · rw [isLast_eq, if_neg (by omega), snNew_zero, hm]; rfl
    · rw [(first_21 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19)]
      refine (sn_read c a1 f1 a21 _ (D.kn ((i 0).val / 8)) (fun l => ?_) r k).trans ?_
      · refine (row_read (a24.view.read (Elt Ideal) (a24.view.writes (Elt Ideal) a24.view.junk
          [⟨Rect.unit (s := S8x512) ![0, 0] S8x512.size inb_S8x512_S8x512_0_0, newDeq (rdNew c a2 f2)⟩]))
          (k0_off1 i) (k0_off1_inb i hc2) (⟨min ((i 0).val / 8) 7, by omega⟩ : Fin 8) (off1_eq i) l).trans ?_
        rw [View.read_writes_full, rd2]
        unfold Blocks.kn
        exact congrArg (fun n : Fin 8 => newDeq D.X2 (ix2 n l)) (Fin.ext (by show min ((i 0).val / 8) 7 = (i 0).val / 8 % 8; omega))
      · unfold Blocks.sn
        rw [hX1, show 8 * ((i 0).val / 8) = (i 0).val by omega]
    · rw [(first_24 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19), View.read_writes_full, rd2]
    · rw [(first_25 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19), View.read_writes_full, rd3]
  · refine ⟨fun h => absurd h (by omega), fun _ => ⟨?_, ?_, ?_, ?_⟩, fun h => absurd h0 h⟩
    · rw [(first_9 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19), View.read_writes_full, rd2]
    · rw [(first_10 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19), View.read_writes_full, rd2]
    · rw [(first_11 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19), View.read_writes_full, rd3]
    · rw [(first_12 c i hc1 hc2 hc3 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f18 f19), View.read_writes_full, rd3]

end Cert.Proof.Step

end
-- ==== Proof.KernelStep.lean ====
/-
  One step of the body, whichever kind it is, on memrefs owned by what they read.
-/
module

public import proofs.«01_k».proof.Proof.CaseMid
public import proofs.«01_k».proof.Proof.CaseStart
public import proofs.«01_k».proof.Proof.CaseFirst

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)

local notation "𝕄" => MT nD τ sig Unit (Elt Ideal) ℕ (UR sig nD τ) ℕ

/-- What any step leaves. -/
theorem any_case (D : Blocks) (c : Dev nD) (i : grid0.Coords)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (f1 : Bf (F := Ideal) c a1) (f2 : Bf (F := Ideal) c a2) (f3 : Bf (F := Ideal) c a3) (f4 : Bf (F := Ideal) c a4) (f5 : Bf (F := Ideal) c a5) (f6 : Bf (F := Ideal) c a6) (f7 : Bf (F := Ideal) c a7) (f8 : Bf (F := Ideal) c a8) (f9 : Bf (F := Ideal) c a9) (f10 : Bf (F := Ideal) c a10) (f11 : Bf (F := Ideal) c a11) (f12 : Bf (F := Ideal) c a12) (f13 : Bf (F := Ideal) c a13) (f14 : Bf (F := Ideal) c a14) (f15 : Bf (F := Ideal) c a15) (f16 : Bf (F := Ideal) c a16) (f17 : Bf (F := Ideal) c a17) (f18 : Bf (F := Ideal) c a18) (f19 : Bf (F := Ideal) c a19) (f20 : Bf (F := Ideal) c a20) (f21 : Bf (F := Ideal) c a21) (f22 : Bf (F := Ideal) c a22) (f23 : Bf (F := Ideal) c a23) (f24 : Bf (F := Ideal) c a24) (f25 : Bf (F := Ideal) c a25)
    (hX1 : (a1.view.read (Elt Ideal) f1) = D.X1 (i 0).val) (hX4 : (a4.view.read (Elt Ideal) f4) = D.X4 (i 0).val) (hX5 : (a5.view.read (Elt Ideal) f5) = D.X5 (i 0).val) (hX6 : (a6.view.read (Elt Ideal) f6) = D.X6 (i 0).val) (hX7 : (a7.view.read (Elt Ideal) f7) = D.X7 (i 0).val) (hX2 : (i 0).val = 0 → (a2.view.read (Elt Ideal) f2) = D.X2) (hX3 : (i 0).val = 0 → (a3.view.read (Elt Ideal) f3) = D.X3)
    (hinv : Inv D (i 0).val (a16.view.read (Elt Ideal) f16) (a17.view.read (Elt Ideal) f17) (a18.view.read (Elt Ideal) f18) (a19.view.read (Elt Ideal) f19) (a20.view.read (Elt Ideal) f20) (a21.view.read (Elt Ideal) f21) (a22.view.read (Elt Ideal) f22) (a23.view.read (Elt Ideal) f23) (a24.view.read (Elt Ideal) f24) (a25.view.read (Elt Ideal) f25)) :
    ∃ (g8 : Bf (F := Ideal) c a8) (g9 : Bf (F := Ideal) c a9) (g10 : Bf (F := Ideal) c a10) (g11 : Bf (F := Ideal) c a11) (g12 : Bf (F := Ideal) c a12) (g16 : Bf (F := Ideal) c a16) (g17 : Bf (F := Ideal) c a17) (g18 : Bf (F := Ideal) c a18) (g19 : Bf (F := Ideal) c a19) (g20 : Bf (F := Ideal) c a20) (g21 : Bf (F := Ideal) c a21) (g22 : Bf (F := Ideal) c a22) (g23 : Bf (F := Ideal) c a23) (g24 : Bf (F := Ideal) c a24) (g25 : Bf (F := Ideal) c a25),
      Inv D ((i 0).val + 1) (a16.view.read (Elt Ideal) g16) (a17.view.read (Elt Ideal) g17) (a18.view.read (Elt Ideal) g18) (a19.view.read (Elt Ideal) g19) (a20.view.read (Elt Ideal) g20) (a21.view.read (Elt Ideal) g21) (a22.view.read (Elt Ideal) g22) (a23.view.read (Elt Ideal) g23) (a24.view.read (Elt Ideal) g24) (a25.view.read (Elt Ideal) g25)
      ∧ Outs D (i 0).val (a8.view.read (Elt Ideal) g8) (a9.view.read (Elt Ideal) f9) (a9.view.read (Elt Ideal) g9) (a10.view.read (Elt Ideal) f10) (a10.view.read (Elt Ideal) g10) (a11.view.read (Elt Ideal) f11) (a11.view.read (Elt Ideal) g11) (a12.view.read (Elt Ideal) f12) (a12.view.read (Elt Ideal) g12)
      ∧ Runs c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 g8 g9 g10 g11 g12 g16 g17 g18 g19 g20 g21 g22 g23 g24 g25 := by
  by_cases h0 : (i 0).val = 0
  · exact first_case D c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 h0 hX1 hX4 hX5 hX6 hX7 (hX2 h0) (hX3 h0) hinv
  · by_cases hm : (i 0).val % 8 = 0
    · exact start_case D c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 hm (by omega) hX1 hX4 hX5 hX6 hX7 hinv
    · exact mid_case D c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 f1 f2 f3 f4 f5 f6 f7 f8 f9 f10 f11 f12 f13 f14 f15 f16 f17 f18 f19 f20 f21 f22 f23 f24 f25 hm hX1 hX4 hX5 hX6 hX7 hinv

/-- A whole memref is owned at `x` exactly when its buffer is held at the contents that read `x`. -/
theorem owns_eq (c : Dev nD) {sp : Space} {S : Shape} {e : EltTy} (M : Memref sig .tc sp S e) (h : M.IsWhole) (x : Vec Ideal S e) :
    (owns (c : Thread nD τ) M fullShare x : sProp 𝕄) = pt c M (h.unread x) := by
  have h₁ : (owns (c : Thread nD τ) M fullShare x : sProp 𝕄) ⊢ pt c M (h.unread x) := by
    unfold owns pt
    rw [h.set_eq_univ]
    iintro ⟨%f, %hf, H⟩
    obtain rfl := h.eq_unread hf
    iexact H
  have h₂ : pt c M (h.unread x) ⊢ (owns (c : Thread nD τ) M fullShare x : sProp 𝕄) := by
    unfold owns pt
    rw [h.set_eq_univ]
    iintro H
    iexists h.unread x; isplitr; · ipureintro; exact h.read_unread x
    iexact H
  exact BI.equiv_iff.mp ⟨h₁, h₂⟩

/-- A whole memref's contents, read and put back. -/
theorem unread_read (c : Dev nD) {sp : Space} {S : Shape} {e : EltTy} (M : Memref sig .tc sp S e) (h : M.IsWhole)
    (g : Bf (F := Ideal) c M) : h.unread (M.view.read (Elt Ideal) g) = g :=
  (h.eq_unread rfl).symm

set_option maxHeartbeats 4000000 in
/-- The body on whole memrefs, the pipelined ones by what they read, the scratch ones by their contents. -/
theorem sound_kernel (D : Blocks) (c : Dev nD) (i : grid0.Coords)
    (a1 : Memref sig .tc .vmem S1x2x16x256 .bf16) (h1 : a1.IsWhole) (a2 : Memref sig .tc .vmem S8x512 .bf16) (h2 : a2.IsWhole) (a3 : Memref sig .tc .vmem S8x512 .bf16) (h3 : a3.IsWhole) (a4 : Memref sig .tc .vmem S1x512x4096 .i8) (h4 : a4.IsWhole) (a5 : Memref sig .tc .vmem S1x8x4096 .f32) (h5 : a5.IsWhole) (a6 : Memref sig .tc .vmem S1x512x4096 .i8) (h6 : a6.IsWhole) (a7 : Memref sig .tc .vmem S1x8x4096 .f32) (h7 : a7.IsWhole) (a8 : Memref sig .tc .vmem S1x32x64 .bf16) (h8 : a8.IsWhole) (a9 : Memref sig .tc .vmem S8x512 .i8) (h9 : a9.IsWhole) (a10 : Memref sig .tc .vmem S8x8 .f32) (h10 : a10.IsWhole) (a11 : Memref sig .tc .vmem S8x512 .i8) (h11 : a11.IsWhole) (a12 : Memref sig .tc .vmem S8x8 .f32) (h12 : a12.IsWhole) (a13 : Memref sig .tc .vmem S8x2x4096 .bf16) (h13 : a13.IsWhole) (a14 : Memref sig .tc .vmem S8x2x4096 .bf16) (h14 : a14.IsWhole) (a15 : Memref sig .tc .vmem S32x4096 .f32) (h15 : a15.IsWhole) (a16 : Memref sig .tc .vmem S32x4096 .bf16) (h16 : a16.IsWhole) (a17 : Memref sig .tc .vmem S512x32 .f32) (h17 : a17.IsWhole) (a18 : Memref sig .tc .vmem S32x128 .f32) (h18 : a18.IsWhole) (a19 : Memref sig .tc .vmem S32x128 .f32) (h19 : a19.IsWhole) (a20 : Memref sig .tc .vmem S8x32 .f32) (h20 : a20.IsWhole) (a21 : Memref sig .tc .vmem S32x128 .f32) (h21 : a21.IsWhole) (a22 : Memref sig .tc .vmem S32x128 .f32) (h22 : a22.IsWhole) (a23 : Memref sig .tc .vmem S32x128 .f32) (h23 : a23.IsWhole) (a24 : Memref sig .tc .vmem S8x512 .f32) (h24 : a24.IsWhole) (a25 : Memref sig .tc .vmem S8x512 .f32) (h25 : a25.IsWhole)
    (x1 : Vec Ideal S1x2x16x256 .bf16) (x2 : Vec Ideal S8x512 .bf16) (x3 : Vec Ideal S8x512 .bf16) (x4 : Vec Ideal S1x512x4096 .i8) (x5 : Vec Ideal S1x8x4096 .f32) (x6 : Vec Ideal S1x512x4096 .i8) (x7 : Vec Ideal S1x8x4096 .f32) (x8 : Vec Ideal S1x32x64 .bf16) (x9 : Vec Ideal S8x512 .i8) (x10 : Vec Ideal S8x8 .f32) (x11 : Vec Ideal S8x512 .i8) (x12 : Vec Ideal S8x8 .f32) (f13 : Bf (F := Ideal) c a13) (f14 : Bf (F := Ideal) c a14) (f15 : Bf (F := Ideal) c a15) (f16 : Bf (F := Ideal) c a16) (f17 : Bf (F := Ideal) c a17) (f18 : Bf (F := Ideal) c a18) (f19 : Bf (F := Ideal) c a19) (f20 : Bf (F := Ideal) c a20) (f21 : Bf (F := Ideal) c a21) (f22 : Bf (F := Ideal) c a22) (f23 : Bf (F := Ideal) c a23) (f24 : Bf (F := Ideal) c a24) (f25 : Bf (F := Ideal) c a25)
    (hX1 : x1 = D.X1 (i 0).val) (hX4 : x4 = D.X4 (i 0).val) (hX5 : x5 = D.X5 (i 0).val) (hX6 : x6 = D.X6 (i 0).val) (hX7 : x7 = D.X7 (i 0).val) (hX2 : (i 0).val = 0 → x2 = D.X2) (hX3 : (i 0).val = 0 → x3 = D.X3)
    (hinv : Inv D (i 0).val (a16.view.read (Elt Ideal) f16) (a17.view.read (Elt Ideal) f17) (a18.view.read (Elt Ideal) f18) (a19.view.read (Elt Ideal) f19) (a20.view.read (Elt Ideal) f20) (a21.view.read (Elt Ideal) f21) (a22.view.read (Elt Ideal) f22) (a23.view.read (Elt Ideal) f23) (a24.view.read (Elt Ideal) f24) (a25.view.read (Elt Ideal) f25))
    (E : Set ℕ) (Q : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ pt c a13 f13 ∗ pt c a14 f14 ∗ pt c a15 f15 ∗ pt c a16 f16 ∗ pt c a17 f17 ∗ pt c a18 f18 ∗ pt c a19 f19 ∗ pt c a20 f20 ∗ pt c a21 f21 ∗ pt c a22 f22 ∗ pt c a23 f23 ∗ pt c a24 f24 ∗ pt c a25 f25
        ∗ (iprop(∃ (n8 : Vec Ideal S1x32x64 .bf16) (n9 : Vec Ideal S8x512 .i8) (n10 : Vec Ideal S8x8 .f32) (n11 : Vec Ideal S8x512 .i8) (n12 : Vec Ideal S8x8 .f32) (g13 : Bf (F := Ideal) c a13) (g14 : Bf (F := Ideal) c a14) (g15 : Bf (F := Ideal) c a15) (g16 : Bf (F := Ideal) c a16) (g17 : Bf (F := Ideal) c a17) (g18 : Bf (F := Ideal) c a18) (g19 : Bf (F := Ideal) c a19) (g20 : Bf (F := Ideal) c a20) (g21 : Bf (F := Ideal) c a21) (g22 : Bf (F := Ideal) c a22) (g23 : Bf (F := Ideal) c a23) (g24 : Bf (F := Ideal) c a24) (g25 : Bf (F := Ideal) c a25), ⌜Inv D ((i 0).val + 1) (a16.view.read (Elt Ideal) g16) (a17.view.read (Elt Ideal) g17) (a18.view.read (Elt Ideal) g18) (a19.view.read (Elt Ideal) g19) (a20.view.read (Elt Ideal) g20) (a21.view.read (Elt Ideal) g21) (a22.view.read (Elt Ideal) g22) (a23.view.read (Elt Ideal) g23) (a24.view.read (Elt Ideal) g24) (a25.view.read (Elt Ideal) g25) ∧ Outs D (i 0).val n8 x9 n9 x10 n10 x11 n11 x12 n12⌝ ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare n8 ∗ owns (c : Thread nD τ) a9 fullShare n9 ∗ owns (c : Thread nD τ) a10 fullShare n10 ∗ owns (c : Thread nD τ) a11 fullShare n11 ∗ owns (c : Thread nD τ) a12 fullShare n12 ∗ pt c a13 g13 ∗ pt c a14 g14 ∗ pt c a15 g15 ∗ pt c a16 g16 ∗ pt c a17 g17 ∗ pt c a18 g18 ∗ pt c a19 g19 ∗ pt c a20 g20 ∗ pt c a21 g21 ∗ pt c a22 g22 ∗ pt c a23 g23 ∗ pt c a24 g24 ∗ pt c a25 g25) -∗ Q ⟨⟩))
      ⊢ wp frame (wpE (defs₀ (F := Ideal)) Variants.none c none) E (cc0_gqa_decode_int8 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25) Q := by
  obtain ⟨g8, g9, g10, g11, g12, g16, g17, g18, g19, g20, g21, g22, g23, g24, g25, hI, hO, hR⟩ := any_case D c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 (h1.unread x1) (h2.unread x2) (h3.unread x3) (h4.unread x4) (h5.unread x5) (h6.unread x6) (h7.unread x7) (h8.unread x8) (h9.unread x9) (h10.unread x10) (h11.unread x11) (h12.unread x12) f13 f14 f15 f16 f17 f18 f19 f20 f21 f22 f23 f24 f25
    ((h1.read_unread x1).trans hX1) ((h4.read_unread x4).trans hX4) ((h5.read_unread x5).trans hX5) ((h6.read_unread x6).trans hX6)
    ((h7.read_unread x7).trans hX7) (fun h => (h2.read_unread x2).trans (hX2 h)) (fun h => (h3.read_unread x3).trans (hX3 h)) hinv
  rw [h9.read_unread x9, h10.read_unread x10, h11.read_unread x11, h12.read_unread x12] at hO
  simp only [owns_eq c a1 h1, owns_eq c a2 h2, owns_eq c a3 h3, owns_eq c a4 h4, owns_eq c a5 h5, owns_eq c a6 h6, owns_eq c a7 h7, owns_eq c a8 h8, owns_eq c a9 h9, owns_eq c a10 h10, owns_eq c a11 h11, owns_eq c a12 h12]
  iintro ⟨H1, H2, H3, H4, H5, H6, H7, H8, H9, H10, H11, H12, H13, H14, H15, H16, H17, H18, H19, H20, H21, H22, H23, H24, H25, Hk⟩
  iapply (hR E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H1, H2, H3, H4, H5, H6, H7, H8, H9, H10, H11, H12, ⟨%g13, H13⟩, ⟨%g14, H14⟩, ⟨%g15, H15⟩, H16, H17, H18, H19, H20, H21, H22, H23, H24, H25⟩
  iapply Hk
  iexists a8.view.read (Elt Ideal) g8; iexists a9.view.read (Elt Ideal) g9; iexists a10.view.read (Elt Ideal) g10; iexists a11.view.read (Elt Ideal) g11; iexists a12.view.read (Elt Ideal) g12
  iexists g13; iexists g14; iexists g15; iexists g16; iexists g17; iexists g18; iexists g19; iexists g20; iexists g21; iexists g22; iexists g23; iexists g24; iexists g25
  isplitr; · ipureintro; exact ⟨hI, hO⟩
  rw [unread_read c a8 h8 g8, unread_read c a9 h9 g9, unread_read c a10 h10 g10, unread_read c a11 h11 g11, unread_read c a12 h12 g12]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

end Cert.Proof.Step

end
-- ==== Proof.KernelDat.lean ====
/-
  What the kernel's pipelined run leaves in its five results: the values of the steps, found by following the
  scratch from step to step.
-/
module

public import proofs.«01_k».proof.Proof.KernelStep
public import proofs.«01_k».proof.Proof.Gen.KernelIdeal.Launch
public import proofs.«01_k».proof.Proof.Gen.KernelIdeal.Points
public import proofs.«01_k».proof.Proof.Gen.KernelIdeal.Frame
public import Idealize.ShloMosaic.Lib.Claim

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)
open Idealize.ShloMosaic.Pipeline (RDat Dat Cfg Window cellOf)

local notation "𝕄" => MT nD τ sig Unit (Elt Ideal) ℕ (UR sig nD τ) ℕ

variable (m : (ℓ : Loc nD τ sig) → Buf (Elt Ideal) ℓ) (ρ : Dev nD → PrngReg)

/-- Step number `n`. -/
def pt65 (n : ℕ) : Fin cfg0.N := ⟨n % 65, by show n % 65 < 65; omega⟩

/-- The blocks the steps are given. -/
def blocks (c : Dev nD) : Blocks where
  X1 n := iblk m c 0 (pt65 n)
  X2 := iblk m c 1 (pt65 0)
  X3 := iblk m c 2 (pt65 0)
  X4 n := iblk m c 3 (pt65 n)
  X5 n := iblk m c 4 (pt65 n)
  X6 n := iblk m c 5 (pt65 n)
  X7 n := iblk m c 6 (pt65 n)

/-- The scratch before step `t`. -/
def Φs (c : Dev nD) (t : ℕ) : sProp 𝕄 :=
  iprop((∃ (f13 : Bf (F := Ideal) c (Memref.whole cc0_scratch0)) (f14 : Bf (F := Ideal) c (Memref.whole cc0_scratch1)) (f15 : Bf (F := Ideal) c (Memref.whole cc0_scratch2)) (f16 : Bf (F := Ideal) c (Memref.whole cc0_scratch3)) (f17 : Bf (F := Ideal) c (Memref.whole cc0_scratch4)) (f18 : Bf (F := Ideal) c (Memref.whole cc0_scratch5)) (f19 : Bf (F := Ideal) c (Memref.whole cc0_scratch6)) (f20 : Bf (F := Ideal) c (Memref.whole cc0_scratch7)) (f21 : Bf (F := Ideal) c (Memref.whole cc0_scratch8)) (f22 : Bf (F := Ideal) c (Memref.whole cc0_scratch9)) (f23 : Bf (F := Ideal) c (Memref.whole cc0_scratch10)) (f24 : Bf (F := Ideal) c (Memref.whole cc0_scratch11)) (f25 : Bf (F := Ideal) c (Memref.whole cc0_scratch12)), ⌜Inv (blocks m c) t ((Memref.whole cc0_scratch3).view.read (Elt Ideal) f16) ((Memref.whole cc0_scratch4).view.read (Elt Ideal) f17) ((Memref.whole cc0_scratch5).view.read (Elt Ideal) f18) ((Memref.whole cc0_scratch6).view.read (Elt Ideal) f19) ((Memref.whole cc0_scratch7).view.read (Elt Ideal) f20) ((Memref.whole cc0_scratch8).view.read (Elt Ideal) f21) ((Memref.whole cc0_scratch9).view.read (Elt Ideal) f22) ((Memref.whole cc0_scratch10).view.read (Elt Ideal) f23) ((Memref.whole cc0_scratch11).view.read (Elt Ideal) f24) ((Memref.whole cc0_scratch12).view.read (Elt Ideal) f25)⌝ ∗ pt c (Memref.whole cc0_scratch0) f13 ∗ pt c (Memref.whole cc0_scratch1) f14 ∗ pt c (Memref.whole cc0_scratch2) f15 ∗ pt c (Memref.whole cc0_scratch3) f16 ∗ pt c (Memref.whole cc0_scratch4) f17 ∗ pt c (Memref.whole cc0_scratch5) f18 ∗ pt c (Memref.whole cc0_scratch6) f19 ∗ pt c (Memref.whole cc0_scratch7) f20 ∗ pt c (Memref.whole cc0_scratch8) f21 ∗ pt c (Memref.whole cc0_scratch9) f22 ∗ pt c (Memref.whole cc0_scratch10) f23 ∗ pt c (Memref.whole cc0_scratch11) f24 ∗ pt c (Memref.whole cc0_scratch12) f25) ∗ ∃ r, prngReg c r)

/-- The proof data: what each step may leave in each block, and the scratch from step to step. -/
def rdats (c : Dev nD) : RDat τ (Elt Ideal) Unit ℕ (UR sig nD τ) ℕ cfg0 c where
  A w := V m c (Pipeline.arrRef spec0 w)
  after := fun w => match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun t _ X => 0 < t.val → t.val % 8 = 0 → ∀ r d, (X : Vec Ideal S1x32x64 .bf16) (ix3 (0 : Fin 1) r d) = (blocks m c).y (t.val / 8 - 1) r d
    | ⟨8, _⟩ => fun t Y X => (t.val = 0 → X = codes (blocks m c).X2) ∧ (t.val ≠ 0 → X = Y)
    | ⟨9, _⟩ => fun t Y X => (t.val = 0 → X = outScale (blocks m c).X2 8) ∧ (t.val ≠ 0 → X = Y)
    | ⟨10, _⟩ => fun t Y X => (t.val = 0 → X = codes (blocks m c).X3) ∧ (t.val ≠ 0 → X = Y)
    | ⟨11, _⟩ => fun t Y X => (t.val = 0 → X = outScale (blocks m c).X3 8) ∧ (t.val ≠ 0 → X = Y)
  Φ t := Φs m c t.val
  q _ := fullShare
  owed _ := 0

theorem A_eq (c : Dev nD) (w : Fin cfg0.W) : (rdats m c).A w = V m c (Pipeline.arrRef spec0 w) := by
  dsimp only [rdats]

theorem coords_val : ∀ t : Fin cfg0.N, (grid0.coords t 0).val = t.val := (by decide +kernel : ∀ t : Fin grid0.N, (grid0.coords t 0).val = t.val)

theorem pt65_val (t : Fin cfg0.N) : pt65 t.val = t :=
  Fin.ext (Nat.mod_eq_of_lt (show t.val < 65 from t.isLt))

theorem finds0 (c : Dev nD) (t : Fin cfg0.N) (Y) (h : (rdats m c).Finds 0 t Y) : Y = iblk m c 0 t := by
  obtain ⟨d, hd⟩ := (rdats m c).finds_in_eq_fetched 0 rfl (fun _ _ _ => rfl) (fun _ _ _ h => h) t Y h
  exact hd.trans (by unfold RDat.fetched RDat.blockOf iblk; rw [A_eq]; try rfl)

theorem blk_eq0 (c : Dev nD) (t u : Fin cfg0.N) (h : t = u) : (iblk m c 0 t : Vec Ideal S1x2x16x256 .bf16) = iblk m c 0 u := by
  subst h; rfl

theorem finds1 (c : Dev nD) (t : Fin cfg0.N) (Y) (h : (rdats m c).Finds 1 t Y) : Y = iblk m c 1 t := by
  obtain ⟨d, hd⟩ := (rdats m c).finds_in_eq_fetched 1 rfl (fun _ _ _ => rfl) (fun _ _ _ h => h) t Y h
  exact hd.trans (by unfold RDat.fetched RDat.blockOf iblk; rw [A_eq]; try rfl)

theorem blk_eq1 (c : Dev nD) (t u : Fin cfg0.N) (h : t = u) : (iblk m c 1 t : Vec Ideal S8x512 .bf16) = iblk m c 1 u := by
  subst h; rfl

theorem finds2 (c : Dev nD) (t : Fin cfg0.N) (Y) (h : (rdats m c).Finds 2 t Y) : Y = iblk m c 2 t := by
  obtain ⟨d, hd⟩ := (rdats m c).finds_in_eq_fetched 2 rfl (fun _ _ _ => rfl) (fun _ _ _ h => h) t Y h
  exact hd.trans (by unfold RDat.fetched RDat.blockOf iblk; rw [A_eq]; try rfl)

theorem blk_eq2 (c : Dev nD) (t u : Fin cfg0.N) (h : t = u) : (iblk m c 2 t : Vec Ideal S8x512 .bf16) = iblk m c 2 u := by
  subst h; rfl

theorem finds3 (c : Dev nD) (t : Fin cfg0.N) (Y) (h : (rdats m c).Finds 3 t Y) : Y = iblk m c 3 t := by
  obtain ⟨d, hd⟩ := (rdats m c).finds_in_eq_fetched 3 rfl (fun _ _ _ => rfl) (fun _ _ _ h => h) t Y h
  exact hd.trans (by unfold RDat.fetched RDat.blockOf iblk; rw [A_eq]; try rfl)

theorem blk_eq3 (c : Dev nD) (t u : Fin cfg0.N) (h : t = u) : (iblk m c 3 t : Vec Ideal S1x512x4096 .i8) = iblk m c 3 u := by
  subst h; rfl

theorem finds4 (c : Dev nD) (t : Fin cfg0.N) (Y) (h : (rdats m c).Finds 4 t Y) : Y = iblk m c 4 t := by
  obtain ⟨d, hd⟩ := (rdats m c).finds_in_eq_fetched 4 rfl (fun _ _ _ => rfl) (fun _ _ _ h => h) t Y h
  exact hd.trans (by unfold RDat.fetched RDat.blockOf iblk; rw [A_eq]; try rfl)

theorem blk_eq4 (c : Dev nD) (t u : Fin cfg0.N) (h : t = u) : (iblk m c 4 t : Vec Ideal S1x8x4096 .f32) = iblk m c 4 u := by
  subst h; rfl

theorem finds5 (c : Dev nD) (t : Fin cfg0.N) (Y) (h : (rdats m c).Finds 5 t Y) : Y = iblk m c 5 t := by
  obtain ⟨d, hd⟩ := (rdats m c).finds_in_eq_fetched 5 rfl (fun _ _ _ => rfl) (fun _ _ _ h => h) t Y h
  exact hd.trans (by unfold RDat.fetched RDat.blockOf iblk; rw [A_eq]; try rfl)

theorem blk_eq5 (c : Dev nD) (t u : Fin cfg0.N) (h : t = u) : (iblk m c 5 t : Vec Ideal S1x512x4096 .i8) = iblk m c 5 u := by
  subst h; rfl

theorem finds6 (c : Dev nD) (t : Fin cfg0.N) (Y) (h : (rdats m c).Finds 6 t Y) : Y = iblk m c 6 t := by
  obtain ⟨d, hd⟩ := (rdats m c).finds_in_eq_fetched 6 rfl (fun _ _ _ => rfl) (fun _ _ _ h => h) t Y h
  exact hd.trans (by unfold RDat.fetched RDat.blockOf iblk; rw [A_eq]; try rfl)

theorem blk_eq6 (c : Dev nD) (t u : Fin cfg0.N) (h : t = u) : (iblk m c 6 t : Vec Ideal S1x8x4096 .f32) = iblk m c 6 u := by
  subst h; rfl

end Cert.Proof.Step

end
-- ==== Proof.KernelBody.lean ====
/-
  One step of the pipelined run keeps what the proof data say.
-/
module

public import proofs.«01_k».proof.Proof.KernelDat
public import Idealize.ShloMosaic.Lib.Claim

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)
open Idealize.ShloMosaic.Pipeline (RDat Dat Cfg Window cellOf)

local notation "𝕄" => MT nD τ sig Unit (Elt Ideal) ℕ (UR sig nD τ) ℕ

variable (m : (ℓ : Loc nD τ sig) → Buf (Elt Ideal) ℓ) (ρ : Dev nD → PrngReg)

/-- What the body is called with at point `t`, the windows one by one, -/
def bodyPre (c : Dev nD) (t : Fin cfg0.N) (Y : ∀ w, (cfg0.win w).block.Idx → Elt Ideal (cfg0.win w).elt) : sProp 𝕄 :=
  iprop(Φs m c t.val ∗ (rdats m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11))

/-- and what it returns. -/
def bodyPost (c : Dev nD) (t : Fin cfg0.N) (Y : ∀ w, (cfg0.win w).block.Idx → Elt Ideal (cfg0.win w).elt) : sProp 𝕄 :=
  iprop(Φs m c (t.val + 1) ∗ (rdats m c).owesAt () t.succ
    ∗ (∃ X, ⌜(rdats m c).after 0 t (Y 0) X⌝ ∗ owns (c : Thread nD τ) (st0_0 t) fullShare X) ∗ (∃ X, ⌜(rdats m c).after 1 t (Y 1) X⌝ ∗ owns (c : Thread nD τ) (st0_1 t) fullShare X) ∗ (∃ X, ⌜(rdats m c).after 2 t (Y 2) X⌝ ∗ owns (c : Thread nD τ) (st0_2 t) fullShare X) ∗ (∃ X, ⌜(rdats m c).after 3 t (Y 3) X⌝ ∗ owns (c : Thread nD τ) (st0_3 t) fullShare X) ∗ (∃ X, ⌜(rdats m c).after 4 t (Y 4) X⌝ ∗ owns (c : Thread nD τ) (st0_4 t) fullShare X) ∗ (∃ X, ⌜(rdats m c).after 5 t (Y 5) X⌝ ∗ owns (c : Thread nD τ) (st0_5 t) fullShare X) ∗ (∃ X, ⌜(rdats m c).after 6 t (Y 6) X⌝ ∗ owns (c : Thread nD τ) (st0_6 t) fullShare X) ∗ (∃ X, ⌜(rdats m c).after 7 t (Y 7) X⌝ ∗ owns (c : Thread nD τ) (st0_7 t) fullShare X) ∗ (∃ X, ⌜(rdats m c).after 8 t (Y 8) X⌝ ∗ owns (c : Thread nD τ) (st0_8 t) fullShare X) ∗ (∃ X, ⌜(rdats m c).after 9 t (Y 9) X⌝ ∗ owns (c : Thread nD τ) (st0_9 t) fullShare X) ∗ (∃ X, ⌜(rdats m c).after 10 t (Y 10) X⌝ ∗ owns (c : Thread nD τ) (st0_10 t) fullShare X) ∗ (∃ X, ⌜(rdats m c).after 11 t (Y 11) X⌝ ∗ owns (c : Thread nD τ) (st0_11 t) fullShare X))

set_option maxHeartbeats 4000000 in
theorem sound_body (c : Dev nD) (t : Fin cfg0.N) (Y : ∀ w, (cfg0.win w).block.Idx → Elt Ideal (cfg0.win w).elt)
    (hY : ∀ w, (rdats m c).Finds w t (Y w)) :
    bodyPre m c t Y ⊢ wp frame (wpE (defs₀ (F := Ideal)) Variants.none c none) Set.univ (bodyAt0 t) (fun _ => bodyPost m c t Y) := by
  have ht : (grid0.coords t 0).val = t.val := coords_val t
  unfold bodyPre bodyPost bodyAt0 Φs
  rw [show (rdats m c).owesAt () t.succ = (rdats m c).owesAt () t.castSucc from rfl]
  iintro ⟨⟨⟨%f13, %f14, %f15, %f16, %f17, %f18, %f19, %f20, %f21, %f22, %f23, %f24, %f25, %hinv, H13, H14, H15, H16, H17, H18, H19, H20, H21, H22, H23, H24, H25⟩, Hr⟩, Ho, H1, H2, H3, H4, H5, H6, H7, H8, H9, H10, H11, H12⟩
  iapply (sound_kernel (blocks m c) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _)
    (Y 0) (Y 1) (Y 2) (Y 3) (Y 4) (Y 5) (Y 6) (Y 7) (Y 8) (Y 9) (Y 10) (Y 11) f13 f14 f15 f16 f17 f18 f19 f20 f21 f22 f23 f24 f25
    (by rw [ht]; exact (finds0 m c t _ (hY 0)).trans (blk_eq0 m c t _ (pt65_val t).symm)) (by rw [ht]; exact (finds3 m c t _ (hY 3)).trans (blk_eq3 m c t _ (pt65_val t).symm)) (by rw [ht]; exact (finds4 m c t _ (hY 4)).trans (blk_eq4 m c t _ (pt65_val t).symm)) (by rw [ht]; exact (finds5 m c t _ (hY 5)).trans (blk_eq5 m c t _ (pt65_val t).symm)) (by rw [ht]; exact (finds6 m c t _ (hY 6)).trans (blk_eq6 m c t _ (pt65_val t).symm))
    (fun h => (finds1 m c t _ (hY 1)).trans (blk_eq1 m c t (pt65 0) (Fin.ext (by rw [ht] at h; rw [h]; rfl)))) (fun h => (finds2 m c t _ (hY 2)).trans (blk_eq2 m c t (pt65 0) (Fin.ext (by rw [ht] at h; rw [h]; rfl))))
    (by rw [ht]; exact hinv) Set.univ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨%n8, %n9, %n10, %n11, %n12, %g13, %g14, %g15, %g16, %g17, %g18, %g19, %g20, %g21, %g22, %g23, %g24, %g25, %hIO, H1, H2, H3, H4, H5, H6, H7, H8, H9, H10, H11, H12, H13, H14, H15, H16, H17, H18, H19, H20, H21, H22, H23, H24, H25⟩
  rw [ht] at hIO
  obtain ⟨hI, hO⟩ := hIO
  isplitl [Hr H13 H14 H15 H16 H17 H18 H19 H20 H21 H22 H23 H24 H25]
  · isplitr [Hr]
    swap; · iexact Hr
    iexists g13; iexists g14; iexists g15; iexists g16; iexists g17; iexists g18; iexists g19; iexists g20; iexists g21; iexists g22; iexists g23; iexists g24; iexists g25
    isplitr; · ipureintro; exact hI
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [Ho]; · iexact Ho
  isplitl [H1]
  · iexists (Y 0); isplitr; · ipureintro; exact rfl
    iexact H1
  isplitl [H2]
  · iexists (Y 1); isplitr; · ipureintro; exact rfl
    iexact H2
  isplitl [H3]
  · iexists (Y 2); isplitr; · ipureintro; exact rfl
    iexact H3
  isplitl [H4]
  · iexists (Y 3); isplitr; · ipureintro; exact rfl
    iexact H4
  isplitl [H5]
  · iexists (Y 4); isplitr; · ipureintro; exact rfl
    iexact H5
  isplitl [H6]
  · iexists (Y 5); isplitr; · ipureintro; exact rfl
    iexact H6
  isplitl [H7]
  · iexists (Y 6); isplitr; · ipureintro; exact rfl
    iexact H7
  isplitl [H8]
  · iexists n8; isplitr; · ipureintro; exact hO.y
    iexact H8
  isplitl [H9]
  · iexists n9; isplitr; · ipureintro; exact ⟨fun h => (hO.first h).1, fun h => (hO.later h).1⟩
    iexact H9
  isplitl [H10]
  · iexists n10; isplitr; · ipureintro; exact ⟨fun h => (hO.first h).2.1, fun h => (hO.later h).2.1⟩
    iexact H10
  isplitl [H11]
  · iexists n11; isplitr; · ipureintro; exact ⟨fun h => (hO.first h).2.2.1, fun h => (hO.later h).2.2.1⟩
    iexact H11
  iexists n12; isplitr; · ipureintro; exact ⟨fun h => (hO.first h).2.2.2, fun h => (hO.later h).2.2.2⟩
  iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : (rdats m c).BodyObligation (defs₀ (F := Ideal)) Variants.none () Set.univ := fun t Y hY => by
  rw [bigSep_W0, bigSep_W0, defs₀_row]
  exact triple_restated (sound_body m c t Y hY) rfl .rfl fun _ => .rfl

end Cert.Proof.Step

end
-- ==== Proof.KernelEnds.lean ====
/-
  The scratch is taken up with anything in it before the first step and given back after the last.
-/
module

public import proofs.«01_k».proof.Proof.KernelDat
public import Idealize.ShloMosaic.Lib.Claim

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)
open Idealize.ShloMosaic.Pipeline (RDat Dat Cfg Window cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
theorem hin (c : Dev nD) : (Pipeline.ΦA spec0 c : sProp 𝕄) ⊢ Φs m c 0 := by
  unfold Pipeline.ΦA Φs
  rw [scopedRest0_eq]
  iintro ⟨⟨⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩⟩, Hr⟩
  isplitr [Hr]
  swap; · iexact Hr
  iexists f13; iexists f14; iexists f15; iexists f16; iexists f17; iexists f18; iexists f19; iexists f20; iexists f21; iexists f22; iexists f23; iexists f24; iexists f25
  isplitr; · ipureintro; exact fun h => absurd h (by omega)
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

set_option maxHeartbeats 4000000 in
theorem hout (c : Dev nD) (t : ℕ) : Φs m c t ⊢ (Pipeline.ΦA spec0 c : sProp 𝕄) := by
  unfold Pipeline.ΦA Φs
  rw [scopedRest0_eq]
  iintro ⟨⟨%f13, %f14, %f15, %f16, %f17, %f18, %f19, %f20, %f21, %f22, %f23, %f24, %f25, %hinv, H13, H14, H15, H16, H17, H18, H19, H20, H21, H22, H23, H24, H25⟩, Hr⟩
  isplitr [Hr]
  swap; · iexact Hr
  isplitl [H13]; · iexists f13; iexact H13
  isplitl [H14]; · iexists f14; iexact H14
  isplitl [H15]; · iexists f15; iexact H15
  isplitl [H16]; · iexists f16; iexact H16
  isplitl [H17]; · iexists f17; iexact H17
  isplitl [H18]; · iexists f18; iexact H18
  isplitl [H19]; · iexists f19; iexact H19
  isplitl [H20]; · iexists f20; iexact H20
  isplitl [H21]; · iexists f21; iexact H21
  isplitl [H22]; · iexists f22; iexact H22
  isplitl [H23]; · iexists f23; iexact H23
  isplitl [H24]; · iexists f24; iexact H24
  iexists f25; iexact H25

end Cert.Proof.Step

end
-- ==== Proof.KernelRunValue.lean ====
/-
  What the kernel's pipelined run leaves in its five results.
-/
module

public import proofs.«01_k».proof.Proof.KernelBody
public import proofs.«01_k».proof.Proof.KernelEnds
public import Idealize.ShloMosaic.Lib.Claim

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

open Cert.Proof.KernelIdealRun (Bf pt)
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Online (msup lsum asum fresh exp_bot_sub)
open Idealize.ShloMosaic.Pipeline (RDat Dat Cfg Window cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
theorem run_main_quiescent : θ_run defs (onTc (τ := τ) (main (F := Ideal))) (s₀ m ρ)
    (fun r => RDat.FramePost cfg0 (rdats m) (V m) r ∧ r.2.sem = fun _ => 0) :=
  RDat.θ_run_frame_track (Q' := _) cfgs (0 : Fin 1) launch0 defs₀ Variants.none (rdats m) m ρ main
    (hbody := body_obligation m) (hshare := fun c => (rdats m c).share_full fun _ => rfl)
    (howed := fun _ _ => rfl) (V := V m) (hmain := hmain m Variants.none) (hA := A_eq m) (hin := hin m) (hout := fun c => hout m c _)

end Cert.Proof.Step

end
-- ==== Proof.KernelIdealFrame.lean ====
/-
  The frame of the idealized kernel: it terminates, nothing faults, its seven arguments end as they began and every
  semaphore counter ends at zero.
-/
module

public import proofs.«01_k».proof.Proof.KernelRunValue

@[expose] public section

set_option maxRecDepth 65536

noncomputable section

namespace Cert.Proof.KernelIdealFrame

open Cert.KernelIdeal Cert.KernelIdeal.Gen
open Idealize.ShloMosaic Idealize.ShloMosaic.TcCoe Idealize.SL.Sem
open Idealize.ShloMosaic.Pipeline (RDat)
open Cert.Proof.Step (rdats run_main_quiescent)

variable (m : (ℓ : Loc nD τ sig) → Buf (Elt Ideal) ℓ) (ρ : Dev nD → PrngReg)

/-- No argument is written. -/
theorem kept (r) (h : RDat.FramePost cfg0 (rdats m) (V m) r ∧ r.2.sem = fun _ => 0) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨kept m r h, h.2⟩) (run_main_quiescent m ρ)

end Cert.Proof.KernelIdealFrame
-- ==== Proof.Target.lean ====
/-
  The attention both sides compute, entry by entry, in the extended reals, over the arguments as plain functions of
  batch, token, head, query of the head's group and coordinate; and the tokens taken block by block.
-/
module

public import proofs.«01_k».proof.Proof.Spec
public import proofs.«01_k».proof.Proof.Online

@[expose] public section

noncomputable section

namespace Cert.Proof.Target

open Idealize.ShloMosaic
open Cert.Proof.Spec (num quantM quantS quantF)

/-- The arguments: queries, new key and value, key codes and scales, value codes and scales. -/
structure Args where
  q : Fin 8 → Fin 8 → Fin 4 → Fin 64 → EReal
  k : Fin 8 → Fin 8 → Fin 64 → EReal
  v : Fin 8 → Fin 8 → Fin 64 → EReal
  kc : Fin 8 → Fin 32768 → Fin 8 → Fin 64 → BitVec 8
  ks : Fin 8 → Fin 32768 → Fin 8 → EReal
  vc : Fin 8 → Fin 32768 → Fin 8 → Fin 64 → BitVec 8
  vs : Fin 8 → Fin 32768 → Fin 8 → EReal

/-- The scale of head `h`'s row. -/
def scale (x : Fin 8 → Fin 8 → Fin 64 → EReal) (b h : Fin 8) : EReal := quantS (quantM (x b h))
/-- Its codes. -/
def code (x : Fin 8 → Fin 8 → Fin 64 → EReal) (b h : Fin 8) (d : Fin 64) : BitVec 8 := Ideal.fptosi 8 (quantF (x b h d) (scale x b h))
/-- What the codes stand for. -/
def deq (x : Fin 8 → Fin 8 → Fin 64 → EReal) (b h : Fin 8) (d : Fin 64) : EReal := quantF (x b h d) (scale x b h) * scale x b h

/-- One over the square root of the head's width. -/
def c8 : EReal := Ideal.ofBits .f32 0x3E000000#32

namespace Args
variable (A : Args)
def key (b : Fin 8) (t : Fin 32768) (h : Fin 8) (d : Fin 64) : EReal := num (A.kc b t h d) * A.ks b t h
def val (b : Fin 8) (t : Fin 32768) (h : Fin 8) (d : Fin 64) : EReal := num (A.vc b t h d) * A.vs b t h
/-- The score against a cached token, and against the new one. -/
def score (b h : Fin 8) (g : Fin 4) (t : Fin 32768) : EReal := (∑ d, A.q b h g d * A.key b t h d) * c8
def newScore (b h : Fin 8) (g : Fin 4) : EReal := (∑ d, A.q b h g d * deq A.k b h d) * c8
/-- The greatest score. -/
def top (b h : Fin 8) (g : Fin 4) : EReal := max (Finset.univ.sup (A.score b h g)) (A.newScore b h g)
/-- The output: the softmax-weighted mean of the values. -/
def y (b h : Fin 8) (g : Fin 4) (d : Fin 64) : EReal :=
  Ideal.div ((∑ t, Ideal.exp (A.score b h g t - A.top b h g) * A.val b t h d) + Ideal.exp (A.newScore b h g - A.top b h g) * deq A.v b h d)
    ((∑ t, Ideal.exp (A.score b h g t - A.top b h g)) + Ideal.exp (A.newScore b h g - A.top b h g))
end Args

/-! ### The tokens by blocks -/

/-- Token `x` of block `n`. -/
def tk (n : ℕ) (x : Fin 16 × Fin 256) : Fin 32768 := ⟨(4096 * n + (256 * x.1.val + x.2.val)) % 32768, by omega⟩

/-- The tokens are those of the eight blocks. -/
def tkEquiv : Fin 8 × (Fin 16 × Fin 256) ≃ Fin 32768 where
  toFun p := tk p.1.val p.2
  invFun t := (⟨t.val / 4096, by omega⟩, ⟨t.val % 4096 / 256, by omega⟩, ⟨t.val % 256, by omega⟩)
  left_inv := fun ⟨n, x, y⟩ => by
    have : (4096 * n.val + (256 * x.val + y.val)) % 32768 = 4096 * n.val + (256 * x.val + y.val) := Nat.mod_eq_of_lt (by omega)
    refine Prod.ext (Fin.ext ?_) (Prod.ext (Fin.ext ?_) (Fin.ext ?_))
    · show (4096 * n.val + (256 * x.val + y.val)) % 32768 / 4096 = n.val; omega
    · show (4096 * n.val + (256 * x.val + y.val)) % 32768 % 4096 / 256 = x.val; omega
    · show (4096 * n.val + (256 * x.val + y.val)) % 32768 % 256 = y.val; omega
  right_inv := fun t => Fin.ext (by
    show (4096 * (t.val / 4096) + (256 * (t.val % 4096 / 256) + t.val % 256)) % 32768 = t.val
    omega)

theorem sum_tk (f : Fin 32768 → EReal) : (∑ n ∈ Finset.range 8, ∑ x, f (tk n x)) = ∑ t, f t := by
  rw [Finset.sum_range fun n => ∑ x, f (tk n x), ← Fintype.sum_equiv tkEquiv (fun p => f (tk p.1.val p.2)) f fun _ => rfl]
  exact (Fintype.sum_prod_type fun p : Fin 8 × (Fin 16 × Fin 256) => f (tk p.1.val p.2)).symm

theorem sup_tk (f : Fin 32768 → EReal) : ((Finset.range 8).sup fun n => Finset.univ.sup fun x => f (tk n x)) = Finset.univ.sup f := by
  refine le_antisymm (Finset.sup_le fun n _ => Finset.sup_le fun x _ => Finset.le_sup (f := f) (Finset.mem_univ _)) (Finset.sup_le fun t _ => ?_)
  have h : f t = f (tk (tkEquiv.symm t).1.val (tkEquiv.symm t).2) := congrArg f (tkEquiv.apply_symm_apply t).symm
  rw [h]
  refine le_trans ?_ (Finset.le_sup (f := fun n => Finset.univ.sup fun x => f (tk n x)) (Finset.mem_range.mpr (tkEquiv.symm t).1.isLt))
  exact Finset.le_sup (f := fun x => f (tk (tkEquiv.symm t).1.val x)) (Finset.mem_univ _)

open Cert.Proof.Online in
/-- The blocks one after another give what all the tokens at once give. -/
theorem y_of_blocks (A : Args) (b h : Fin 8) (g : Fin 4) (d : Fin 64) (S V : ℕ → Fin 16 × Fin 256 → EReal) (sn vn : EReal)
    (hS : ∀ n, n < 8 → ∀ x, S n x = A.score b h g (tk n x)) (hV : ∀ n, n < 8 → ∀ x, V n x = A.val b (tk n x) h d)
    (hsn : sn = A.newScore b h g) (hvn : vn = deq A.v b h d) :
    Ideal.div (asum S sn V 8 + Ideal.exp (sn - msup S sn 8) * vn) (lsum S sn 8) = A.y b h g d := by
  have hM : msup S sn 8 = A.top b h g := by
    rw [msup_eight, hsn]
    refine congrArg (fun z => max z (A.newScore b h g)) (Eq.trans ?_ (sup_tk (A.score b h g)))
    exact Finset.sup_congr rfl fun n hn => Finset.sup_congr rfl fun x _ => hS n (Finset.mem_range.mp hn) x
  have hA : asum S sn V 8 = ∑ t, Ideal.exp (A.score b h g t - A.top b h g) * A.val b t h d := by
    rw [asum_eq, hM, ← sum_tk]
    refine Finset.sum_congr rfl fun n hn => Finset.sum_congr rfl fun x _ => ?_
    rw [hS n (Finset.mem_range.mp hn), hV n (Finset.mem_range.mp hn), mul_comm]
  have hL : lsum S sn 8 = (∑ t, Ideal.exp (A.score b h g t - A.top b h g)) + Ideal.exp (A.newScore b h g - A.top b h g) := by
    rw [lsum_eight, hM, hsn, ← sum_tk]
    refine congrArg (fun z => z + Ideal.exp (A.newScore b h g - A.top b h g)) (Finset.sum_congr rfl fun n hn => Finset.sum_congr rfl fun x _ => ?_)
    rw [hS n (Finset.mem_range.mp hn)]
  rw [hA, hL, hM, hsn, hvn]
  rfl

end Cert.Proof.Target

end
-- ==== Proof.HostBlocks.lean ====
/-
  The blocks of the seven inputs, entry by entry, in the arguments.
-/
module

public import proofs.«01_k».proof.Proof.StepState
public import proofs.«01_k».proof.Proof.Gen.KernelIdeal.Frame
public import proofs.«01_k».proof.Proof.Target
public import Idealize.ShloMosaic.Lib.Pipeline.ValueKit.Point

@[expose] public section

noncomputable section

namespace Cert.Proof.Step

open Cert.KernelIdeal Cert.KernelIdeal.Gen
open Idealize.ShloMosaic hiding ix1 ix2 ix3 ix4
open Idealize.ShloMosaic.TcCoe Idealize.ShloMosaic.ValueIdx

variable (m : (ℓ : Loc nD τ sig) → Buf (Elt Ideal) ℓ) (c : Dev nD)

theorem V_v13 : V m c main_v13 = (shapeCast S8x512x32768 (transpose S8x8x64x32768 [0, 2, 3, 1] (m ((c : Thread nD τ).loc main_arg3) : IVec S8x32768x8x64 8) transposes_S8x32768x8x64_S8x8x64x32768_0_2_3_1) shapeCasts_S8x8x64x32768_S8x512x32768 : IVec S8x512x32768 8) := by
  entry_read
  first | done | rfl
theorem V_v15 : V m c main_v15 = (shapeCast S8x512x32768 (transpose S8x8x64x32768 [0, 2, 3, 1] (m ((c : Thread nD τ).loc main_arg5) : IVec S8x32768x8x64 8) transposes_S8x32768x8x64_S8x8x64x32768_0_2_3_1) shapeCasts_S8x8x64x32768_S8x512x32768 : IVec S8x512x32768 8) := by
  entry_read
  first | done | rfl
theorem V_v16 : V m c main_v16 = (transpose S8x8x32768 [0, 2, 1] (m ((c : Thread nD τ).loc main_arg4) : FVec Ideal S8x32768x8 .f32) transposes_S8x32768x8_S8x8x32768_0_2_1 : FVec Ideal S8x8x32768 .f32) := by
  entry_read
  first | done | rfl
theorem V_v17 : V m c main_v17 = (transpose S8x8x32768 [0, 2, 1] (m ((c : Thread nD τ).loc main_arg6) : FVec Ideal S8x32768x8 .f32) transposes_S8x32768x8_S8x8x32768_0_2_1 : FVec Ideal S8x8x32768 .f32) := by
  entry_read
  first | done | rfl
theorem V_v18 : V m c main_v18 = (shapeCast S8x512 (m ((c : Thread nD τ).loc main_arg1) : FVec Ideal S8x1x8x64 .bf16) shapeCasts_S8x1x8x64_S8x512 : FVec Ideal S8x512 .bf16) := by
  entry_read
  first | done | rfl
theorem V_v19 : V m c main_v19 = (shapeCast S8x512 (m ((c : Thread nD τ).loc main_arg2) : FVec Ideal S8x1x8x64 .bf16) shapeCasts_S8x1x8x64_S8x512 : FVec Ideal S8x512 .bf16) := by
  entry_read
  first | done | rfl

/-- The queries spread over the heads of a half: each in its own head's lanes, zero in the others'. -/
def qSpread (x : FVec Ideal S8x1x2048 .bf16) : FVec Ideal S8x2x4x4x4x64 .bf16 :=
  mulf (broadcastInDim S8x2x4x4x4x64 ![0, 1, 2, 3, 4, 5] bcast_S8x2x4x4x1x64_S8x2x4x4x4x64_0_1_2_3_4_5
      (shapeCast S8x2x4x4x1x64 x shapeCasts_S8x1x2048_S8x2x4x4x1x64))
    (broadcastInDim S8x2x4x4x4x64 ![0, 1, 2, 3, 4, 5] bcast_S1x1x4x1x4x1_S8x2x4x4x4x64_0_1_2_3_4_5
      (shapeCast S1x1x4x1x4x1 (uitofp (F := Ideal) .bf16 (cmpi .eq (addi (iotaInDim S4x4 32 0) (broadcastInDim S4x4 ![] bcast_S_S4x4 (constantI S_ 32 0#32))) (iotaInDim S4x4 32 1)))
        shapeCasts_S4x4_S1x1x4x1x4x1))

theorem V_v11 : V m c main_v11 = (shapeCast S8x2x16x256 (qSpread (m ((c : Thread nD τ).loc main_arg0))) shapeCasts_S8x2x4x4x4x64_S8x2x16x256 : FVec Ideal S8x2x16x256 .bf16) := by
  entry_read
  first | done | rfl

theorem eye_apply (i j : Fin 4) :
    uitofp (F := Ideal) .bf16 (cmpi .eq (addi (iotaInDim S4x4 32 0) (broadcastInDim S4x4 ![] bcast_S_S4x4 (constantI S_ 32 0#32))) (iotaInDim S4x4 32 1)) (ix2 i j)
      = if i = j then (1 : EReal) else 0 := by
  have h : cmpi .eq (addi (iotaInDim S4x4 32 0) (broadcastInDim S4x4 ![] bcast_S_S4x4 (constantI S_ 32 0#32))) (iotaInDim S4x4 32 1) (ix2 i j)
      = if i = j then 1#1 else 0#1 := by
    revert i j; decide
  show ((((cmpi .eq _ _ (ix2 i j) : BitVec 1).toNat : ℕ) : ℝ) : EReal) = _
  rw [h]
  split <;> simp

theorem qSpread_apply (x : FVec Ideal S8x1x2048 .bf16) (b : Fin 8) (t : Fin 2) (i g i' : Fin 4) (d : Fin 64) :
    qSpread x (ValueIdx.ix6 b t i g i' d)
      = x (ix3 b (0 : Fin 1) (⟨((t.val * 4 + i.val) * 4 + g.val) * 64 + d.val, by omega⟩ : Fin 2048)) * (if i = i' then (1 : EReal) else 0) := by
  refine congrArg₂ (fun a b : EReal => a * b) ?_ ?_
  · refine (broadcastInDim_apply _ _ _ _ (ValueIdx.ix6 b t i g (0 : Fin 1) d) (fun a => ?_)).trans ?_
    · match a with
      | ⟨0, _⟩ => rfl
      | ⟨1, _⟩ => rfl
      | ⟨2, _⟩ => rfl
      | ⟨3, _⟩ => rfl
      | ⟨4, _⟩ => rfl
      | ⟨5, _⟩ => rfl
    · exact shapeCast_apply _ _ _ _ (by
        rw [Shape.rowMajor_val_six, Shape.rowMajor_val_three]
        show (b.val * 1 + 0) * 2048 + (((t.val * 4 + i.val) * 4 + g.val) * 64 + d.val)
          = ((((b.val * 2 + t.val) * 4 + i.val) * 4 + g.val) * 1 + 0) * 64 + d.val
        omega)
  · refine (broadcastInDim_apply _ _ _ _ (ValueIdx.ix6 (0 : Fin 1) (0 : Fin 1) i (0 : Fin 1) i' (0 : Fin 1)) (fun a => ?_)).trans ?_
    · match a with
      | ⟨0, _⟩ => rfl
      | ⟨1, _⟩ => rfl
      | ⟨2, _⟩ => rfl
      | ⟨3, _⟩ => rfl
      | ⟨4, _⟩ => rfl
      | ⟨5, _⟩ => rfl
    · refine (shapeCast_apply _ _ _ (ix2 i i') (by
        rw [Shape.rowMajor_val_six, Shape.rowMajor_val_two]
        show i.val * 4 + i'.val = ((((0 * 1 + 0) * 4 + i.val) * 1 + 0) * 4 + i'.val) * 1 + 0
        omega)).trans (eye_apply i i')

theorem spreadQ_apply (x : FVec Ideal S8x1x2048 .bf16) (b : Fin 8) (t : Fin 2) (r : Fin 16) (y : Fin 256) :
    shapeCast S8x2x16x256 (qSpread x) shapeCasts_S8x2x4x4x4x64_S8x2x16x256 (ix4 b t r y)
      = x (ix3 b (0 : Fin 1) (⟨(t.val * 16 + r.val) * 64 + y.val % 64, by omega⟩ : Fin 2048)) * (if r.val / 4 = y.val / 64 then (1 : EReal) else 0) := by
  refine (shapeCast_apply _ _ _ (ValueIdx.ix6 b t (⟨r.val / 4, by omega⟩ : Fin 4) (⟨r.val % 4, by omega⟩ : Fin 4) (⟨y.val / 64, by omega⟩ : Fin 4) (⟨y.val % 64, by omega⟩ : Fin 64)) (by
        rw [Shape.rowMajor_val_six, Shape.rowMajor_val_four]
        show ((((b.val * 2 + t.val) * 4 + r.val / 4) * 4 + r.val % 4) * 4 + y.val / 64) * 64 + y.val % 64
          = ((b.val * 2 + t.val) * 16 + r.val) * 256 + y.val
        omega)).trans ((qSpread_apply x b t _ _ _ _).trans ?_)
  refine congrArg₂ (fun a b : EReal => a * b) (congrArg x (congrArg (ix3 b (0 : Fin 1)) (Fin.ext (by
    show ((t.val * 4 + r.val / 4) * 4 + r.val % 4) * 64 + y.val % 64 = (t.val * 16 + r.val) * 64 + y.val % 64
    omega)))) ?_
  simp only [Fin.mk.injEq]

theorem codes_in_apply (x : IVec S8x32768x8x64 8) (b : Fin 8) (z : Fin 512) (t : Fin 32768) :
    shapeCast S8x512x32768 (transpose S8x8x64x32768 [0, 2, 3, 1] x transposes_S8x32768x8x64_S8x8x64x32768_0_2_3_1) shapeCasts_S8x8x64x32768_S8x512x32768 (ix3 b z t)
      = x (ix4 b t (⟨z.val / 64, by omega⟩ : Fin 8) (⟨z.val % 64, by omega⟩ : Fin 64)) := by
  refine (shapeCast_apply _ _ _ (ix4 b (⟨z.val / 64, by omega⟩ : Fin 8) (⟨z.val % 64, by omega⟩ : Fin 64) t) (by
      rw [Shape.rowMajor_val_four, Shape.rowMajor_val_three]
      show ((b.val * 8 + z.val / 64) * 64 + z.val % 64) * 32768 + t.val = (b.val * 512 + z.val) * 32768 + t.val
      omega)).trans ?_
  exact transpose_apply _ _ _ _ _ fun a => by
    match a with
    | ⟨0, _⟩ => rfl
    | ⟨1, _⟩ => rfl
    | ⟨2, _⟩ => rfl
    | ⟨3, _⟩ => rfl

theorem scales_in_apply (x : FVec Ideal S8x32768x8 .f32) (b h : Fin 8) (t : Fin 32768) :
    transpose S8x8x32768 [0, 2, 1] x transposes_S8x32768x8_S8x8x32768_0_2_1 (ix3 b h t) = x (ix3 b t h) :=
  transpose_apply _ _ _ _ _ fun a => by
    match a with
    | ⟨0, _⟩ => rfl
    | ⟨1, _⟩ => rfl
    | ⟨2, _⟩ => rfl

theorem new_in_apply (x : FVec Ideal S8x1x8x64 .bf16) (b : Fin 8) (z : Fin 512) :
    shapeCast S8x512 x shapeCasts_S8x1x8x64_S8x512 (ix2 b z) = x (ix4 b (0 : Fin 1) (⟨z.val / 64, by omega⟩ : Fin 8) (⟨z.val % 64, by omega⟩ : Fin 64)) :=
  shapeCast_apply _ _ _ _ (by
    rw [Shape.rowMajor_val_four, Shape.rowMajor_val_two]
    show ((b.val * 1 + 0) * 8 + z.val / 64) * 64 + z.val % 64 = b.val * 512 + z.val
    omega)

/-! ### The blocks at coordinates -/

theorem idx0 : ∀ t : Fin cfg0.N, win0_0.index t = ![min (t.val / 8) 7, 0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![min t.val 63 / 8, 0, min t.val 63 % 8] := (by decide +kernel : ∀ t : Fin grid0.N, _)
theorem idx4 : ∀ t : Fin cfg0.N, win0_4.index t = ![min t.val 63 / 8, 0, min t.val 63 % 8] := (by decide +kernel : ∀ t : Fin grid0.N, _)
theorem idx5 : ∀ t : Fin cfg0.N, win0_5.index t = ![(t.val - 1) / 8, 0, (t.val - 1) % 8] := (by decide +kernel : ∀ t : Fin grid0.N, _)
theorem idx6 : ∀ t : Fin cfg0.N, win0_6.index t = ![(t.val - 1) / 8, 0, (t.val - 1) % 8] := (by decide +kernel : ∀ t : Fin grid0.N, _)

theorem blk0 (t : Fin cfg0.N) (b : Fin 8) (ht : b.val = min (t.val / 8) 7) (h : Fin 2) (r : Fin 16) (y : Fin 256) :
    (iblk m c 0 t : Vec Ideal S1x2x16x256 .bf16) (ix4 (0 : Fin 1) h r y) = V m c main_v11 (ix4 b h r y) := by
  blk_simp [iblk]
  refine congrArg (V m c main_v11) ?_
  blk_ext [idx0 t]
  exact ht.symm

theorem blk1 (t : Fin cfg0.N) (b : Fin 8) (z : Fin 512) :
    (iblk m c 1 t : Vec Ideal S8x512 .bf16) (ix2 b z) = V m c main_v18 (ix2 b z) := by
  blk_simp [iblk]
  refine congrArg (V m c main_v18) ?_
  blk_ext [idx1 t]

theorem blk2 (t : Fin cfg0.N) (b : Fin 8) (z : Fin 512) :
    (iblk m c 2 t : Vec Ideal S8x512 .bf16) (ix2 b z) = V m c main_v19 (ix2 b z) := by
  blk_simp [iblk]
  refine congrArg (V m c main_v19) ?_
  blk_ext [idx2 t]

theorem blk3 (t : Fin cfg0.N) (b n : Fin 8) (ht : 8 * b.val + n.val = min t.val 63) (z : Fin 512) (j : Fin 4096) :
    (iblk m c 3 t : Vec Ideal S1x512x4096 .i8) (ix3 (0 : Fin 1) z j) = V m c main_v13 (ix3 b z (⟨4096 * n.val + j.val, by omega⟩ : Fin 32768)) := by
  blk_simp [iblk]
  refine congrArg (V m c main_v13) ?_
  blk_ext [idx3 t]
  · show min t.val 63 / 8 = b.val; omega
  · show min t.val 63 % 8 * 4096 + j.val = 4096 * n.val + j.val; omega

theorem blk4 (t : Fin cfg0.N) (b n : Fin 8) (ht : 8 * b.val + n.val = min t.val 63) (z : Fin 8) (j : Fin 4096) :
    (iblk m c 4 t : Vec Ideal S1x8x4096 .f32) (ix3 (0 : Fin 1) z j) = V m c main_v16 (ix3 b z (⟨4096 * n.val + j.val, by omega⟩ : Fin 32768)) := by
  blk_simp [iblk]
  refine congrArg (V m c main_v16) ?_
  blk_ext [idx4 t]
  · show min t.val 63 / 8 = b.val; omega
  · show min t.val 63 % 8 * 4096 + j.val = 4096 * n.val + j.val; omega

theorem blk5 (t : Fin cfg0.N) (b n : Fin 8) (ht : 8 * b.val + n.val = t.val - 1) (z : Fin 512) (j : Fin 4096) :
    (iblk m c 5 t : Vec Ideal S1x512x4096 .i8) (ix3 (0 : Fin 1) z j) = V m c main_v15 (ix3 b z (⟨4096 * n.val + j.val, by omega⟩ : Fin 32768)) := by
  blk_simp [iblk]
  refine congrArg (V m c main_v15) ?_
  blk_ext [idx5 t]
  · show (t.val - 1) / 8 = b.val; omega
  · show (t.val - 1) % 8 * 4096 + j.val = 4096 * n.val + j.val; omega

theorem blk6 (t : Fin cfg0.N) (b n : Fin 8) (ht : 8 * b.val + n.val = t.val - 1) (z : Fin 8) (j : Fin 4096) :
    (iblk m c 6 t : Vec Ideal S1x8x4096 .f32) (ix3 (0 : Fin 1) z j) = V m c main_v17 (ix3 b z (⟨4096 * n.val + j.val, by omega⟩ : Fin 32768)) := by
  blk_simp [iblk]
  refine congrArg (V m c main_v17) ?_
  blk_ext [idx6 t]
  · show (t.val - 1) / 8 = b.val; omega
  · show (t.val - 1) % 8 * 4096 + j.val = 4096 * n.val + j.val; omega

end Cert.Proof.Step

end
-- ==== Proof.KernelTarget.lean ====
/-
  What the steps compute from the blocks they find is the target attention of the arguments.
-/
module

public import proofs.«01_k».proof.Proof.HostBlocks
public import proofs.«01_k».proof.Proof.KernelDat

@[expose] public section

set_option maxRecDepth 65536

noncomputable section

namespace Cert.Proof.Step

open Cert.KernelIdeal Cert.KernelIdeal.Gen
open Idealize.ShloMosaic hiding ix1 ix2 ix3 ix4
open Idealize.ShloMosaic.TcCoe Idealize.ShloMosaic.ValueIdx
open Cert.Proof.Target (Args tk c8 deq code scale)
open Cert.Proof.Spec (num quantM quantS quantF)

variable (m : (ℓ : Loc nD τ sig) → Buf (Elt Ideal) ℓ) (c : Dev nD)

/-- The arguments on a device. -/
def args : Args where
  q b h g d := (m ((c : Thread nD τ).loc main_arg0) : FVec Ideal S8x1x2048 .bf16) (ix3 b (0 : Fin 1) (⟨(h.val * 4 + g.val) * 64 + d.val, by omega⟩ : Fin 2048))
  k b h d := (m ((c : Thread nD τ).loc main_arg1) : FVec Ideal S8x1x8x64 .bf16) (ix4 b (0 : Fin 1) h d)
  v b h d := (m ((c : Thread nD τ).loc main_arg2) : FVec Ideal S8x1x8x64 .bf16) (ix4 b (0 : Fin 1) h d)
  kc b t h d := (m ((c : Thread nD τ).loc main_arg3) : IVec S8x32768x8x64 8) (ix4 b t h d)
  ks b t h := (m ((c : Thread nD τ).loc main_arg4) : FVec Ideal S8x32768x8 .f32) (ix3 b t h)
  vc b t h d := (m ((c : Thread nD τ).loc main_arg5) : IVec S8x32768x8x64 8) (ix4 b t h d)
  vs b t h := (m ((c : Thread nD τ).loc main_arg6) : FVec Ideal S8x32768x8 .f32) (ix3 b t h)

/-- Over the lanes of a half, only the row's own head's count. -/
theorem lanes (q : Fin 64 → EReal) (K : Fin 4 → Fin 64 → EReal) (i : Fin 4) :
    (∑ y : Fin 256, (q ⟨y.val % 64, by omega⟩ * (if i.val = y.val / 64 then (1 : EReal) else 0)) * K ⟨y.val / 64, by omega⟩ ⟨y.val % 64, by omega⟩)
      = ∑ d : Fin 64, q d * K i d := by
  refine (Finset.sum_of_injOn (fun d : Fin 64 => (⟨64 * i.val + d.val, by omega⟩ : Fin 256)) ?_ (fun _ _ => Finset.mem_coe.mpr (Finset.mem_univ _)) ?_ ?_).symm
  · intro a _ b _ h
    have := congrArg Fin.val h
    exact Fin.ext (by dsimp only at this; omega)
  · intro y _ hy
    rw [if_neg, mul_zero, zero_mul]
    intro h
    exact hy ⟨⟨y.val % 64, by omega⟩, Finset.mem_coe.mpr (Finset.mem_univ _), Fin.ext (by dsimp only; omega)⟩
  · intro d _
    have h1 : (64 * i.val + d.val) / 64 = i.val := by omega
    have h2 : (64 * i.val + d.val) % 64 = d.val := by omega
    dsimp only
    rw [if_pos h1.symm, mul_one]
    exact congrArg₂ (fun x y : EReal => x * y) (congrArg q (Fin.ext h2.symm)) (congrArg₂ K (Fin.ext h1.symm) (Fin.ext h2.symm))

theorem at4 {n₁ n₂ n₃ : ℕ} {α : Type} (x : (⟨4, ![8, n₁, n₂, n₃]⟩ : Shape).Idx → α) (b : Fin 8) {t t' : Fin n₁} {h h' : Fin n₂} {d d' : Fin n₃}
    (e1 : t.val = t'.val) (e2 : h.val = h'.val) (e3 : d.val = d'.val) : x (ix4 b t h d) = x (ix4 b t' h' d') := by
  rw [Fin.ext e1, Fin.ext e2, Fin.ext e3]

theorem at3 {n₁ n₂ : ℕ} {α : Type} (x : (⟨3, ![8, n₁, n₂]⟩ : Shape).Idx → α) (b : Fin 8) {t t' : Fin n₁} {h h' : Fin n₂}
    (e1 : t.val = t'.val) (e2 : h.val = h'.val) : x (ix3 b t h) = x (ix3 b t' h') := by
  rw [Fin.ext e1, Fin.ext e2]

theorem tk_val (n : ℕ) (hn : n < 8) (x : Fin 16 × Fin 256) : (tk n x).val = 4096 * n + (tok x).val := by
  show (4096 * n + (256 * x.1.val + x.2.val)) % 32768 = 4096 * n + (256 * x.1.val + x.2.val)
  omega

theorem pt_val (n : ℕ) (hn : n < 65) : (pt65 n).val = n := Nat.mod_eq_of_lt hn

/-- A key entry, and a value entry. -/
theorem key_blk (b : Fin 8) (n : ℕ) (hn : n < 8) (h : Fin 8) (d : Fin 64) (x : Fin 16 × Fin 256) :
    kBlk ((blocks m c).X4 (8 * b.val + n)) ((blocks m c).X5 (8 * b.val + n)) h d (tok x) = (args m c).key b (tk n x) h d := by
  have hp : 8 * b.val + (⟨n, hn⟩ : Fin 8).val = min (pt65 (8 * b.val + n)).val 63 := by
    rw [pt_val _ (by omega)]; show 8 * b.val + n = min (8 * b.val + n) 63; omega
  refine congrArg₂ (fun (a : BitVec 8) (s : EReal) => num a * s) ?_ ?_
  · refine (blk3 m c (pt65 (8 * b.val + n)) b ⟨n, hn⟩ hp _ _).trans ((congrFun (V_v13 m c) _).trans ((codes_in_apply _ _ _ _).trans ?_))
    exact at4 _ b (tk_val n hn x).symm (by show (64 * h.val + d.val) / 64 = h.val; omega) (by show (64 * h.val + d.val) % 64 = d.val; omega)
  · refine (blk4 m c (pt65 (8 * b.val + n)) b ⟨n, hn⟩ hp _ _).trans ((congrFun (V_v16 m c) _).trans ((scales_in_apply _ _ _ _).trans ?_))
    exact at3 _ b (tk_val n hn x).symm rfl

theorem val_blk (b : Fin 8) (n : ℕ) (hn : n < 8) (h : Fin 8) (d : Fin 64) (x : Fin 16 × Fin 256) :
    kBlk ((blocks m c).X6 (8 * b.val + n + 1)) ((blocks m c).X7 (8 * b.val + n + 1)) h d (tok x) = (args m c).val b (tk n x) h d := by
  have hp : 8 * b.val + (⟨n, hn⟩ : Fin 8).val = (pt65 (8 * b.val + n + 1)).val - 1 := by
    rw [pt_val _ (by omega)]; show 8 * b.val + n = 8 * b.val + n + 1 - 1; omega
  refine congrArg₂ (fun (a : BitVec 8) (s : EReal) => num a * s) ?_ ?_
  · refine (blk5 m c (pt65 (8 * b.val + n + 1)) b ⟨n, hn⟩ hp _ _).trans ((congrFun (V_v15 m c) _).trans ((codes_in_apply _ _ _ _).trans ?_))
    exact at4 _ b (tk_val n hn x).symm (by show (64 * h.val + d.val) / 64 = h.val; omega) (by show (64 * h.val + d.val) % 64 = d.val; omega)
  · refine (blk6 m c (pt65 (8 * b.val + n + 1)) b ⟨n, hn⟩ hp _ _).trans ((congrFun (V_v17 m c) _).trans ((scales_in_apply _ _ _ _).trans ?_))
    exact at3 _ b (tk_val n hn x).symm rfl

/-- A lane of a query row. -/
theorem query_blk (b : Fin 8) (n : ℕ) (hn : n < 8) (r : Fin 32) (y : Fin 256) :
    ((blocks m c).X1 (8 * b.val + n) (ix4 (0 : Fin 1) (⟨r.val / 16, by omega⟩ : Fin 2) (⟨r.val % 16, by omega⟩ : Fin 16) y) : EReal)
      = (args m c).q b ⟨r.val / 4, by omega⟩ ⟨r.val % 4, by omega⟩ ⟨y.val % 64, by omega⟩ * (if r.val % 16 / 4 = y.val / 64 then (1 : EReal) else 0) := by
  have hp : b.val = min ((pt65 (8 * b.val + n)).val / 8) 7 := by
    rw [pt_val _ (by omega)]; omega
  refine (blk0 m c (pt65 (8 * b.val + n)) b hp _ _ _).trans ((congrFun (V_v11 m c) _).trans ((spreadQ_apply _ _ _ _ _).trans ?_))
  refine congrArg (fun z : EReal => z * (if r.val % 16 / 4 = y.val / 64 then (1 : EReal) else 0)) ?_
  exact at3 _ b rfl (by show (r.val / 16 * 16 + r.val % 16) * 64 + y.val % 64 = (r.val / 4 * 4 + r.val % 4) * 64 + y.val % 64; omega)

theorem head_eq (r : Fin 32) : hd ⟨r.val / 16, by omega⟩ ⟨r.val % 16 / 4, by omega⟩ = (⟨r.val / 4, by omega⟩ : Fin 8) :=
  Fin.ext (by show 4 * (r.val / 16) + r.val % 16 / 4 = r.val / 4; omega)

theorem score_blk (b : Fin 8) (n : ℕ) (hn : n < 8) (r : Fin 32) (x : Fin 16 × Fin 256) :
    (blocks m c).S b.val r n x = (args m c).score b ⟨r.val / 4, by omega⟩ ⟨r.val % 4, by omega⟩ (tk n x) := by
  refine congrArg (fun z : EReal => z * c8) ?_
  refine (Finset.sum_congr rfl fun y _ => congrArg₂ (fun a e : EReal => a * e) (query_blk m c b n hn r y) (key_blk m c b n hn _ _ x)).trans ?_
  refine (lanes (fun d => (args m c).q b ⟨r.val / 4, by omega⟩ ⟨r.val % 4, by omega⟩ d)
    (fun i d => (args m c).key b (tk n x) (hd ⟨r.val / 16, by omega⟩ i) d) ⟨r.val % 16 / 4, by omega⟩).trans ?_
  rw [head_eq r]

/-! ### The new rows -/

theorem k_row (b : Fin 8) (l : Fin 512) : ((blocks m c).X2 (ix2 b l) : EReal) = (args m c).k b ⟨l.val / 64, by omega⟩ ⟨l.val % 64, by omega⟩ :=
  (blk1 m c (pt65 0) b l).trans ((congrFun (V_v18 m c) _).trans (new_in_apply _ _ _))

theorem v_row (b : Fin 8) (l : Fin 512) : ((blocks m c).X3 (ix2 b l) : EReal) = (args m c).v b ⟨l.val / 64, by omega⟩ ⟨l.val % 64, by omega⟩ :=
  (blk2 m c (pt65 0) b l).trans ((congrFun (V_v19 m c) _).trans (new_in_apply _ _ _))

section row
variable (X : Vec Ideal S8x512 .bf16) (f : Fin 8 → Fin 8 → Fin 64 → EReal)
  (hX : ∀ (b : Fin 8) (l : Fin 512), (X (ix2 b l) : EReal) = f b ⟨l.val / 64, by omega⟩ ⟨l.val % 64, by omega⟩)
include hX

theorem headRow_eq (b h : Fin 8) : headRow X b h = f b h := funext fun d =>
  (hX b _).trans (congrArg₂ (f b) (Fin.ext (by show (64 * h.val + d.val) / 64 = h.val; omega)) (Fin.ext (by show (64 * h.val + d.val) % 64 = d.val; omega)))

theorem scale_row (b h : Fin 8) : (outScale X 8 (ix2 b h) : EReal) = scale f b h := by
  rw [outScale_apply X b h 8 (le_refl _) h.isLt, headRow_eq X f hX]; rfl

theorem code_row (b : Fin 8) (l : Fin 512) : codes X (ix2 b l) = code f b ⟨l.val / 64, by omega⟩ ⟨l.val % 64, by omega⟩ := by
  rw [codes_apply X b l, headRow_eq X f hX, hX]; rfl

theorem deq_row (b : Fin 8) (l : Fin 512) : (newDeq X (ix2 b l) : EReal) = deq f b ⟨l.val / 64, by omega⟩ ⟨l.val % 64, by omega⟩ := by
  rw [newDeq_apply X b l, headRow_eq X f hX, hX]; rfl

end row

theorem deq_at (f : Fin 8 → Fin 8 → Fin 64 → EReal) {b b' h h' : Fin 8} {d d' : Fin 64} (e0 : b.val = b'.val) (e1 : h.val = h'.val) (e2 : d.val = d'.val) :
    deq f b h d = deq f b' h' d' := by
  rw [Fin.ext e0, Fin.ext e1, Fin.ext e2]

theorem newScore_blk (b : Fin 8) (r : Fin 32) :
    (blocks m c).sn b.val r = (args m c).newScore b ⟨r.val / 4, by omega⟩ ⟨r.val % 4, by omega⟩ := by
  refine congrArg (fun z : EReal => z * c8) ?_
  refine (Finset.sum_congr rfl fun y _ => congrArg₂ (fun a e : EReal => a * e) (query_blk m c b 0 (by omega) r y)
    ((deq_row _ _ (k_row m c) (⟨b.val % 8, by omega⟩ : Fin 8) (⟨256 * (r.val / 16) + y.val, by omega⟩ : Fin 512)).trans
      (deq_at (args m c).k (b' := b) (h' := hd ⟨r.val / 16, by omega⟩ ⟨y.val / 64, by omega⟩) (d' := ⟨y.val % 64, by omega⟩)
      (by show b.val % 8 = b.val; omega)
      (by show (256 * (r.val / 16) + y.val) / 64 = 4 * (r.val / 16) + y.val / 64; omega)
      (by show (256 * (r.val / 16) + y.val) % 64 = y.val % 64; omega)))).trans ?_
  refine (lanes (fun d => (args m c).q b ⟨r.val / 4, by omega⟩ ⟨r.val % 4, by omega⟩ d)
    (fun i d => deq (args m c).k b (hd ⟨r.val / 16, by omega⟩ i) d) ⟨r.val % 16 / 4, by omega⟩).trans ?_
  rw [head_eq r]

/-- The output. -/
theorem y_blk (b : Fin 8) (r : Fin 32) (d : Fin 64) :
    (blocks m c).y b.val r d = (args m c).y b ⟨r.val / 4, by omega⟩ ⟨r.val % 4, by omega⟩ d := by
  refine Target.y_of_blocks (args m c) b _ _ d ((blocks m c).S b.val r) ((blocks m c).V b.val (Blocks.chan r d)) ((blocks m c).sn b.val r)
    ((blocks m c).vn b.val (Blocks.chan r d)) (fun n hn x => score_blk m c b n hn r x) (fun n hn x => ?_) (newScore_blk m c b r) ?_
  · refine (val_blk m c b n hn _ _ x).trans ?_
    refine congrArg₂ ((args m c).val b (tk n x)) (Fin.ext ?_) (Fin.ext ?_)
    · show (64 * (r.val / 4) + d.val) / 64 = r.val / 4; omega
    · show (64 * (r.val / 4) + d.val) % 64 = d.val; omega
  · exact (deq_row _ _ (v_row m c) _ _).trans (deq_at (args m c).v (by show b.val % 8 = b.val; omega)
      (by show (64 * (r.val / 4) + d.val) / 64 = r.val / 4; omega) (by show (64 * (r.val / 4) + d.val) % 64 = d.val; omega))

end Cert.Proof.Step
-- ==== Proof.KernelResults.lean ====
/-
  The kernel's run: each result array, entry by entry, is the target's; and the arguments are kept.
-/
module

public import proofs.«01_k».proof.Proof.KernelTarget
public import proofs.«01_k».proof.Proof.KernelRunValue
public import Idealize.ShloMosaic.Lib.Pipeline.ArrRel

@[expose] public section

set_option maxRecDepth 65536

noncomputable section

namespace Cert.Proof.Step

open Cert.KernelIdeal Cert.KernelIdeal.Gen
open Idealize.ShloMosaic hiding ix1 ix2 ix3 ix4
open Idealize.ShloMosaic.TcCoe Idealize.ShloMosaic.ValueIdx
open Idealize.SL.Sem
open Idealize.ShloMosaic.Pipeline (RDat Dat Cfg Window)
open Cert.Proof.Target (Args deq code scale)

variable (m : (ℓ : Loc nD τ sig) → Buf (Elt Ideal) ℓ) (ρ : Dev nD → PrngReg) (c : Dev nD)

/-! ### What may be left at the steps that write back -/

/-- A window that the first step fills and the others leave keeps what the first step put there. -/
theorem leaves_const (w : Fin cfg0.W) (Z : (cfg0.win w).block.Idx → Elt Ideal (cfg0.win w).elt) (hfe : ∀ t, (cfg0.win w).fetch t = false)
    (hfl : ∀ t : Fin cfg0.N, t.val < 64 → (cfg0.win w).flush t ≠ true)
    (h0 : ∀ t Y X, (rdats m c).after w t Y X → t.val = 0 → X = Z) (h1 : ∀ t Y X, (rdats m c).after w t Y X → t.val ≠ 0 → X = Y) :
    ∀ (n : ℕ) (hn : n < cfg0.N) X, (rdats m c).Leaves w ⟨n, hn⟩ X → X = Z
  | 0, _, X, ⟨Y, _, ha⟩ => h0 _ Y X ha rfl
  | n + 1, hn, X, ⟨Y, hY, ha⟩ => by
    rw [h1 _ Y X ha (Nat.succ_ne_zero n)]
    rcases ((rdats m c).finds_of_pos (hfe _) (Nat.succ_ne_zero n) Y).mp hY with hf | hL
    · exact absurd hf (hfl ⟨n, by omega⟩ (by have : n + 1 < 65 := hn; show n < 64; omega))
    · exact leaves_const w Z hfe hfl h0 h1 n (by omega) Y hL

/-- The last step. -/
def tLast : Fin cfg0.N := ⟨64, by decide⟩

theorem leaves8 (X) (h : (rdats m c).Leaves 8 tLast X) : X = codes (blocks m c).X2 :=
  leaves_const m c 8 _ (fun t => (cfg0.win 8).fetch_out rfl t)
    (fun t ht hf => by have := (flush0_8 t).mp hf; omega)
    (fun t Y X ha => ha.1) (fun t Y X ha => ha.2) 64 _ X h

theorem leaves9 (X) (h : (rdats m c).Leaves 9 tLast X) : X = outScale (blocks m c).X2 8 :=
  leaves_const m c 9 _ (fun t => (cfg0.win 9).fetch_out rfl t)
    (fun t ht hf => by have := (flush0_9 t).mp hf; omega)
    (fun t Y X ha => ha.1) (fun t Y X ha => ha.2) 64 _ X h

theorem leaves10 (X) (h : (rdats m c).Leaves 10 tLast X) : X = codes (blocks m c).X3 :=
  leaves_const m c 10 _ (fun t => (cfg0.win 10).fetch_out rfl t)
    (fun t ht hf => by have := (flush0_10 t).mp hf; omega)
    (fun t Y X ha => ha.1) (fun t Y X ha => ha.2) 64 _ X h

theorem leaves11 (X) (h : (rdats m c).Leaves 11 tLast X) : X = outScale (blocks m c).X3 8 :=
  leaves_const m c 11 _ (fun t => (cfg0.win 11).fetch_out rfl t)
    (fun t ht hf => by have := (flush0_11 t).mp hf; omega)
    (fun t Y X ha => ha.1) (fun t Y X ha => ha.2) 64 _ X h

/-- The step that writes batch `b`'s output back. -/
def tOut (b : Fin 8) : Fin cfg0.N := ⟨8 * (b.val + 1), by show 8 * (b.val + 1) < 65; omega⟩

theorem leaves7 (b : Fin 8) (X) (h : (rdats m c).Leaves 7 (tOut b) X) (r : Fin 32) (d : Fin 64) :
    ((X : Vec Ideal S1x32x64 .bf16) (ix3 (0 : Fin 1) r d) : EReal) = (blocks m c).y b.val r d := by
  obtain ⟨Y, _, ha⟩ := h
  have e : (tOut b).val / 8 - 1 = b.val := by show 8 * (b.val + 1) / 8 - 1 = b.val; omega
  have := ha (by show 0 < 8 * (b.val + 1); omega) (by show 8 * (b.val + 1) % 8 = 0; omega) r d
  rw [e] at this
  exact this

/-! ### The arrays after the run -/

theorem oidx7 : ∀ t : Fin cfg0.N, win0_7.index t = ![(t.val - 1) / 8, 0, 0] := (by decide +kernel : ∀ t : Fin grid0.N, _)
theorem oidx8 : ∀ t : Fin cfg0.N, win0_8.index t = ![0, 0] := (by decide +kernel : ∀ t : Fin grid0.N, _)
theorem oidx9 : ∀ t : Fin cfg0.N, win0_9.index t = ![0, 0] := (by decide +kernel : ∀ t : Fin grid0.N, _)
theorem oidx10 : ∀ t : Fin cfg0.N, win0_10.index t = ![0, 0] := (by decide +kernel : ∀ t : Fin grid0.N, _)
theorem oidx11 : ∀ t : Fin cfg0.N, win0_11.index t = ![0, 0] := (by decide +kernel : ∀ t : Fin grid0.N, _)
theorem flush7 : ∀ b : Fin 8, (cfg0.win 7).flush (tOut b) = true := by decide +kernel

theorem inj7 : ∀ t t' : Fin cfg0.N, (cfg0.win 7).flush t = true → (cfg0.win 7).flush t' = true → (cfg0.win 7).index t = (cfg0.win 7).index t' → t = t' :=
  (by decide +kernel : ∀ t t' : Fin grid0.N, win0_7.flush t = true → win0_7.flush t' = true → win0_7.index t = win0_7.index t' → t = t')

section arrays
variable (after : (w' : Fin cfg0.W) → Fin cfg0.N → (cfg0.win w').block.Idx → Elt Ideal (cfg0.win w').elt)
  (hL : ∀ (w : Fin cfg0.W) (u : Fin cfg0.N), (cfg0.win w).flush u = true → (rdats m c).Leaves w u (after w u))
include hL

theorem arr7 (b : Fin 8) (r : Fin 32) (d : Fin 64) :
    (((rdats m c).withAfter after).arrAt 7 cfg0.N : Vec Ideal S8x32x64 .bf16) (ix3 b r d)
      = (args m c).y b (⟨r.val / 4, by omega⟩ : Fin 8) (⟨r.val % 4, by omega⟩ : Fin 4) d := by
  have hb := congrFun (((rdats m c).withAfter after).read_blk_arrAt_eq_flushed 7 ((cfg0.win 7).hdisj_of_index_inj inj7) cfg0.N (tOut b) (tOut b).isLt (flush7 b))
    (ix3 (0 : Fin 1) r d)
  have e : ((cfg0.win 7).blk (tOut b)).view.emb (ix3 (0 : Fin 1) r d) = (ix3 b r d : S8x32x64.Idx) := by
    blk_simp []
    blk_ext [oidx7 (tOut b)]
    show (8 * (b.val + 1) - 1) / 8 = b.val
    omega
  refine (congrArg (((rdats m c).withAfter after).arrAt 7 cfg0.N : Vec Ideal S8x32x64 .bf16) e.symm).trans (hb.trans ?_)
  exact (leaves7 m c b (after 7 (tOut b)) (hL 7 _ (flush7 b)) r d).trans (y_blk m c b r d)

theorem arr8 (b : Fin 8) (l : Fin 512) :
    (((rdats m c).withAfter after).arrAt 8 cfg0.N : Vec Ideal S8x512 .i8) (ix2 b l) = code (args m c).k b (⟨l.val / 64, by omega⟩ : Fin 8) (⟨l.val % 64, by omega⟩ : Fin 64) := by
  have hf : (cfg0.win 8).flush tLast = true := (flush0_8 tLast).mpr rfl
  have hb := congrFun (((rdats m c).withAfter after).read_blk_arrAt_eq_flushed 8 (fun t t' h1 h2 hne => absurd (Fin.ext (by
      have := (flush0_8 t).mp h1
      have := (flush0_8 t').mp h2
      have : t.val < 65 := t.isLt
      have : t'.val < 65 := t'.isLt
      omega)) hne) cfg0.N tLast tLast.isLt hf) (ix2 b l)
  have e : ((cfg0.win 8).blk tLast).view.emb (ix2 b l) = ((ix2 b l) : S8x512.Idx) := by
    blk_simp []
    blk_ext [oidx8 tLast]
  refine (congrArg (((rdats m c).withAfter after).arrAt 8 cfg0.N : Vec Ideal S8x512 .i8) e.symm).trans (hb.trans ?_)
  exact (congrFun (leaves8 m c (after 8 tLast) (hL 8 _ hf)) (ix2 b l)).trans (code_row _ _ (k_row m c) b l)

theorem arr9 (b h : Fin 8) :
    (((rdats m c).withAfter after).arrAt 9 cfg0.N : Vec Ideal S8x8 .f32) (ix2 b h) = scale (args m c).k b h := by
  have hf : (cfg0.win 9).flush tLast = true := (flush0_9 tLast).mpr rfl
  have hb := congrFun (((rdats m c).withAfter after).read_blk_arrAt_eq_flushed 9 (fun t t' h1 h2 hne => absurd (Fin.ext (by
      have := (flush0_9 t).mp h1
      have := (flush0_9 t').mp h2
      have : t.val < 65 := t.isLt
      have : t'.val < 65 := t'.isLt
      omega)) hne) cfg0.N tLast tLast.isLt hf) (ix2 b h)
  have e : ((cfg0.win 9).blk tLast).view.emb (ix2 b h) = ((ix2 b h) : S8x8.Idx) := by
    blk_simp []
    blk_ext [oidx9 tLast]
  refine (congrArg (((rdats m c).withAfter after).arrAt 9 cfg0.N : Vec Ideal S8x8 .f32) e.symm).trans (hb.trans ?_)
  exact (congrFun (leaves9 m c (after 9 tLast) (hL 9 _ hf)) (ix2 b h)).trans (scale_row _ _ (k_row m c) b h)

theorem arr10 (b : Fin 8) (l : Fin 512) :
    (((rdats m c).withAfter after).arrAt 10 cfg0.N : Vec Ideal S8x512 .i8) (ix2 b l) = code (args m c).v b (⟨l.val / 64, by omega⟩ : Fin 8) (⟨l.val % 64, by omega⟩ : Fin 64) := by
  have hf : (cfg0.win 10).flush tLast = true := (flush0_10 tLast).mpr rfl
  have hb := congrFun (((rdats m c).withAfter after).read_blk_arrAt_eq_flushed 10 (fun t t' h1 h2 hne => absurd (Fin.ext (by
      have := (flush0_10 t).mp h1
      have := (flush0_10 t').mp h2
      have : t.val < 65 := t.isLt
      have : t'.val < 65 := t'.isLt
      omega)) hne) cfg0.N tLast tLast.isLt hf) (ix2 b l)
  have e : ((cfg0.win 10).blk tLast).view.emb (ix2 b l) = ((ix2 b l) : S8x512.Idx) := by
    blk_simp []
    blk_ext [oidx10 tLast]
  refine (congrArg (((rdats m c).withAfter after).arrAt 10 cfg0.N : Vec Ideal S8x512 .i8) e.symm).trans (hb.trans ?_)
  exact (congrFun (leaves10 m c (after 10 tLast) (hL 10 _ hf)) (ix2 b l)).trans (code_row _ _ (v_row m c) b l)

theorem arr11 (b h : Fin 8) :
    (((rdats m c).withAfter after).arrAt 11 cfg0.N : Vec Ideal S8x8 .f32) (ix2 b h) = scale (args m c).v b h := by
  have hf : (cfg0.win 11).flush tLast = true := (flush0_11 tLast).mpr rfl
  have hb := congrFun (((rdats m c).withAfter after).read_blk_arrAt_eq_flushed 11 (fun t t' h1 h2 hne => absurd (Fin.ext (by
      have := (flush0_11 t).mp h1
      have := (flush0_11 t').mp h2
      have : t.val < 65 := t.isLt
      have : t'.val < 65 := t'.isLt
      omega)) hne) cfg0.N tLast tLast.isLt hf) (ix2 b h)
  have e : ((cfg0.win 11).blk tLast).view.emb (ix2 b h) = ((ix2 b h) : S8x8.Idx) := by
    blk_simp []
    blk_ext [oidx11 tLast]
  refine (congrArg (((rdats m c).withAfter after).arrAt 11 cfg0.N : Vec Ideal S8x8 .f32) e.symm).trans (hb.trans ?_)
  exact (congrFun (leaves11 m c (after 11 tLast) (hL 11 _ hf)) (ix2 b h)).trans (scale_row _ _ (v_row m c) b h)

end arrays

end Cert.Proof.Step
-- ==== Proof.RefTarget.lean ====
/-
  The reference's results, entry by entry: the attention of the target, and the codes and scales of the new rows.
-/
module

public import proofs.«01_k».proof.Proof.Target
public import proofs.«01_k».proof.Proof.Gen.ReferenceIdeal.Value
public import Idealize.ShloMosaic.Lib.Pipeline.ValueKit.Point

@[expose] public section

noncomputable section

namespace Cert.Proof.RefTarget

open Cert.ReferenceIdeal Cert.ReferenceIdeal.Gen
open Idealize.ShloMosaic Idealize.ShloMosaic.TcCoe
open Cert.Proof.Target
open Cert.Proof.Spec (num quantM quantS quantF)

variable {φ : FTy}

/-! ### Layout -/

/-- A head's number along its row. -/
theorem rows (x : FVec Ideal S8x8 φ) (b : Fin 8) (h : Fin 8) (d : Fin 64) :
    broadcastTo S8x8x64 (shapeCast S8x8x1 x shapeCasts_S8x8_S8x8x1) broadcasts_S8x8x1_S8x8x64 (ix3 b h d) = x (ix2 b h) := by
  rw [broadcastTo_apply _ broadcasts_S8x8x1_S8x8x64 (ix3 b h d) (ix3 b h (0 : Fin 1))
    (fun a => by match a with | ⟨0, _⟩ => rfl | ⟨1, _⟩ => rfl | ⟨2, _⟩ => rfl),
    shapeCast_apply x shapeCasts_S8x8_S8x8x1 (ix3 b h (0 : Fin 1)) (ix2 b h)
      (by rw [Shape.rowMajor_val_two, Shape.rowMajor_val_three]; show b.val * 8 + h.val = (b.val * 8 + h.val) * 1 + 0; omega)]

/-- A token's number along its row. -/
theorem tokens (x : FVec Ideal S8x32768x8 φ) (b : Fin 8) (t : Fin 32768) (h : Fin 8) (d : Fin 64) :
    broadcastTo S8x32768x8x64 (shapeCast S8x32768x8x1 x shapeCasts_S8x32768x8_S8x32768x8x1) broadcasts_S8x32768x8x1_S8x32768x8x64 (ix4 b t h d) = x (ix3 b t h) := by
  rw [broadcastTo_apply _ broadcasts_S8x32768x8x1_S8x32768x8x64 (ix4 b t h d) (ix4 b t h (0 : Fin 1))
    (fun a => by match a with | ⟨0, _⟩ => rfl | ⟨1, _⟩ => rfl | ⟨2, _⟩ => rfl | ⟨3, _⟩ => rfl),
    shapeCast_apply x shapeCasts_S8x32768x8_S8x32768x8x1 (ix4 b t h (0 : Fin 1)) (ix3 b t h)
      (by rw [Shape.rowMajor_val_three, Shape.rowMajor_val_four]; show (b.val * 32768 + t.val) * 8 + h.val = ((b.val * 32768 + t.val) * 8 + h.val) * 1 + 0; omega)]

/-- The queries against every token. -/
theorem queries (x : FVec Ideal S8x8x4x64 φ) (b : Fin 8) (t : Fin 32768) (h : Fin 8) (g : Fin 4) (d : Fin 64) :
    broadcastTo S8x32768x8x4x64 (shapeCast S8x1x8x4x64 x shapeCasts_S8x8x4x64_S8x1x8x4x64) broadcasts_S8x1x8x4x64_S8x32768x8x4x64 (ix5 b t h g d) = x (ix4 b h g d) := by
  rw [broadcastTo_apply _ broadcasts_S8x1x8x4x64_S8x32768x8x4x64 (ix5 b t h g d) (ix5 b (0 : Fin 1) h g d)
    (fun a => by match a with | ⟨0, _⟩ => rfl | ⟨1, _⟩ => rfl | ⟨2, _⟩ => rfl | ⟨3, _⟩ => rfl | ⟨4, _⟩ => rfl),
    shapeCast_apply x shapeCasts_S8x8x4x64_S8x1x8x4x64 (ix5 b (0 : Fin 1) h g d) (ix4 b h g d)
      (by rw [Shape.rowMajor_val_four, Shape.rowMajor_val_five]; show ((b.val * 8 + h.val) * 4 + g.val) * 64 + d.val = (((b.val * 1 + 0) * 8 + h.val) * 4 + g.val) * 64 + d.val; omega)]

/-- The tokens against every query of the group. -/
theorem group (x : FVec Ideal S8x32768x8x64 φ) (b : Fin 8) (t : Fin 32768) (h : Fin 8) (g : Fin 4) (d : Fin 64) :
    broadcastTo S8x32768x8x4x64 (shapeCast S8x32768x8x1x64 x shapeCasts_S8x32768x8x64_S8x32768x8x1x64) broadcasts_S8x32768x8x1x64_S8x32768x8x4x64 (ix5 b t h g d) = x (ix4 b t h d) := by
  rw [broadcastTo_apply _ broadcasts_S8x32768x8x1x64_S8x32768x8x4x64 (ix5 b t h g d) (ix5 b t h (0 : Fin 1) d)
    (fun a => by match a with | ⟨0, _⟩ => rfl | ⟨1, _⟩ => rfl | ⟨2, _⟩ => rfl | ⟨3, _⟩ => rfl | ⟨4, _⟩ => rfl),
    shapeCast_apply x shapeCasts_S8x32768x8x64_S8x32768x8x1x64 (ix5 b t h (0 : Fin 1) d) (ix4 b t h d)
      (by rw [Shape.rowMajor_val_four, Shape.rowMajor_val_five]; show ((b.val * 32768 + t.val) * 8 + h.val) * 64 + d.val = (((b.val * 32768 + t.val) * 8 + h.val) * 1 + 0) * 64 + d.val; omega)]

/-- The new token against every query of the group. -/
theorem group1 (x : FVec Ideal S8x8x64 φ) (b : Fin 8) (h : Fin 8) (g : Fin 4) (d : Fin 64) :
    broadcastTo S8x8x4x64 (shapeCast S8x8x1x64 x shapeCasts_S8x8x64_S8x8x1x64) broadcasts_S8x8x1x64_S8x8x4x64 (ix4 b h g d) = x (ix3 b h d) := by
  rw [broadcastTo_apply _ broadcasts_S8x8x1x64_S8x8x4x64 (ix4 b h g d) (ix4 b h (0 : Fin 1) d)
    (fun a => by match a with | ⟨0, _⟩ => rfl | ⟨1, _⟩ => rfl | ⟨2, _⟩ => rfl | ⟨3, _⟩ => rfl),
    shapeCast_apply x shapeCasts_S8x8x64_S8x8x1x64 (ix4 b h (0 : Fin 1) d) (ix3 b h d)
      (by rw [Shape.rowMajor_val_three, Shape.rowMajor_val_four]; show (b.val * 8 + h.val) * 64 + d.val = ((b.val * 8 + h.val) * 1 + 0) * 64 + d.val; omega)]

/-- A query's number at every token. -/
theorem tops (x : FVec Ideal S8x8x4 φ) (b : Fin 8) (t : Fin 32768) (h : Fin 8) (g : Fin 4) :
    broadcastTo S8x32768x8x4 (shapeCast S8x1x8x4 x shapeCasts_S8x8x4_S8x1x8x4) broadcasts_S8x1x8x4_S8x32768x8x4 (ix4 b t h g) = x (ix3 b h g) := by
  rw [broadcastTo_apply _ broadcasts_S8x1x8x4_S8x32768x8x4 (ix4 b t h g) (ix4 b (0 : Fin 1) h g)
    (fun a => by match a with | ⟨0, _⟩ => rfl | ⟨1, _⟩ => rfl | ⟨2, _⟩ => rfl | ⟨3, _⟩ => rfl),
    shapeCast_apply x shapeCasts_S8x8x4_S8x1x8x4 (ix4 b (0 : Fin 1) h g) (ix3 b h g)
      (by rw [Shape.rowMajor_val_three, Shape.rowMajor_val_four]; show (b.val * 8 + h.val) * 4 + g.val = ((b.val * 1 + 0) * 8 + h.val) * 4 + g.val; omega)]

/-- A weight along the values' row. -/
theorem weights (x : FVec Ideal S8x32768x8x4 φ) (b : Fin 8) (t : Fin 32768) (h : Fin 8) (g : Fin 4) (d : Fin 64) :
    broadcastTo S8x32768x8x4x64 (shapeCast S8x32768x8x4x1 x shapeCasts_S8x32768x8x4_S8x32768x8x4x1) broadcasts_S8x32768x8x4x1_S8x32768x8x4x64 (ix5 b t h g d) = x (ix4 b t h g) := by
  rw [broadcastTo_apply _ broadcasts_S8x32768x8x4x1_S8x32768x8x4x64 (ix5 b t h g d) (ix5 b t h g (0 : Fin 1))
    (fun a => by match a with | ⟨0, _⟩ => rfl | ⟨1, _⟩ => rfl | ⟨2, _⟩ => rfl | ⟨3, _⟩ => rfl | ⟨4, _⟩ => rfl),
    shapeCast_apply x shapeCasts_S8x32768x8x4_S8x32768x8x4x1 (ix5 b t h g (0 : Fin 1)) (ix4 b t h g)
      (by rw [Shape.rowMajor_val_four, Shape.rowMajor_val_five]; show ((b.val * 32768 + t.val) * 8 + h.val) * 4 + g.val = (((b.val * 32768 + t.val) * 8 + h.val) * 4 + g.val) * 1 + 0; omega)]

/-- A query's number along its row. -/
theorem weights1 (x : FVec Ideal S8x8x4 φ) (b : Fin 8) (h : Fin 8) (g : Fin 4) (d : Fin 64) :
    broadcastTo S8x8x4x64 (shapeCast S8x8x4x1 x shapeCasts_S8x8x4_S8x8x4x1) broadcasts_S8x8x4x1_S8x8x4x64 (ix4 b h g d) = x (ix3 b h g) := by
  rw [broadcastTo_apply _ broadcasts_S8x8x4x1_S8x8x4x64 (ix4 b h g d) (ix4 b h g (0 : Fin 1))
    (fun a => by match a with | ⟨0, _⟩ => rfl | ⟨1, _⟩ => rfl | ⟨2, _⟩ => rfl | ⟨3, _⟩ => rfl),
    shapeCast_apply x shapeCasts_S8x8x4_S8x8x4x1 (ix4 b h g (0 : Fin 1)) (ix3 b h g)
      (by rw [Shape.rowMajor_val_three, Shape.rowMajor_val_four]; show (b.val * 8 + h.val) * 4 + g.val = ((b.val * 8 + h.val) * 4 + g.val) * 1 + 0; omega)]

theorem lift_row (b : Fin 8) (h : Fin 8) (d : Fin 64) : reduces_S8x8x64_S8x8.lift (ix2 b h) d = (ix3 b h d) :=
  funext fun a => Fin.ext ((Shape.Reduces.lift_val _ _ _ _).trans (by match a with | ⟨0, _⟩ => rfl | ⟨1, _⟩ => rfl | ⟨2, _⟩ => rfl))

theorem lift_score (b : Fin 8) (t : Fin 32768) (h : Fin 8) (g : Fin 4) (d : Fin 64) : reduces_S8x32768x8x4x64_S8x32768x8x4.lift (ix4 b t h g) d = (ix5 b t h g d) :=
  funext fun a => Fin.ext ((Shape.Reduces.lift_val _ _ _ _).trans (by match a with | ⟨0, _⟩ => rfl | ⟨1, _⟩ => rfl | ⟨2, _⟩ => rfl | ⟨3, _⟩ => rfl | ⟨4, _⟩ => rfl))

theorem lift_score1 (b : Fin 8) (h : Fin 8) (g : Fin 4) (d : Fin 64) : reduces_S8x8x4x64_S8x8x4.lift (ix3 b h g) d = (ix4 b h g d) :=
  funext fun a => Fin.ext ((Shape.Reduces.lift_val _ _ _ _).trans (by match a with | ⟨0, _⟩ => rfl | ⟨1, _⟩ => rfl | ⟨2, _⟩ => rfl | ⟨3, _⟩ => rfl))

theorem lift_token (b : Fin 8) (t : Fin 32768) (h : Fin 8) (g : Fin 4) : reduces_S8x32768x8x4_S8x8x4.lift (ix3 b h g) t = (ix4 b t h g) :=
  funext fun a => Fin.ext ((Shape.Reduces.lift_val _ _ _ _).trans (by match a with | ⟨0, _⟩ => rfl | ⟨1, _⟩ => rfl | ⟨2, _⟩ => rfl | ⟨3, _⟩ => rfl))

theorem lift_value (b : Fin 8) (t : Fin 32768) (h : Fin 8) (g : Fin 4) (d : Fin 64) : reduces_S8x32768x8x4x64_S8x8x4x64.lift (ix4 b h g d) t = (ix5 b t h g d) :=
  funext fun a => Fin.ext ((Shape.Reduces.lift_val _ _ _ _).trans (by match a with | ⟨0, _⟩ => rfl | ⟨1, _⟩ => rfl | ⟨2, _⟩ => rfl | ⟨3, _⟩ => rfl | ⟨4, _⟩ => rfl))

set_option maxRecDepth 65536

/-! ### The new rows -/

theorem neg_inf : Ideal.ofBits .f32 0xFF800000#32 = ⊥ := rfl

theorem max_at {s : Shape} (a b : FVec Ideal s .f32) (i : s.Idx) : (maximumf a b i : EReal) = max (a i : EReal) (b i : EReal) := rfl
theorem add_at {s : Shape} (a b : FVec Ideal s .f32) (i : s.Idx) : (addf a b i : EReal) = (a i + b i : EReal) := rfl
theorem mul_at {s : Shape} (a b : FVec Ideal s .f32) (i : s.Idx) : (mulf a b i : EReal) = (a i * b i : EReal) := rfl
theorem div_at {s : Shape} (a b : FVec Ideal s .f32) (i : s.Idx) : (divf a b i : EReal) = Ideal.div (a i) (b i) := rfl
theorem exp_sub_at {s : Shape} (a b : FVec Ideal s .f32) (i : s.Idx) : (exp (subf a b) i : EReal) = Ideal.exp (a i - b i : EReal) := rfl

/-- A greatest value over an axis is bounded when every entry is. -/
theorem max_le_iff' {s t : Shape} {a : Fin s.rank} (src : FVec Ideal s .f32) (h : s.Reduces [a] t) (hφ : FKind.Formats .f32)
    (hacc : 0xFF800000#32 = FKind.maximumf.neutral .f32 hφ) (j : t.Idx) (c : EReal) :
    (multiReduction .maximumf [a] t src 0xFF800000#32 h hφ hacc j : EReal) ≤ c ↔ ∀ k, (src (h.lift j k) : EReal) ≤ c := by
  refine (iff_of_eq (congrArg (fun z : EReal => z ≤ c) (Ideal.multiReduction_maximumf_single _ _ _ _ _ _))).trans ?_
  refine (Finset.fold_max_le c).trans ?_
  exact ⟨fun H k => H.2 k (Finset.mem_univ _), fun H => ⟨bot_le.trans' (le_of_eq neg_inf), fun k _ => H k⟩⟩

section quant
variable (x : Vec Ideal S8x8x64 .bf16)

/-- A row's greatest magnitude, by the reduction. -/
theorem rowMax (b h : Fin 8) :
    multiReduction (F := Ideal) .maximumf [2] S8x8 (absf (k0_pay1 x)) 0xFF800000#32 reduces_S8x8x64_S8x8 (.inl rfl) rfl (ix2 b h)
      = quantM (fun d => x (ix3 b h d)) := by
  refine eq_of_forall_ge_iff fun c => (max_le_iff' _ _ _ _ _ _).trans ?_
  unfold quantM
  rw [Finset.sup_le_iff]
  have hf : ∀ d : Fin 64, (absf (F := Ideal) (k0_pay1 x) (reduces_S8x8x64_S8x8.lift (ix2 b h) d) : EReal)
      = max (x (ix3 b h d) : EReal) (-(x (ix3 b h d) : EReal)) := fun d => by
    rw [lift_row b h d]
    dsimp only [k0_pay1]
    rw [shapeCast_self]; rfl
  exact ⟨fun H d _ => (hf d).symm.le.trans (H d), fun H d => (hf d).le.trans (H d (Finset.mem_univ (α := Fin 64) d))⟩

theorem pay2_apply (b h : Fin 8) : k0_pay2 (F := Ideal) x (ix2 b h) = quantS (quantM (fun d => x (ix3 b h d))) := by
  rw [← rowMax x b h]; rfl

theorem pay3_apply (b h : Fin 8) (d : Fin 64) :
    k0_pay3 (F := Ideal) x (ix3 b h d) = Ideal.fptosi 8 (quantF (x (ix3 b h d)) (quantS (quantM (fun d => x (ix3 b h d))))) := by
  rw [← pay2_apply x b h, ← rows (k0_pay2 x) b h d]
  have : (x (ix3 b h d) : EReal) = k0_pay1 (F := Ideal) x (ix3 b h d) := by
    dsimp only [k0_pay1]
    rw [shapeCast_self]; rfl
  rw [this]; rfl

theorem pay7_apply (b : Fin 8) (l : Fin 512) : k0_pay7 (F := Ideal) x (ix2 b l)
    = k0_pay3 x (ix3 b (⟨l.val / 64, by omega⟩ : Fin 8) (⟨l.val % 64, by omega⟩ : Fin 64)) := by
  dsimp only [k0_pay7]
  rw [shapeCast_apply _ shapeCasts_S8x8x64_S8x512 (ix2 b l) (ix3 b (⟨l.val / 64, by omega⟩ : Fin 8) (⟨l.val % 64, by omega⟩ : Fin 64))
    (by rw [Shape.rowMajor_val_two, Shape.rowMajor_val_three]
        show (b.val * 8 + l.val / 64) * 64 + l.val % 64 = b.val * 512 + l.val; omega)]

theorem pay12_apply (s : FVec Ideal S8x8 .f32) (c : IVec S8x8x64 8) (b h : Fin 8) (d : Fin 64) :
    k0_pay12 (F := Ideal) s c (ix3 b h d) = num (c (ix3 b h d)) * s (ix2 b h) := by
  rw [← rows s b h d]; rfl

end quant

/-! ### The attention -/

theorem pay9_eq (q : Vec Ideal S8x8x4x64 .bf16) (i : S8x8x4x64.Idx) : k0_pay9 (F := Ideal) q i = q i := by
  dsimp only [k0_pay9]
  rw [shapeCast_self]; rfl

theorem pay10_apply (c : Vec Ideal S8x32768x8x64 .i8) (s : Vec Ideal S8x32768x8 .f32) (b : Fin 8) (t : Fin 32768) (h : Fin 8) (d : Fin 64) :
    k0_pay10 (F := Ideal) c s (ix4 b t h d) = num (c (ix4 b t h d)) * s (ix3 b t h) := by
  rw [← tokens (φ := .f32) s b t h d]; rfl

section attend
variable (q : FVec Ideal S8x8x4x64 .f32) (kk vv : FVec Ideal S8x32768x8x64 .f32) (nk nv : FVec Ideal S8x8x64 .f32)

def scoreV : FVec Ideal S8x32768x8x4 .f32 :=
  mulf (multiReduction .add [4] S8x32768x8x4
    (mulf (broadcastTo S8x32768x8x4x64 (shapeCast S8x1x8x4x64 q shapeCasts_S8x8x4x64_S8x1x8x4x64) broadcasts_S8x1x8x4x64_S8x32768x8x4x64)
      (broadcastTo S8x32768x8x4x64 (shapeCast S8x32768x8x1x64 kk shapeCasts_S8x32768x8x64_S8x32768x8x1x64) broadcasts_S8x32768x8x1x64_S8x32768x8x4x64))
    0x00000000#32 reduces_S8x32768x8x4x64_S8x32768x8x4 (.inl rfl) rfl) (broadcast S8x32768x8x4 (Scalar.ofBits .f32 0x3E000000#32))

def newScoreV : FVec Ideal S8x8x4 .f32 :=
  mulf (multiReduction .add [3] S8x8x4
    (mulf q (broadcastTo S8x8x4x64 (shapeCast S8x8x1x64 nk shapeCasts_S8x8x64_S8x8x1x64) broadcasts_S8x8x1x64_S8x8x4x64))
    0x00000000#32 reduces_S8x8x4x64_S8x8x4 (.inl rfl) rfl) (broadcast S8x8x4 (Scalar.ofBits .f32 0x3E000000#32))

variable (s : FVec Ideal S8x32768x8x4 .f32) (n m w l : FVec Ideal S8x8x4 .f32) (p : FVec Ideal S8x32768x8x4 .f32)

def topV : FVec Ideal S8x8x4 .f32 :=
  maximumf (multiReduction .maximumf [1] S8x8x4 s 0xFF800000#32 reduces_S8x32768x8x4_S8x8x4 (.inl rfl) rfl) n

def weightV : FVec Ideal S8x32768x8x4 .f32 :=
  exp (subf s (broadcastTo S8x32768x8x4 (shapeCast S8x1x8x4 m shapeCasts_S8x8x4_S8x1x8x4) broadcasts_S8x1x8x4_S8x32768x8x4))

def totalV : FVec Ideal S8x8x4 .f32 :=
  addf (multiReduction .add [1] S8x8x4 p 0x00000000#32 reduces_S8x32768x8x4_S8x8x4 (.inl rfl) rfl) w

def sumV : FVec Ideal S8x8x4x64 .f32 :=
  addf (multiReduction .add [1] S8x8x4x64
    (mulf (broadcastTo S8x32768x8x4x64 (shapeCast S8x32768x8x4x1 p shapeCasts_S8x32768x8x4_S8x32768x8x4x1) broadcasts_S8x32768x8x4x1_S8x32768x8x4x64)
      (broadcastTo S8x32768x8x4x64 (shapeCast S8x32768x8x1x64 vv shapeCasts_S8x32768x8x64_S8x32768x8x1x64) broadcasts_S8x32768x8x1x64_S8x32768x8x4x64))
    0x00000000#32 reduces_S8x32768x8x4x64_S8x8x4x64 (.inl rfl) rfl)
    (mulf (broadcastTo S8x8x4x64 (shapeCast S8x8x4x1 w shapeCasts_S8x8x4_S8x8x4x1) broadcasts_S8x8x4x1_S8x8x4x64)
      (broadcastTo S8x8x4x64 (shapeCast S8x8x1x64 nv shapeCasts_S8x8x64_S8x8x1x64) broadcasts_S8x8x1x64_S8x8x4x64))

def meanV (a : FVec Ideal S8x8x4x64 .f32) : FVec Ideal S8x8x4x64 .f32 :=
  divf a (broadcastTo S8x8x4x64 (shapeCast S8x8x4x1 l shapeCasts_S8x8x4_S8x8x4x1) broadcasts_S8x8x4x1_S8x8x4x64)

theorem scoreV_apply (b : Fin 8) (t : Fin 32768) (h : Fin 8) (g : Fin 4) :
    scoreV q kk (ix4 b t h g) = ((∑ d : Fin 64, (q (ix4 b h g d) * kk (ix4 b t h d) : EReal)) * c8 : EReal) := by
  refine congrArg (fun z : EReal => z * c8) ((Ideal.multiReduction_add_single _ _ _ _ _ _).trans ?_)
  refine Finset.sum_congr (s₁ := (Finset.univ : Finset (Fin 64))) rfl fun (d : Fin 64) _ => ?_
  rw [lift_score b t h g d]
  exact congrArg₂ (fun x y : EReal => x * y) (queries q b t h g d) (group kk b t h g d)

theorem newScoreV_apply (b h : Fin 8) (g : Fin 4) :
    newScoreV q nk (ix3 b h g) = ((∑ d : Fin 64, (q (ix4 b h g d) * nk (ix3 b h d) : EReal)) * c8 : EReal) := by
  refine congrArg (fun z : EReal => z * c8) ((Ideal.multiReduction_add_single _ _ _ _ _ _).trans ?_)
  refine Finset.sum_congr (s₁ := (Finset.univ : Finset (Fin 64))) rfl fun (d : Fin 64) _ => ?_
  rw [lift_score1 b h g d]
  exact congrArg (fun y : EReal => (q (ix4 b h g d) * y : EReal)) (group1 nk b h g d)

theorem tokenAt (b h : Fin 8) (g : Fin 4) (t : Fin 32768) :
    (s (reduces_S8x32768x8x4_S8x8x4.lift (ix3 b h g) t) : EReal) = s (ix4 b t h g) := congrArg s (lift_token b t h g)

theorem tokenMax_le (b h : Fin 8) (g : Fin 4) (c : EReal) :
    (multiReduction .maximumf [1] S8x8x4 s 0xFF800000#32 reduces_S8x32768x8x4_S8x8x4 (.inl rfl) rfl (ix3 b h g) : EReal) ≤ c
      ↔ ∀ t : Fin 32768, (s (ix4 b t h g) : EReal) ≤ c :=
  (max_le_iff' s reduces_S8x32768x8x4_S8x8x4 (.inl rfl) rfl (ix3 b h g) c).trans
    (forall_congr' fun t : Fin 32768 => iff_of_eq (congrArg (fun z : EReal => z ≤ c) (tokenAt s b h g t)))

theorem sup_le_univ {n : ℕ} (f : Fin n → EReal) (c : EReal) : Finset.univ.sup f ≤ c ↔ ∀ t, f t ≤ c :=
  Finset.sup_le_iff.trans ⟨fun H t => H t (Finset.mem_univ t), fun H t _ => H t⟩

theorem tokenMax (b h : Fin 8) (g : Fin 4) :
    (multiReduction .maximumf [1] S8x8x4 s 0xFF800000#32 reduces_S8x32768x8x4_S8x8x4 (.inl rfl) rfl (ix3 b h g) : EReal)
      = Finset.univ.sup fun t : Fin 32768 => (s (ix4 b t h g) : EReal) :=
  eq_of_forall_ge_iff fun c => (tokenMax_le s b h g c).trans (sup_le_univ (fun t : Fin 32768 => (s (ix4 b t h g) : EReal)) c).symm

theorem topV_apply (b h : Fin 8) (g : Fin 4) :
    topV s n (ix3 b h g) = max (Finset.univ.sup fun t : Fin 32768 => (s (ix4 b t h g) : EReal)) (n (ix3 b h g) : EReal) :=
  (max_at _ _ _).trans (congrArg (fun z : EReal => max z (n (ix3 b h g) : EReal)) (tokenMax s b h g))

theorem weightV_apply (b : Fin 8) (t : Fin 32768) (h : Fin 8) (g : Fin 4) :
    weightV s m (ix4 b t h g) = Ideal.exp ((s (ix4 b t h g) : EReal) - (m (ix3 b h g) : EReal)) := by
  exact (exp_sub_at _ _ _).trans (congrArg (fun z : EReal => Ideal.exp ((s (ix4 b t h g) : EReal) - z)) (tops m b t h g))

theorem totalV_apply (b h : Fin 8) (g : Fin 4) :
    (totalV w p (ix3 b h g) : EReal) = ((∑ t : Fin 32768, (p (ix4 b t h g) : EReal)) + w (ix3 b h g) : EReal) := by
  refine (add_at _ _ _).trans (congrArg (fun z : EReal => (z + w (ix3 b h g) : EReal)) ?_)
  refine (Ideal.multiReduction_add_single _ _ _ _ _ _).trans ?_
  exact Finset.sum_congr (s₁ := (Finset.univ : Finset (Fin 32768))) rfl fun (t : Fin 32768) _ => congrArg p (lift_token b t h g)

theorem sumV_apply (b h : Fin 8) (g : Fin 4) (d : Fin 64) :
    (sumV vv nv w p (ix4 b h g d) : EReal)
      = ((∑ t : Fin 32768, (p (ix4 b t h g) * vv (ix4 b t h d) : EReal)) + w (ix3 b h g) * nv (ix3 b h d) : EReal) := by
  refine (add_at _ _ _).trans (congrArg₂ (fun x y : EReal => x + y) ((Ideal.multiReduction_add_single _ _ _ _ _ _).trans ?_)
    ((mul_at _ _ _).trans (congrArg₂ (fun x y : EReal => x * y) (weights1 w b h g d) (group1 nv b h g d))))
  refine Finset.sum_congr (s₁ := (Finset.univ : Finset (Fin 32768))) rfl fun (t : Fin 32768) _ => ?_
  rw [lift_value b t h g d]
  refine (mul_at _ _ _).trans ?_
  exact congrArg₂ (fun x y : EReal => x * y) (weights p b t h g d) (group vv b t h g d)

theorem meanV_apply (a : FVec Ideal S8x8x4x64 .f32) (b h : Fin 8) (g : Fin 4) (d : Fin 64) :
    meanV l a (ix4 b h g d) = Ideal.div (a (ix4 b h g d)) (l (ix3 b h g)) := by
  exact (div_at _ _ _).trans (congrArg (fun z : EReal => Ideal.div (a (ix4 b h g d)) z) (weights1 l b h g d))

end attend

/-- The result before its rows are laid out. -/
theorem pay14_eq (sv : FVec Ideal S8x8 .f32) (q : FVec Ideal S8x8x4x64 .f32) (kk vv : FVec Ideal S8x32768x8x64 .f32)
    (nk : FVec Ideal S8x8x64 .f32) (cv : IVec S8x8x64 8) :
    k0_pay14 (F := Ideal) sv q kk vv nk (k0_pay13 cv)
      = shapeCast S8x32x64 (meanV (totalV (exp (subf (newScoreV q nk) (topV (scoreV q kk) (newScoreV q nk))))
            (weightV (scoreV q kk) (topV (scoreV q kk) (newScoreV q nk))))
          (sumV vv (k0_pay12 sv cv) (exp (subf (newScoreV q nk) (topV (scoreV q kk) (newScoreV q nk))))
            (weightV (scoreV q kk) (topV (scoreV q kk) (newScoreV q nk))))) shapeCasts_S8x8x4x64_S8x32x64 := rfl

end Cert.Proof.RefTarget
-- ==== Proof.RefRun.lean ====
/-
  The reference's run: each result array, entry by entry, is the target's.
-/
module

public import proofs.«01_k».proof.Proof.RefTarget

@[expose] public section

set_option maxRecDepth 65536

noncomputable section

namespace Cert.Proof.RefTarget

open Cert.ReferenceIdeal Cert.ReferenceIdeal.Gen
open Idealize.ShloMosaic Idealize.ShloMosaic.TcCoe Idealize.SL.Sem
open Cert.Proof.Target
open Cert.Proof.Spec (num quantM quantS quantF)

/-! ### The body's results -/

/-- The arguments, by the body's blocks. -/
def argsOf (x0 : Vec Ideal S8x8x4x64 .bf16) (x1 x2 : Vec Ideal S8x8x64 .bf16) (x3 : Vec Ideal S8x32768x8x64 .i8) (x4 : Vec Ideal S8x32768x8 .f32)
    (x5 : Vec Ideal S8x32768x8x64 .i8) (x6 : Vec Ideal S8x32768x8 .f32) : Args where
  q b h g d := x0 (ix4 b h g d)
  k b h d := x1 (ix3 b h d)
  v b h d := x2 (ix3 b h d)
  kc b t h d := x3 (ix4 b t h d)
  ks b t h := x4 (ix3 b t h)
  vc b t h d := x5 (ix4 b t h d)
  vs b t h := x6 (ix3 b t h)

section body
variable (x0 : Vec Ideal S8x8x4x64 .bf16) (x1 x2 : Vec Ideal S8x8x64 .bf16) (x3 : Vec Ideal S8x32768x8x64 .i8) (x4 : Vec Ideal S8x32768x8 .f32)
  (x5 : Vec Ideal S8x32768x8x64 .i8) (x6 : Vec Ideal S8x32768x8 .f32)

theorem deq_apply (x : Vec Ideal S8x8x64 .bf16) (b h : Fin 8) (d : Fin 64) :
    (k0_pay12 (F := Ideal) (k0_pay2 x) (k0_pay3 x) (ix3 b h d) : EReal) = deq (fun b h d => x (ix3 b h d)) b h d := by
  rw [pay12_apply, pay3_apply, pay2_apply, Spec.num_code]
  rfl

theorem score_eq (b : Fin 8) (t : Fin 32768) (h : Fin 8) (g : Fin 4) :
    (scoreV (k0_pay9 x0) (k0_pay10 x3 x4) (ix4 b t h g) : EReal) = ((argsOf x0 x1 x2 x3 x4 x5 x6)).score b h g t := by
  refine (scoreV_apply _ _ b t h g).trans (congrArg (fun z : EReal => z * c8) ?_)
  exact Finset.sum_congr rfl fun d _ => congrArg₂ (fun x y : EReal => x * y) (pay9_eq x0 _) (pay10_apply x3 x4 b t h d)

theorem newScore_eq (b h : Fin 8) (g : Fin 4) :
    (newScoreV (k0_pay9 x0) (k0_pay12 (F := Ideal) (k0_pay2 x1) (k0_pay3 x1)) (ix3 b h g) : EReal) = ((argsOf x0 x1 x2 x3 x4 x5 x6)).newScore b h g := by
  refine (newScoreV_apply _ _ b h g).trans (congrArg (fun z : EReal => z * c8) ?_)
  exact Finset.sum_congr rfl fun d _ => congrArg₂ (fun x y : EReal => x * y) (pay9_eq x0 _) (deq_apply x1 b h d)

theorem top_eq (b h : Fin 8) (g : Fin 4) :
    (topV (scoreV (k0_pay9 x0) (k0_pay10 x3 x4)) (newScoreV (k0_pay9 x0) (k0_pay12 (F := Ideal) (k0_pay2 x1) (k0_pay3 x1))) (ix3 b h g) : EReal)
      = ((argsOf x0 x1 x2 x3 x4 x5 x6)).top b h g := by
  refine (topV_apply _ _ b h g).trans (congrArg₂ (fun x y : EReal => max x y) ?_ (newScore_eq x0 x1 x2 x3 x4 x5 x6 b h g))
  exact congrArg (fun f : Fin 32768 → EReal => Finset.univ.sup f) (funext fun t => score_eq x0 x1 x2 x3 x4 x5 x6 b t h g)

theorem y_eq (s : FVec Ideal S8x32768x8x4 .f32) (n m : FVec Ideal S8x8x4 .f32) (vv : FVec Ideal S8x32768x8x64 .f32) (nv : FVec Ideal S8x8x64 .f32)
    (A : Args) (b h : Fin 8) (g : Fin 4) (d : Fin 64) (hs : ∀ t : Fin 32768, (s (ix4 b t h g) : EReal) = A.score b h g t)
    (hn : (n (ix3 b h g) : EReal) = A.newScore b h g) (hm : (m (ix3 b h g) : EReal) = A.top b h g)
    (hv : ∀ t : Fin 32768, (vv (ix4 b t h d) : EReal) = A.val b t h d) (hnv : (nv (ix3 b h d) : EReal) = deq A.v b h d) :
    (meanV (totalV (exp (subf n m)) (weightV s m)) (sumV vv nv (exp (subf n m)) (weightV s m)) (ix4 b h g d) : EReal) = A.y b h g d := by
  have hw : ∀ t : Fin 32768, (weightV s m (ix4 b t h g) : EReal) = Ideal.exp (A.score b h g t - A.top b h g) := fun t => by
    rw [weightV_apply, hs t, hm]
  have he : (exp (subf n m) (ix3 b h g) : EReal) = Ideal.exp (A.newScore b h g - A.top b h g) := by
    rw [exp_sub_at, hn, hm]
  refine (meanV_apply _ _ b h g d).trans (congrArg₂ (fun x y : EReal => Ideal.div x y) ?_ ?_)
  · refine (sumV_apply _ _ _ _ b h g d).trans (congrArg₂ (fun x y : EReal => x + y) (Finset.sum_congr rfl fun t _ => ?_) ?_)
    · exact congrArg₂ (fun x y : EReal => x * y) (hw t) (hv t)
    · exact congrArg₂ (fun x y : EReal => x * y) he hnv
  · exact (totalV_apply _ _ b h g).trans (congrArg₂ (fun x y : EReal => x + y) (Finset.sum_congr rfl fun t _ => hw t) he)

theorem zero1 {n : ℕ} : ∀ a : Fin n, (fun _ => 0 : Fin n → ℕ) a = 0 := fun _ => rfl

theorem off2 : ∀ a : Fin 2, (![0, 0] : Fin 2 → ℕ) a = 0 := by decide
theorem off3 : ∀ a : Fin 3, (![0, 0, 0] : Fin 3 → ℕ) a = 0 := by decide
theorem off4 : ∀ a : Fin 4, (![0, 0, 0, 0] : Fin 4 → ℕ) a = 0 := by decide

theorem ld3 (X : Vec Ideal S8x8x64 .bf16) : View.ld X r0_0 = X := View.ld_unit_lit _ X off3
theorem ldq (X : Vec Ideal S8x8x4x64 .bf16) : View.ld X r0_3 = X := View.ld_unit_lit _ X off4
theorem ldc (X : Vec Ideal S8x32768x8x64 .i8) : View.ld X r0_4 = X := View.ld_unit_lit _ X off4
theorem lds (X : Vec Ideal S8x32768x8 .f32) : View.ld X r0_5 = X := View.ld_unit_lit _ X off3

theorem out8_apply (b : Fin 8) (l : Fin 512) : out0_8 (F := Ideal) x0 x1 x2 x3 x4 x5 x6 (ix2 b l)
    = code ((argsOf x0 x1 x2 x3 x4 x5 x6)).k b (⟨l.val / 64, by omega⟩ : Fin 8) (⟨l.val % 64, by omega⟩ : Fin 64) := by
  unfold out0_8
  rw [ld3, View.canon_cons_unit_lit _ _ _ off2, pay7_apply, pay3_apply]
  rfl

theorem out9_apply (b h : Fin 8) : (out0_9 (F := Ideal) x0 x1 x2 x3 x4 x5 x6 (ix2 b h) : EReal) = scale ((argsOf x0 x1 x2 x3 x4 x5 x6)).k b h := by
  unfold out0_9 k0_pay15
  rw [ld3, View.canon_cons_unit_lit _ _ _ off2, pay2_apply]
  rfl

theorem out10_apply (b : Fin 8) (l : Fin 512) : out0_10 (F := Ideal) x0 x1 x2 x3 x4 x5 x6 (ix2 b l)
    = code ((argsOf x0 x1 x2 x3 x4 x5 x6)).v b (⟨l.val / 64, by omega⟩ : Fin 8) (⟨l.val % 64, by omega⟩ : Fin 64) := by
  unfold_out out0_10
  rw [ld3, View.canon_cons_unit_lit _ _ _ off2]
  exact (pay7_apply x2 b l).trans (pay3_apply x2 b _ _)

theorem out11_apply (b h : Fin 8) : (out0_11 (F := Ideal) x0 x1 x2 x3 x4 x5 x6 (ix2 b h) : EReal) = scale ((argsOf x0 x1 x2 x3 x4 x5 x6)).v b h := by
  unfold_out out0_11
  rw [ld3, View.canon_cons_unit_lit _ _ _ off2]
  exact pay2_apply x2 b h

theorem out7_apply (b : Fin 8) (r : Fin 32) (d : Fin 64) : (out0_7 (F := Ideal) x0 x1 x2 x3 x4 x5 x6 (ix3 b r d) : EReal)
    = ((argsOf x0 x1 x2 x3 x4 x5 x6)).y b (⟨r.val / 4, by omega⟩ : Fin 8) (⟨r.val % 4, by omega⟩ : Fin 4) d := by
  unfold_out out0_7
  rw [View.canon_cons_unit_lit _ _ _ off3, ldq, ldc, ldc, lds, lds, ld3, ld3, pay14_eq,
    shapeCast_apply _ shapeCasts_S8x8x4x64_S8x32x64 (ix3 b r d) (ix4 b (⟨r.val / 4, by omega⟩ : Fin 8) (⟨r.val % 4, by omega⟩ : Fin 4) d)
      (by rw [Shape.rowMajor_val_three, Shape.rowMajor_val_four]
          show ((b.val * 8 + r.val / 4) * 4 + r.val % 4) * 64 + d.val = (b.val * 32 + r.val) * 64 + d.val; omega)]
  exact y_eq _ _ _ _ _ ((argsOf x0 x1 x2 x3 x4 x5 x6)) b _ _ d (fun t => score_eq x0 x1 x2 x3 x4 x5 x6 b t _ _) (newScore_eq x0 x1 x2 x3 x4 x5 x6 b _ _)
    (top_eq x0 x1 x2 x3 x4 x5 x6 b _ _) (fun t => pay10_apply x5 x6 b t _ d) (deq_apply x2 b _ d)

end body

/-! ### The blocks are the arguments -/

variable (m : (ℓ : Loc nD τ sig) → Buf (Elt Ideal) ℓ) (ρ : Dev nD → PrngReg) (c : Dev nD)

/-- The arguments on a device. -/
def args : Args where
  q b h g d := (m ((c : Thread nD τ).loc main_arg0) : FVec Ideal S8x1x2048 .bf16) (ix3 b (0 : Fin 1) (⟨(h.val * 4 + g.val) * 64 + d.val, by omega⟩ : Fin 2048))
  k b h d := (m ((c : Thread nD τ).loc main_arg1) : FVec Ideal S8x1x8x64 .bf16) (ix4 b (0 : Fin 1) h d)
  v b h d := (m ((c : Thread nD τ).loc main_arg2) : FVec Ideal S8x1x8x64 .bf16) (ix4 b (0 : Fin 1) h d)
  kc b t h d := (m ((c : Thread nD τ).loc main_arg3) : IVec S8x32768x8x64 8) (ix4 b t h d)
  ks b t h := (m ((c : Thread nD τ).loc main_arg4) : FVec Ideal S8x32768x8 .f32) (ix3 b t h)
  vc b t h d := (m ((c : Thread nD τ).loc main_arg5) : IVec S8x32768x8x64 8) (ix4 b t h d)
  vs b t h := (m ((c : Thread nD τ).loc main_arg6) : FVec Ideal S8x32768x8 .f32) (ix3 b t h)

theorem V_v0 : V m c main_v0 = (shapeCast S8x8x4x64 (m ((c : Thread nD τ).loc main_arg0) : FVec Ideal S8x1x2048 .bf16) shapeCasts_S8x1x2048_S8x8x4x64 : FVec Ideal S8x8x4x64 .bf16) := by
  entry_read
  first | done | rfl
theorem V_v1 : V m c main_v1 = (shapeCast S8x8x64 (m ((c : Thread nD τ).loc main_arg1) : FVec Ideal S8x1x8x64 .bf16) shapeCasts_S8x1x8x64_S8x8x64 : FVec Ideal S8x8x64 .bf16) := by
  entry_read
  first | done | rfl
theorem V_v2 : V m c main_v2 = (shapeCast S8x8x64 (m ((c : Thread nD τ).loc main_arg2) : FVec Ideal S8x1x8x64 .bf16) shapeCasts_S8x1x8x64_S8x8x64 : FVec Ideal S8x8x64 .bf16) := by
  entry_read
  first | done | rfl

theorem idx0 : ∀ t : Fin cfg0.N, win0_0.index t = ![0, 0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)

theorem blk0 (t : Fin cfg0.N) (b h : Fin 8) (g : Fin 4) (d : Fin 64) :
    (iblk m c 0 t : Vec Ideal S8x8x4x64 .bf16) (ix4 b h g d) = V m c main_v0 (ix4 b h g d) := by
  blk_simp [iblk]
  refine congrArg (V m c main_v0) ?_
  blk_ext [idx0 t]
theorem blk1 (t : Fin cfg0.N) (b h : Fin 8) (d : Fin 64) :
    (iblk m c 1 t : Vec Ideal S8x8x64 .bf16) (ix3 b h d) = V m c main_v1 (ix3 b h d) := by
  blk_simp [iblk]
  refine congrArg (V m c main_v1) ?_
  blk_ext [idx1 t]
theorem blk2 (t : Fin cfg0.N) (b h : Fin 8) (d : Fin 64) :
    (iblk m c 2 t : Vec Ideal S8x8x64 .bf16) (ix3 b h d) = V m c main_v2 (ix3 b h d) := by
  blk_simp [iblk]
  refine congrArg (V m c main_v2) ?_
  blk_ext [idx2 t]
theorem blk3 (t : Fin cfg0.N) (b : Fin 8) (k : Fin 32768) (h : Fin 8) (d : Fin 64) :
    (iblk m c 3 t : Vec Ideal S8x32768x8x64 .i8) (ix4 b k h d) = V m c main_arg3 (ix4 b k h d) := by
  blk_simp [iblk]
  refine congrArg (V m c main_arg3) ?_
  blk_ext [idx3 t]
theorem blk4 (t : Fin cfg0.N) (b : Fin 8) (k : Fin 32768) (h : Fin 8) :
    (iblk m c 4 t : Vec Ideal S8x32768x8 .f32) (ix3 b k h) = V m c main_arg4 (ix3 b k h) := by
  blk_simp [iblk]
  refine congrArg (V m c main_arg4) ?_
  blk_ext [idx4 t]
theorem blk5 (t : Fin cfg0.N) (b : Fin 8) (k : Fin 32768) (h : Fin 8) (d : Fin 64) :
    (iblk m c 5 t : Vec Ideal S8x32768x8x64 .i8) (ix4 b k h d) = V m c main_arg5 (ix4 b k h d) := by
  blk_simp [iblk]
  refine congrArg (V m c main_arg5) ?_
  blk_ext [idx5 t]
theorem blk6 (t : Fin cfg0.N) (b : Fin 8) (k : Fin 32768) (h : Fin 8) :
    (iblk m c 6 t : Vec Ideal S8x32768x8 .f32) (ix3 b k h) = V m c main_arg6 (ix3 b k h) := by
  blk_simp [iblk]
  refine congrArg (V m c main_arg6) ?_
  blk_ext [idx6 t]

theorem argsOf_blocks (t : Fin cfg0.N) :
    argsOf (iblk m c 0 t) (iblk m c 1 t) (iblk m c 2 t) (iblk m c 3 t) (iblk m c 4 t) (iblk m c 5 t) (iblk m c 6 t) = args m c := by
  unfold argsOf args
  congr 1
  · funext b h g d
    refine (blk0 m c t b h g d).trans ?_
    rw [V_v0]
    exact shapeCast_apply _ shapeCasts_S8x1x2048_S8x8x4x64 _ _ (by
      rw [Shape.rowMajor_val_three, Shape.rowMajor_val_four]
      show (b.val * 1 + 0) * 2048 + ((h.val * 4 + g.val) * 64 + d.val) = ((b.val * 8 + h.val) * 4 + g.val) * 64 + d.val; omega)
  · funext b h d
    refine (blk1 m c t b h d).trans ?_
    rw [V_v1]
    exact shapeCast_apply _ shapeCasts_S8x1x8x64_S8x8x64 _ _ (by
      rw [Shape.rowMajor_val_three, Shape.rowMajor_val_four]
      show ((b.val * 1 + 0) * 8 + h.val) * 64 + d.val = (b.val * 8 + h.val) * 64 + d.val; omega)
  · funext b h d
    refine (blk2 m c t b h d).trans ?_
    rw [V_v2]
    exact shapeCast_apply _ shapeCasts_S8x1x8x64_S8x8x64 _ _ (by
      rw [Shape.rowMajor_val_three, Shape.rowMajor_val_four]
      show ((b.val * 1 + 0) * 8 + h.val) * 64 + d.val = (b.val * 8 + h.val) * 64 + d.val; omega)
  · funext b k h d
    refine (blk3 m c t b k h d).trans ?_
    rw [V_main_arg3]
  · funext b k h
    refine (blk4 m c t b k h).trans ?_
    rw [V_main_arg4]
  · funext b k h d
    refine (blk5 m c t b k h d).trans ?_
    rw [V_main_arg5]
  · funext b k h
    refine (blk6 m c t b k h).trans ?_
    rw [V_main_arg6]

/-! ### The result arrays -/

/-- The one point. -/
def t0 : Fin cfg0.N := ⟨0, by decide⟩

theorem arr7 (b : Fin 8) (r : Fin 32) (d : Fin 64) : ((dats m 0 c).arrAt 7 cfg0.N : Vec Ideal S8x32x64 .bf16) (ix3 b r d) = (args m c).y b (⟨r.val / 4, by omega⟩ : Fin 8) (⟨r.val % 4, by omega⟩ : Fin 4) d := by
  have hb := congrFun ((Value.blocks7 m c t0 (by decide)).trans (Value.flushed7 m c t0)) (ix3 b r d)
  have e : ((cfg0.win 7).blk t0).view.emb (ix3 b r d) = ((ix3 b r d) : S8x32x64.Idx) := by
    blk_simp []
    blk_ext [idx7 t0]
  refine (congrArg ((dats m 0 c).arrAt 7 cfg0.N : Vec Ideal S8x32x64 .bf16) e.symm).trans (hb.trans ?_)
  refine (out7_apply (iblk m c 0 t0) (iblk m c 1 t0) (iblk m c 2 t0) (iblk m c 3 t0) (iblk m c 4 t0) (iblk m c 5 t0) (iblk m c 6 t0) b r d).trans ?_
  rw [argsOf_blocks]

theorem arr8 (b : Fin 8) (l : Fin 512) : ((dats m 0 c).arrAt 8 cfg0.N : Vec Ideal S8x512 .i8) (ix2 b l) = code (args m c).k b (⟨l.val / 64, by omega⟩ : Fin 8) (⟨l.val % 64, by omega⟩ : Fin 64) := by
  have hb := congrFun ((Value.blocks8 m c t0 (by decide)).trans (Value.flushed8 m c t0)) (ix2 b l)
  have e : ((cfg0.win 8).blk t0).view.emb (ix2 b l) = ((ix2 b l) : S8x512.Idx) := by
    blk_simp []
    blk_ext [idx8 t0]
  refine (congrArg ((dats m 0 c).arrAt 8 cfg0.N : Vec Ideal S8x512 .i8) e.symm).trans (hb.trans ?_)
  refine (out8_apply (iblk m c 0 t0) (iblk m c 1 t0) (iblk m c 2 t0) (iblk m c 3 t0) (iblk m c 4 t0) (iblk m c 5 t0) (iblk m c 6 t0) b l).trans ?_
  rw [argsOf_blocks]

theorem arr9 (b h : Fin 8) : ((dats m 0 c).arrAt 9 cfg0.N : Vec Ideal S8x8 .f32) (ix2 b h) = scale (args m c).k b h := by
  have hb := congrFun ((Value.blocks9 m c t0 (by decide)).trans (Value.flushed9 m c t0)) (ix2 b h)
  have e : ((cfg0.win 9).blk t0).view.emb (ix2 b h) = ((ix2 b h) : S8x8.Idx) := by
    blk_simp []
    blk_ext [idx9 t0]
  refine (congrArg ((dats m 0 c).arrAt 9 cfg0.N : Vec Ideal S8x8 .f32) e.symm).trans (hb.trans ?_)
  refine (out9_apply (iblk m c 0 t0) (iblk m c 1 t0) (iblk m c 2 t0) (iblk m c 3 t0) (iblk m c 4 t0) (iblk m c 5 t0) (iblk m c 6 t0) b h).trans ?_
  rw [argsOf_blocks]

theorem arr10 (b : Fin 8) (l : Fin 512) : ((dats m 0 c).arrAt 10 cfg0.N : Vec Ideal S8x512 .i8) (ix2 b l) = code (args m c).v b (⟨l.val / 64, by omega⟩ : Fin 8) (⟨l.val % 64, by omega⟩ : Fin 64) := by
  have hb := congrFun ((Value.blocks10 m c t0 (by decide)).trans (Value.flushed10 m c t0)) (ix2 b l)
  have e : ((cfg0.win 10).blk t0).view.emb (ix2 b l) = ((ix2 b l) : S8x512.Idx) := by
    blk_simp []
    blk_ext [idx10 t0]
  refine (congrArg ((dats m 0 c).arrAt 10 cfg0.N : Vec Ideal S8x512 .i8) e.symm).trans (hb.trans ?_)
  refine (out10_apply (iblk m c 0 t0) (iblk m c 1 t0) (iblk m c 2 t0) (iblk m c 3 t0) (iblk m c 4 t0) (iblk m c 5 t0) (iblk m c 6 t0) b l).trans ?_
  rw [argsOf_blocks]

theorem arr11 (b h : Fin 8) : ((dats m 0 c).arrAt 11 cfg0.N : Vec Ideal S8x8 .f32) (ix2 b h) = scale (args m c).v b h := by
  have hb := congrFun ((Value.blocks11 m c t0 (by decide)).trans (Value.flushed11 m c t0)) (ix2 b h)
  have e : ((cfg0.win 11).blk t0).view.emb (ix2 b h) = ((ix2 b h) : S8x8.Idx) := by
    blk_simp []
    blk_ext [idx11 t0]
  refine (congrArg ((dats m 0 c).arrAt 11 cfg0.N : Vec Ideal S8x8 .f32) e.symm).trans (hb.trans ?_)
  refine (out11_apply (iblk m c 0 t0) (iblk m c 1 t0) (iblk m c 2 t0) (iblk m c 3 t0) (iblk m c 4 t0) (iblk m c 5 t0) (iblk m c 6 t0) b h).trans ?_
  rw [argsOf_blocks]

end Cert.Proof.RefTarget
-- ==== Proof.Agree.lean ====
/-
  The idealized kernel and the reference leave the same results.
-/
module

public import proofs.«01_k».proof.Proof.KernelResults
public import proofs.«01_k».proof.Proof.KernelIdealFrame
public import proofs.«01_k».proof.Proof.RefRun
public import proofs.«01_k».proof.Defs

@[expose] public section

set_option maxRecDepth 65536

noncomputable section

namespace Cert.Proof.Agree

open Idealize.ShloMosaic Idealize.ShloMosaic.TcCoe Idealize.SL.Sem
open Idealize.ShloMosaic.Pipeline (RDat)

theorem eq_ix3 {n₀ n₁ n₂ : ℕ} (i : (⟨3, ![n₀, n₁, n₂]⟩ : Shape).Idx) : i = ValueIdx.ix3 (i 0) (i 1) (i 2) :=
  funext fun a => by match a with | ⟨0, _⟩ => rfl | ⟨1, _⟩ => rfl | ⟨2, _⟩ => rfl

theorem eq_ix2 {n₀ n₁ : ℕ} (i : (⟨2, ![n₀, n₁]⟩ : Shape).Idx) : i = ValueIdx.ix2 (i 0) (i 1) :=
  funext fun a => by match a with | ⟨0, _⟩ => rfl | ⟨1, _⟩ => rfl

theorem ext3 {n₀ n₁ n₂ : ℕ} {α : Type} (x y : (⟨3, ![n₀, n₁, n₂]⟩ : Shape).Idx → α)
    (h : ∀ (i : Fin n₀) (j : Fin n₁) (k : Fin n₂), x (ValueIdx.ix3 i j k) = y (ValueIdx.ix3 i j k)) : x = y :=
  funext fun i => by rw [eq_ix3 i]; exact h _ _ _

theorem ext2 {n₀ n₁ : ℕ} {α : Type} (x y : (⟨2, ![n₀, n₁]⟩ : Shape).Idx → α)
    (h : ∀ (i : Fin n₀) (j : Fin n₁), x (ValueIdx.ix2 i j) = y (ValueIdx.ix2 i j)) : x = y :=
  funext fun i => by rw [eq_ix2 i]; exact h _ _

/-- The two packages spell an index alike. -/
theorem ix2_eq {n₀ n₁ : ℕ} (i : Fin n₀) (j : Fin n₁) : (ValueIdx.ix2 i j) = Idealize.ShloMosaic.ix2 i j := by
  funext a; match a with | ⟨0, _⟩ => rfl | ⟨1, _⟩ => rfl
theorem ix3_eq {n₀ n₁ n₂ : ℕ} (i : Fin n₀) (j : Fin n₁) (k : Fin n₂) : (ValueIdx.ix3 i j k) = Idealize.ShloMosaic.ix3 i j k := by
  funext a; match a with | ⟨0, _⟩ => rfl | ⟨1, _⟩ => rfl | ⟨2, _⟩ => rfl
theorem ix4_eq {n₀ n₁ n₂ n₃ : ℕ} (i : Fin n₀) (j : Fin n₁) (k : Fin n₂) (l : Fin n₃) : (ValueIdx.ix4 i j k l) = Idealize.ShloMosaic.ix4 i j k l := by
  funext a; match a with | ⟨0, _⟩ => rfl | ⟨1, _⟩ => rfl | ⟨2, _⟩ => rfl | ⟨3, _⟩ => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The launches agree on the arguments. -/
def Same : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

theorem args_eq (h : Same m m') (c : Dev Cert.KernelIdeal.nD) : Step.args m c = RefTarget.args m' c := by
  obtain ⟨h0, h1, h2, h3, h4, h5, h6⟩ := h c
  unfold Step.args RefTarget.args
  congr 1
  · funext b h g d; rw [ix3_eq]; exact congrFun h0.symm _
  · funext b h d; rw [ix4_eq]; exact congrFun h1.symm _
  · funext b h d; rw [ix4_eq]; exact congrFun h2.symm _
  · funext b t h d; rw [ix4_eq]; exact congrFun h3.symm _
  · funext b t h; rw [ix3_eq]; exact congrFun h4.symm _
  · funext b t h d; rw [ix4_eq]; exact congrFun h5.symm _
  · funext b t h; rw [ix3_eq]; exact congrFun h6.symm _

theorem arr7 (h : Same m m') (c : Dev Cert.KernelIdeal.nD) (after)
    (hL : ∀ (w : Fin Cert.KernelIdeal.cfg0.W) (u : Fin Cert.KernelIdeal.cfg0.N), (Cert.KernelIdeal.cfg0.win w).flush u = true →
      (Step.rdats m c).Leaves w u (after w u)) :
    (((Step.rdats m c).withAfter after).arrAt 7 Cert.KernelIdeal.cfg0.N : Vec Ideal Cert.KernelIdeal.S8x32x64 .bf16)
      = ((Cert.ReferenceIdeal.Gen.dats m' 0 c).arrAt 7 Cert.ReferenceIdeal.cfg0.N : Vec Ideal Cert.ReferenceIdeal.S8x32x64 .bf16) := by
  refine ext3 _ _ fun b r d => (Step.arr7 m c after hL b r d).trans ?_
  rw [args_eq m m' h c]
  refine (RefTarget.arr7 m' c b r d).symm.trans ?_
  rw [ix3_eq]

theorem arr8 (h : Same m m') (c : Dev Cert.KernelIdeal.nD) (after)
    (hL : ∀ (w : Fin Cert.KernelIdeal.cfg0.W) (u : Fin Cert.KernelIdeal.cfg0.N), (Cert.KernelIdeal.cfg0.win w).flush u = true →
      (Step.rdats m c).Leaves w u (after w u)) :
    (((Step.rdats m c).withAfter after).arrAt 8 Cert.KernelIdeal.cfg0.N : Vec Ideal Cert.KernelIdeal.S8x512 .i8)
      = ((Cert.ReferenceIdeal.Gen.dats m' 0 c).arrAt 8 Cert.ReferenceIdeal.cfg0.N : Vec Ideal Cert.ReferenceIdeal.S8x512 .i8) := by
  refine ext2 _ _ fun b l => (Step.arr8 m c after hL b l).trans ?_
  rw [args_eq m m' h c]
  refine (RefTarget.arr8 m' c b l).symm.trans ?_
  rw [ix2_eq]

theorem arr9 (h : Same m m') (c : Dev Cert.KernelIdeal.nD) (after)
    (hL : ∀ (w : Fin Cert.KernelIdeal.cfg0.W) (u : Fin Cert.KernelIdeal.cfg0.N), (Cert.KernelIdeal.cfg0.win w).flush u = true →
      (Step.rdats m c).Leaves w u (after w u)) :
    (((Step.rdats m c).withAfter after).arrAt 9 Cert.KernelIdeal.cfg0.N : Vec Ideal Cert.KernelIdeal.S8x8 .f32)
      = ((Cert.ReferenceIdeal.Gen.dats m' 0 c).arrAt 9 Cert.ReferenceIdeal.cfg0.N : Vec Ideal Cert.ReferenceIdeal.S8x8 .f32) := by
  refine ext2 _ _ fun b l => (Step.arr9 m c after hL b l).trans ?_
  rw [args_eq m m' h c]
  refine (RefTarget.arr9 m' c b l).symm.trans ?_
  rw [ix2_eq]

theorem arr10 (h : Same m m') (c : Dev Cert.KernelIdeal.nD) (after)
    (hL : ∀ (w : Fin Cert.KernelIdeal.cfg0.W) (u : Fin Cert.KernelIdeal.cfg0.N), (Cert.KernelIdeal.cfg0.win w).flush u = true →
      (Step.rdats m c).Leaves w u (after w u)) :
    (((Step.rdats m c).withAfter after).arrAt 10 Cert.KernelIdeal.cfg0.N : Vec Ideal Cert.KernelIdeal.S8x512 .i8)
      = ((Cert.ReferenceIdeal.Gen.dats m' 0 c).arrAt 10 Cert.ReferenceIdeal.cfg0.N : Vec Ideal Cert.ReferenceIdeal.S8x512 .i8) := by
  refine ext2 _ _ fun b l => (Step.arr10 m c after hL b l).trans ?_
  rw [args_eq m m' h c]
  refine (RefTarget.arr10 m' c b l).symm.trans ?_
  rw [ix2_eq]

theorem arr11 (h : Same m m') (c : Dev Cert.KernelIdeal.nD) (after)
    (hL : ∀ (w : Fin Cert.KernelIdeal.cfg0.W) (u : Fin Cert.KernelIdeal.cfg0.N), (Cert.KernelIdeal.cfg0.win w).flush u = true →
      (Step.rdats m c).Leaves w u (after w u)) :
    (((Step.rdats m c).withAfter after).arrAt 11 Cert.KernelIdeal.cfg0.N : Vec Ideal Cert.KernelIdeal.S8x8 .f32)
      = ((Cert.ReferenceIdeal.Gen.dats m' 0 c).arrAt 11 Cert.ReferenceIdeal.cfg0.N : Vec Ideal Cert.ReferenceIdeal.S8x8 .f32) := by
  refine ext2 _ _ fun b l => (Step.arr11 m c after hL b l).trans ?_
  rw [args_eq m m' h c]
  refine (RefTarget.arr11 m' c b l).symm.trans ?_
  rw [ix2_eq]

/-- The two runs leave the same results. -/
theorem agree : Cert.algebraic_KernelIdeal_ReferenceIdeal (hKernelIdeal := Cert.KernelIdeal.Gen.facts) (hReferenceIdeal := Cert.ReferenceIdeal.Gen.facts) := by
  intro m g m' g' _ hs
  refine ⟨fun c => (Cert.ReferenceIdeal.Gen.dats m' 0 c).arrAt 7 Cert.ReferenceIdeal.cfg0.N,
    fun c => (Cert.ReferenceIdeal.Gen.dats m' 0 c).arrAt 8 Cert.ReferenceIdeal.cfg0.N,
    fun c => (Cert.ReferenceIdeal.Gen.dats m' 0 c).arrAt 9 Cert.ReferenceIdeal.cfg0.N,
    fun c => (Cert.ReferenceIdeal.Gen.dats m' 0 c).arrAt 10 Cert.ReferenceIdeal.cfg0.N,
    fun c => (Cert.ReferenceIdeal.Gen.dats m' 0 c).arrAt 11 Cert.ReferenceIdeal.cfg0.N, ?_, Cert.ReferenceIdeal.Value.run_blocks m' g'⟩
  refine (θ_run Cert.KernelIdeal.defs _ _).mono (fun r h c => ?_) (Step.run_main_quiescent m g)
  obtain ⟨after, hL, hmem⟩ := RDat.FramePost.exists_exact h.1 c
  exact ⟨(hmem 7).trans (arr7 m m' hs c after hL),
      (hmem 8).trans (arr8 m m' hs c after hL),
      (hmem 9).trans (arr9 m m' hs c after hL),
      (hmem 10).trans (arr10 m m' hs c after hL),
      (hmem 11).trans (arr11 m m' hs c after hL),
      KernelIdealFrame.kept m r h c⟩

end Cert.Proof.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.Agree
public import Idealize.ShloMosaic.Lib.Bf16PairInverse
public import Idealize.ShloMosaic.Adequacy
public import Idealize.ShloMosaic.Init

@[expose] public section

noncomputable section

namespace Cert.Proof

open Idealize.ShloMosaic Idealize.SL.Sem

/-- The rewrites of the idealized kernel, each by its rule: the two buffers of packed scale words, the packs that fill
    them, the three reads of a word as two rows, and the named lower bound of the running maximum. -/
theorem preserves : Cert.preserves_Kernel_KernelIdeal :=
  open Cert.KernelIdeal IdealRules.bf16_pair in
  ⟨bufferStatement S8x2x4096 S8x1x4096, packStatement S8x4096, statement S8x2x4096 S8x1x4096,
    IdealRules.named_const.statement κ _ _ _ _ rfl, statement S1x2x256 S1x1x256, statement S2x256 S1x256⟩

/-- The programs run from every initial memory and leave their arguments alone, the idealized kernel is the kernel's
    sanctioned idealization, and it leaves the results the reference leaves. -/
theorem claim : Cert.Claim :=
  ⟨Cert.Kernel.Gen.facts, Cert.KernelIdeal.Gen.facts, Cert.ReferenceIdeal.Gen.facts,
    fun m ρ _ => KernelFrame.frame m ρ,
    fun m ρ _ => KernelIdealFrame.frame m ρ,
    fun m ρ _ => Cert.ReferenceIdeal.Gen.frame m ρ,
    preserves, Agree.agree⟩

end Cert.Proof

end
